-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v112)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v112) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v77_0)) (v1 : (c : Dev Cert.Kernel2Ideal.nD) → Buf (Elt Ideal) ((c.tc : Thread Cert.Kernel2Ideal.nD Cert.Kernel2Ideal.τ).loc Cert.Kernel2Ideal.main_v77_1)) (v2 : (c : Dev Cert.Kernel2Ideal.nD) → Buf (Elt Ideal) ((c.tc : Thread Cert.Kernel2Ideal.nD Cert.Kernel2Ideal.τ).loc Cert.Kernel2Ideal.main_v77_2)) (v3 : (c : Dev Cert.Kernel2Ideal.nD) → Buf (Elt Ideal) ((c.tc : Thread Cert.Kernel2Ideal.nD Cert.Kernel2Ideal.τ).loc Cert.Kernel2Ideal.main_v77_3)) (v4 : (c : Dev Cert.Kernel2Ideal.nD) → Buf (Elt Ideal) ((c.tc : Thread Cert.Kernel2Ideal.nD Cert.Kernel2Ideal.τ).loc Cert.Kernel2Ideal.main_v77_4)) (v5 : (c : Dev Cert.Kernel2Ideal.nD) → Buf (Elt Ideal) ((c.tc : Thread Cert.Kernel2Ideal.nD Cert.Kernel2Ideal.τ).loc Cert.Kernel2Ideal.main_v77_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v77_0) = v0 c
          ∧ r.2.mem ((c.tc : Thread Cert.Kernel2Ideal.nD Cert.Kernel2Ideal.τ).loc Cert.Kernel2Ideal.main_v77_1) = v1 c
          ∧ r.2.mem ((c.tc : Thread Cert.Kernel2Ideal.nD Cert.Kernel2Ideal.τ).loc Cert.Kernel2Ideal.main_v77_2) = v2 c
          ∧ r.2.mem ((c.tc : Thread Cert.Kernel2Ideal.nD Cert.Kernel2Ideal.τ).loc Cert.Kernel2Ideal.main_v77_3) = v3 c
          ∧ r.2.mem ((c.tc : Thread Cert.Kernel2Ideal.nD Cert.Kernel2Ideal.τ).loc Cert.Kernel2Ideal.main_v77_4) = v4 c
          ∧ r.2.mem ((c.tc : Thread Cert.Kernel2Ideal.nD Cert.Kernel2Ideal.τ).loc Cert.Kernel2Ideal.main_v77_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v124) = v0 c
          ∧ r.2.mem ((c.tc : Thread Cert.Reference2Ideal.nD Cert.Reference2Ideal.τ).loc Cert.Reference2Ideal.main_v132) = v1 c
          ∧ r.2.mem ((c.tc : Thread Cert.Reference2Ideal.nD Cert.Reference2Ideal.τ).loc Cert.Reference2Ideal.main_v133) = v2 c
          ∧ r.2.mem ((c.tc : Thread Cert.Reference2Ideal.nD Cert.Reference2Ideal.τ).loc Cert.Reference2Ideal.main_v141) = v3 c
          ∧ r.2.mem ((c.tc : Thread Cert.Reference2Ideal.nD Cert.Reference2Ideal.τ).loc Cert.Reference2Ideal.main_v148) = v4 c
          ∧ r.2.mem ((c.tc : Thread Cert.Reference2Ideal.nD Cert.Reference2Ideal.τ).loc Cert.Reference2Ideal.main_v155) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)) →
    ∃ (v0 : (c : Dev Cert.Kernel3Ideal.nD) → Buf (Elt Ideal) ((c.tc : Thread Cert.Kernel3Ideal.nD Cert.Kernel3Ideal.τ).loc Cert.Kernel3Ideal.main_v33)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v33) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v95) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S8x4096x512 : Shape := ⟨3, ![8, 4096, 512]⟩
abbrev S_ : Shape := ⟨0, ![]⟩

class Facts : Prop where
  bitsLt_bf16_f32 : FTy.bits .bf16 < FTy.bits .f32
  bcast_S_S8x4096x512 : S_.BroadcastsInDim S8x4096x512 (![] : Fin 0 → Fin S8x4096x512.rank)

variable [Facts]

def fn {F : FTy → Type} [FloatOps F] (main_arg0 : FVec F S8x4096x512 .bf16) : IVec S8x4096x512 1 :=
  let main_v0 : FVec F S8x4096x512 .f32 := (extf .f32 · bitsLt_bf16_f32) main_arg0
  let main_v1 : FVec F S8x4096x512 .f32 := Host.absf main_v0
  let main_cst : FVec F S_ .f32 := constant S_ .f32 0x7F800000#32
  let main_v2 : FVec F S8x4096x512 .f32 := broadcastInDim S8x4096x512 ![] bcast_S_S8x4096x512 main_cst
  let main_v3 : IVec S8x4096x512 1 := cmpf .olt main_v1 main_v2
  main_v3
-- ==== Kernel.lean ====
abbrev S8x4096x512 : Shape := ⟨3, ![8, 4096, 512]⟩
abbrev S1024 : Shape := ⟨1, ![1024]⟩
abbrev S32 : Shape := ⟨1, ![32]⟩
abbrev S32x1 : Shape := ⟨2, ![32, 1]⟩
abbrev S1x1024 : Shape := ⟨2, ![1, 1024]⟩
abbrev S32x1024 : Shape := ⟨2, ![32, 1024]⟩
abbrev S_ : Shape := ⟨0, ![]⟩
abbrev S4 : Shape := ⟨1, ![4]⟩
abbrev S4x1 : Shape := ⟨2, ![4, 1]⟩
abbrev S4x1024 : Shape := ⟨2, ![4, 1024]⟩
abbrev S32x1x1024 : Shape := ⟨3, ![32, 1, 1024]⟩
abbrev S1x32x1024 : Shape := ⟨3, ![1, 32, 1024]⟩
abbrev S32x32x1024 : Shape := ⟨3, ![32, 32, 1024]⟩
abbrev S4x1x1024 : Shape := ⟨3, ![4, 1, 1024]⟩
abbrev S1x1024x1024 : Shape := ⟨3, ![1, 1024, 1024]⟩
abbrev S4x1024x1024 : Shape := ⟨3, ![4, 1024, 1024]⟩
abbrev S4x1024x2048 : Shape := ⟨3, ![4, 1024, 2048]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S128x256 : Shape := ⟨2, ![128, 256]⟩
abbrev S256x256 : Shape := ⟨2, ![256, 256]⟩
abbrev S8x4x4096x128 : Shape := ⟨4, ![8, 4, 4096, 128]⟩
abbrev S1x4096x512 : Shape := ⟨3, ![1, 4096, 512]⟩
abbrev S1x1024x2048 : Shape := ⟨3, ![1, 1024, 2048]⟩
abbrev S1x4x4096x128 : Shape := ⟨4, ![1, 4, 4096, 128]⟩
abbrev S2048x512 : Shape := ⟨2, ![2048, 512]⟩
abbrev S1x1024x128 : Shape := ⟨3, ![1, 1024, 128]⟩
abbrev S1024x128 : Shape := ⟨2, ![1024, 128]⟩
abbrev S1024x256 : Shape := ⟨2, ![1024, 256]⟩
abbrev S1024x2048 : Shape := ⟨2, ![1024, 2048]⟩
abbrev S2048x256 : Shape := ⟨2, ![2048, 256]⟩
abbrev S1x1x1024x128 : Shape := ⟨4, ![1, 1, 1024, 128]⟩

abbrev nBuf : Space → Nat
  | .hbm => 214
  | .vmem => 8
  | .smem => 0
  | _ => 0

abbrev hbmTy0_0 (i : Nat) : BufTy := match i % 128 with
  | 0 => ⟨S8x4096x512, .bf16⟩
  | 1 => ⟨S1024, .i32⟩
  | 2 => ⟨S32, .i32⟩
  | 3 => ⟨S32x1, .i32⟩
  | 4 => ⟨S1x1024, .i32⟩
  | 5 => ⟨S32x1024, .i32⟩
  | 6 => ⟨S32x1024, .i32⟩
  | 7 => ⟨S32x1024, .i32⟩
  | 8 => ⟨S_, .i32⟩
  | 9 => ⟨S_, .i32⟩
  | 10 => ⟨S_, .i32⟩
  | 11 => ⟨S_, .i1⟩
  | 12 => ⟨S_, .i32⟩
  | 13 => ⟨S_, .i32⟩
  | 14 => ⟨S32x1024, .i32⟩
  | 15 => ⟨S32x1024, .i32⟩
  | 16 => ⟨S_, .i32⟩
  | 17 => ⟨S32x1024, .i32⟩
  | 18 => ⟨S32x1024, .i1⟩
  | 19 => ⟨S_, .i32⟩
  | 20 => ⟨S32x1024, .i32⟩
  | 21 => ⟨S32x1024, .i1⟩
  | 22 => ⟨S_, .i32⟩
  | 23 => ⟨S_, .i1⟩
  | 24 => ⟨S32x1024, .i1⟩
  | 25 => ⟨S32x1024, .i1⟩
  | 26 => ⟨S32x1024, .i1⟩
  | 27 => ⟨S32x1024, .i32⟩
  | 28 => ⟨S32x1024, .i32⟩
  | 29 => ⟨S32x1024, .i32⟩
  | 30 => ⟨S32x1024, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S32x1024, .f32⟩
  | 38 => ⟨S32x1024, .f32⟩
  | 39 => ⟨S32, .i32⟩
  | 40 => ⟨S32x1, .i32⟩
  | 41 => ⟨S1x1024, .i32⟩
  | 42 => ⟨S32x1024, .i32⟩
  | 43 => ⟨S32x1024, .i32⟩
  | 44 => ⟨S32x1024, .i32⟩
  | 45 => ⟨S_, .i32⟩
  | 46 => ⟨S_, .i32⟩
  | 47 => ⟨S_, .i32⟩
  | 48 => ⟨S_, .i1⟩
  | 49 => ⟨S_, .i32⟩
  | 50 => ⟨S_, .i32⟩
  | 51 => ⟨S32x1024, .i32⟩
  | 52 => ⟨S32x1024, .i32⟩
  | 53 => ⟨S_, .i32⟩
  | 54 => ⟨S32x1024, .i32⟩
  | 55 => ⟨S32x1024, .i1⟩
  | 56 => ⟨S_, .i32⟩
  | 57 => ⟨S32x1024, .i32⟩
  | 58 => ⟨S32x1024, .i1⟩
  | 59 => ⟨S_, .i32⟩
  | 60 => ⟨S_, .i1⟩
  | 61 => ⟨S32x1024, .i1⟩
  | 62 => ⟨S32x1024, .i1⟩
  | 63 => ⟨S32x1024, .i1⟩
  | 64 => ⟨S32x1024, .i32⟩
  | 65 => ⟨S32x1024, .i32⟩
  | 66 => ⟨S32x1024, .i32⟩
  | 67 => ⟨S32x1024, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S32x1024, .f32⟩
  | 75 => ⟨S32x1024, .f32⟩
  | 76 => ⟨S4, .i32⟩
  | 77 => ⟨S4x1, .i32⟩
  | 78 => ⟨S1x1024, .i32⟩
  | 79 => ⟨S4x1024, .i32⟩
  | 80 => ⟨S4x1024, .i32⟩
  | 81 => ⟨S4x1024, .i32⟩
  | 82 => ⟨S_, .i32⟩
  | 83 => ⟨S_, .i32⟩
  | 84 => ⟨S_, .i32⟩
  | 85 => ⟨S_, .i1⟩
  | 86 => ⟨S_, .i32⟩
  | 87 => ⟨S_, .i32⟩
  | 88 => ⟨S4x1024, .i32⟩
  | 89 => ⟨S4x1024, .i32⟩
  | 90 => ⟨S_, .i32⟩
  | 91 => ⟨S4x1024, .i32⟩
  | 92 => ⟨S4x1024, .i1⟩
  | 93 => ⟨S_, .i32⟩
  | 94 => ⟨S4x1024, .i32⟩
  | 95 => ⟨S4x1024, .i1⟩
  | 96 => ⟨S_, .i32⟩
  | 97 => ⟨S_, .i1⟩
  | 98 => ⟨S4x1024, .i1⟩
  | 99 => ⟨S4x1024, .i1⟩
  | 100 => ⟨S4x1024, .i1⟩
  | 101 => ⟨S4x1024, .i32⟩
  | 102 => ⟨S4x1024, .i32⟩
  | 103 => ⟨S4x1024, .i32⟩
  | 104 => ⟨S4x1024, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S4x1024, .f32⟩
  | 112 => ⟨S4x1024, .f32⟩
  | 113 => ⟨S32x1024, .f32⟩
  | 114 => ⟨S32x1x1024, .f32⟩
  | 115 => ⟨S32x1024, .f32⟩
  | 116 => ⟨S32x1x1024, .f32⟩
  | 117 => ⟨S32x1024, .f32⟩
  | 118 => ⟨S1x32x1024, .f32⟩
  | 119 => ⟨S32x1024, .f32⟩
  | 120 => ⟨S1x32x1024, .f32⟩
  | 121 => ⟨S32x32x1024, .f32⟩
  | 122 => ⟨S32x32x1024, .f32⟩
  | 123 => ⟨S32x32x1024, .f32⟩
  | 124 => ⟨S32x32x1024, .f32⟩
  | 125 => ⟨S32x32x1024, .f32⟩
  | 126 => ⟨S32x32x1024, .f32⟩
  | 127 => ⟨S32x32x1024, .f32⟩
  | _ => ⟨S8x4096x512, .bf16⟩

abbrev hbmTy0_1 (i : Nat) : BufTy := match i % 128 with
  | 0 => ⟨S32x32x1024, .f32⟩
  | 1 => ⟨S32x32x1024, .f32⟩
  | 2 => ⟨S32x32x1024, .f32⟩
  | 3 => ⟨S32x32x1024, .f32⟩
  | 4 => ⟨S32x32x1024, .f32⟩
  | 5 => ⟨S32x32x1024, .f32⟩
  | 6 => ⟨S32x32x1024, .f32⟩
  | 7 => ⟨S4x1024, .f32⟩
  | 8 => ⟨S4x1x1024, .f32⟩
  | 9 => ⟨S4x1024, .f32⟩
  | 10 => ⟨S4x1x1024, .f32⟩
  | 11 => ⟨S1x1024x1024, .f32⟩
  | 12 => ⟨S1x1024x1024, .f32⟩
  | 13 => ⟨S4x1024x1024, .f32⟩
  | 14 => ⟨S4x1024x1024, .f32⟩
  | 15 => ⟨S4x1024x1024, .f32⟩
  | 16 => ⟨S4x1024x1024, .f32⟩
  | 17 => ⟨S4x1024x1024, .f32⟩
  | 18 => ⟨S4x1024x1024, .f32⟩
  | 19 => ⟨S4x1024x1024, .f32⟩
  | 20 => ⟨S4x1024x1024, .f32⟩
  | 21 => ⟨S4x1024x1024, .f32⟩
  | 22 => ⟨S4x1024x1024, .f32⟩
  | 23 => ⟨S4x1024x1024, .f32⟩
  | 24 => ⟨S4x1024x1024, .f32⟩
  | 25 => ⟨S4x1024x1024, .f32⟩
  | 26 => ⟨S4x1024x1024, .f32⟩
  | 27 => ⟨S_, .f32⟩
  | 28 => ⟨S4x1024x1024, .f32⟩
  | 29 => ⟨S4x1024x1024, .f32⟩
  | 30 => ⟨S_, .f32⟩
  | 31 => ⟨S4x1024x1024, .f32⟩
  | 32 => ⟨S4x1024x1024, .f32⟩
  | 33 => ⟨S4x1024x2048, .f32⟩
  | 34 => ⟨S4x1024x2048, .bf16⟩
  | 35 => ⟨S128, .i32⟩
  | 36 => ⟨S128x1, .i32⟩
  | 37 => ⟨S1x128, .i32⟩
  | 38 => ⟨S128x128, .i32⟩
  | 39 => ⟨S128x128, .i32⟩
  | 40 => ⟨S128x128, .i32⟩
  | 41 => ⟨S_, .i32⟩
  | 42 => ⟨S_, .i32⟩
  | 43 => ⟨S_, .i32⟩
  | 44 => ⟨S_, .i1⟩
  | 45 => ⟨S_, .i32⟩
  | 46 => ⟨S_, .i32⟩
  | 47 => ⟨S128x128, .i32⟩
  | 48 => ⟨S128x128, .i32⟩
  | 49 => ⟨S_, .i32⟩
  | 50 => ⟨S128x128, .i32⟩
  | 51 => ⟨S128x128, .i1⟩
  | 52 => ⟨S_, .i32⟩
  | 53 => ⟨S128x128, .i32⟩
  | 54 => ⟨S128x128, .i1⟩
  | 55 => ⟨S_, .i32⟩
  | 56 => ⟨S_, .i1⟩
  | 57 => ⟨S128x128, .i1⟩
  | 58 => ⟨S128x128, .i1⟩
  | 59 => ⟨S128x128, .i1⟩
  | 60 => ⟨S128x128, .i32⟩
  | 61 => ⟨S128x128, .i32⟩
  | 62 => ⟨S128x128, .i32⟩
  | 63 => ⟨S128x128, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S128x128, .f32⟩
  | 71 => ⟨S128x128, .f32⟩
  | 72 => ⟨S128x128, .f32⟩
  | 73 => ⟨S128x128, .f32⟩
  | 74 => ⟨S128x256, .f32⟩
  | 75 => ⟨S128x128, .f32⟩
  | 76 => ⟨S128x256, .f32⟩
  | 77 => ⟨S256x256, .f32⟩
  | 78 => ⟨S_, .f32⟩
  | 79 => ⟨S_, .f32⟩
  | 80 => ⟨S_, .f32⟩
  | 81 => ⟨S_, .f32⟩
  | 82 => ⟨S256x256, .f32⟩
  | 83 => ⟨S256x256, .f32⟩
  | 84 => ⟨S256x256, .bf16⟩
  | 85 => ⟨S8x4x4096x128, .f32⟩
  | _ => ⟨S8x4096x512, .bf16⟩

abbrev hbmTy (i : Nat) : BufTy := match i / 128 with
  | 0 => hbmTy0_0 i
  | 1 => hbmTy0_1 i
  | _ => ⟨S8x4096x512, .bf16⟩

abbrev bufTy : (tb : Table) → Fin (tcTables nBuf tb) → BufTy
  | .hbm, ⟨i, _⟩ => hbmTy i
  | .local _ .vmem, ⟨0, _⟩ => ⟨S1x4096x512, .bf16⟩
  | .local _ .vmem, ⟨1, _⟩ => ⟨S1x4096x512, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S256x256, .bf16⟩
  | .local _ .vmem, ⟨5, _⟩ => ⟨S1x4x4096x128, .f32⟩
  | .local _ .vmem, ⟨6, _⟩ => ⟨S1x4x4096x128, .f32⟩
  | .local _ .vmem, ⟨7, _⟩ => ⟨S2048x512, .bf16⟩
  | _, _ => ⟨S8x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_c : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_1 : Ref sig .tc := ⟨.hbm, 16, rfl⟩
abbrev main_call0_v5 : Ref sig .tc := ⟨.hbm, 17, rfl⟩
abbrev main_call0_v6 : Ref sig .tc := ⟨.hbm, 18, rfl⟩
abbrev main_call0_c_2 : Ref sig .tc := ⟨.hbm, 19, rfl⟩
abbrev main_call0_v7 : Ref sig .tc := ⟨.hbm, 20, rfl⟩
abbrev main_call0_v8 : Ref sig .tc := ⟨.hbm, 21, rfl⟩
abbrev main_call0_c_3 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_v7 : Ref sig .tc := ⟨.hbm, 29, rfl⟩
abbrev main_v8 : Ref sig .tc := ⟨.hbm, 30, rfl⟩
abbrev main_cst : Ref sig .tc := ⟨.hbm, 31, rfl⟩
abbrev main_v9 : Ref sig .tc := ⟨.hbm, 32, rfl⟩
abbrev main_cst_0 : Ref sig .tc := ⟨.hbm, 33, rfl⟩
abbrev main_v10 : Ref sig .tc := ⟨.hbm, 34, rfl⟩
abbrev main_cst_1 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_c_2 : Ref sig .tc := ⟨.hbm, 45, rfl⟩
abbrev main_call1_v0 : Ref sig .tc := ⟨.hbm, 46, rfl⟩
abbrev main_call1_c : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_c_1 : Ref sig .tc := ⟨.hbm, 53, rfl⟩
abbrev main_call1_v5 : Ref sig .tc := ⟨.hbm, 54, rfl⟩
abbrev main_call1_v6 : Ref sig .tc := ⟨.hbm, 55, rfl⟩
abbrev main_call1_c_2 : Ref sig .tc := ⟨.hbm, 56, rfl⟩
abbrev main_call1_v7 : Ref sig .tc := ⟨.hbm, 57, rfl⟩
abbrev main_call1_v8 : Ref sig .tc := ⟨.hbm, 58, rfl⟩
abbrev main_call1_c_3 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_v20 : Ref sig .tc := ⟨.hbm, 66, rfl⟩
abbrev main_v21 : Ref sig .tc := ⟨.hbm, 67, rfl⟩
abbrev main_cst_3 : Ref sig .tc := ⟨.hbm, 68, rfl⟩
abbrev main_v22 : Ref sig .tc := ⟨.hbm, 69, rfl⟩
abbrev main_cst_4 : Ref sig .tc := ⟨.hbm, 70, rfl⟩
abbrev main_v23 : Ref sig .tc := ⟨.hbm, 71, rfl⟩
abbrev main_cst_5 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_c_6 : Ref sig .tc := ⟨.hbm, 82, rfl⟩
abbrev main_call2_v0 : Ref sig .tc := ⟨.hbm, 83, rfl⟩
abbrev main_call2_c : Ref sig .tc := ⟨.hbm, 84, rfl⟩
abbrev main_call2_v1 : Ref sig .tc := ⟨.hbm, 85, rfl⟩
abbrev main_call2_c_0 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_call2_c_1 : Ref sig .tc := ⟨.hbm, 90, rfl⟩
abbrev main_call2_v5 : Ref sig .tc := ⟨.hbm, 91, rfl⟩
abbrev main_call2_v6 : Ref sig .tc := ⟨.hbm, 92, rfl⟩
abbrev main_call2_c_2 : Ref sig .tc := ⟨.hbm, 93, rfl⟩
abbrev main_call2_v7 : Ref sig .tc := ⟨.hbm, 94, rfl⟩
abbrev main_call2_v8 : Ref sig .tc := ⟨.hbm, 95, rfl⟩
abbrev main_call2_c_3 : Ref sig .tc := ⟨.hbm, 96, rfl⟩
abbrev main_call2_v9 : Ref sig .tc := ⟨.hbm, 97, rfl⟩
abbrev main_call2_v10 : Ref sig .tc := ⟨.hbm, 98, rfl⟩
abbrev main_call2_v11 : Ref sig .tc := ⟨.hbm, 99, rfl⟩
abbrev main_call2_v12 : Ref sig .tc := ⟨.hbm, 100, rfl⟩
abbrev main_call2_v13 : Ref sig .tc := ⟨.hbm, 101, rfl⟩
abbrev main_call2_v14 : Ref sig .tc := ⟨.hbm, 102, rfl⟩
abbrev main_v33 : Ref sig .tc := ⟨.hbm, 103, rfl⟩
abbrev main_v34 : Ref sig .tc := ⟨.hbm, 104, rfl⟩
abbrev main_cst_7 : Ref sig .tc := ⟨.hbm, 105, rfl⟩
abbrev main_v35 : Ref sig .tc := ⟨.hbm, 106, rfl⟩
abbrev main_cst_8 : Ref sig .tc := ⟨.hbm, 107, rfl⟩
abbrev main_v36 : Ref sig .tc := ⟨.hbm, 108, rfl⟩
abbrev main_cst_9 : Ref sig .tc := ⟨.hbm, 109, rfl⟩
abbrev main_v37 : Ref sig .tc := ⟨.hbm, 110, rfl⟩
abbrev main_v38 : Ref sig .tc := ⟨.hbm, 111, rfl⟩
abbrev main_v39 : Ref sig .tc := ⟨.hbm, 112, rfl⟩
abbrev main_v40 : Ref sig .tc := ⟨.hbm, 113, rfl⟩
abbrev main_v41 : Ref sig .tc := ⟨.hbm, 114, rfl⟩
abbrev main_v42 : Ref sig .tc := ⟨.hbm, 115, rfl⟩
abbrev main_v43 : Ref sig .tc := ⟨.hbm, 116, rfl⟩
abbrev main_v44 : Ref sig .tc := ⟨.hbm, 117, rfl⟩
abbrev main_v45 : Ref sig .tc := ⟨.hbm, 118, rfl⟩
abbrev main_v46 : Ref sig .tc := ⟨.hbm, 119, rfl⟩
abbrev main_v47 : Ref sig .tc := ⟨.hbm, 120, rfl⟩
abbrev main_v48 : Ref sig .tc := ⟨.hbm, 121, rfl⟩
abbrev main_v49 : Ref sig .tc := ⟨.hbm, 122, rfl⟩
abbrev main_v50 : Ref sig .tc := ⟨.hbm, 123, rfl⟩
abbrev main_v51 : Ref sig .tc := ⟨.hbm, 124, rfl⟩
abbrev main_v52 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev main_v56 : Ref sig .tc := ⟨.hbm, 129, rfl⟩
abbrev main_v57 : Ref sig .tc := ⟨.hbm, 130, rfl⟩
abbrev main_v58 : Ref sig .tc := ⟨.hbm, 131, rfl⟩
abbrev main_v59 : Ref sig .tc := ⟨.hbm, 132, rfl⟩
abbrev main_v60 : Ref sig .tc := ⟨.hbm, 133, rfl⟩
abbrev main_v61 : Ref sig .tc := ⟨.hbm, 134, rfl⟩
abbrev main_v62 : Ref sig .tc := ⟨.hbm, 135, rfl⟩
abbrev main_v63 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩
abbrev main_v67 : Ref sig .tc := ⟨.hbm, 140, rfl⟩
abbrev main_v68 : Ref sig .tc := ⟨.hbm, 141, rfl⟩
abbrev main_v69 : Ref sig .tc := ⟨.hbm, 142, rfl⟩
abbrev main_v70 : Ref sig .tc := ⟨.hbm, 143, rfl⟩
abbrev main_v71 : Ref sig .tc := ⟨.hbm, 144, rfl⟩
abbrev main_v72 : Ref sig .tc := ⟨.hbm, 145, rfl⟩
abbrev main_v73 : Ref sig .tc := ⟨.hbm, 146, rfl⟩
abbrev main_v74 : Ref sig .tc := ⟨.hbm, 147, rfl⟩
abbrev main_v75 : Ref sig .tc := ⟨.hbm, 148, rfl⟩
abbrev main_v76 : Ref sig .tc := ⟨.hbm, 149, rfl⟩
abbrev main_v77 : Ref sig .tc := ⟨.hbm, 150, rfl⟩
abbrev main_v78 : Ref sig .tc := ⟨.hbm, 151, rfl⟩
abbrev main_v79 : Ref sig .tc := ⟨.hbm, 152, rfl⟩
abbrev main_v80 : Ref sig .tc := ⟨.hbm, 153, rfl⟩
abbrev main_v81 : Ref sig .tc := ⟨.hbm, 154, rfl⟩
abbrev main_cst_10 : Ref sig .tc := ⟨.hbm, 155, rfl⟩
abbrev main_v82 : Ref sig .tc := ⟨.hbm, 156, rfl⟩
abbrev main_v83 : Ref sig .tc := ⟨.hbm, 157, rfl⟩
abbrev main_cst_11 : Ref sig .tc := ⟨.hbm, 158, rfl⟩
abbrev main_v84 : Ref sig .tc := ⟨.hbm, 159, rfl⟩
abbrev main_v85 : Ref sig .tc := ⟨.hbm, 160, rfl⟩
abbrev main_v86 : Ref sig .tc := ⟨.hbm, 161, rfl⟩
abbrev main_v87 : Ref sig .tc := ⟨.hbm, 162, rfl⟩
abbrev main_v88 : Ref sig .tc := ⟨.hbm, 163, rfl⟩
abbrev main_v89 : Ref sig .tc := ⟨.hbm, 164, rfl⟩
abbrev main_v90 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_c_12 : Ref sig .tc := ⟨.hbm, 169, rfl⟩
abbrev main_call3_v0 : Ref sig .tc := ⟨.hbm, 170, rfl⟩
abbrev main_call3_c : Ref sig .tc := ⟨.hbm, 171, rfl⟩
abbrev main_call3_v1 : Ref sig .tc := ⟨.hbm, 172, rfl⟩
abbrev main_call3_c_0 : Ref sig .tc := ⟨.hbm, 173, rfl⟩
abbrev main_call3_v2 : Ref sig .tc := ⟨.hbm, 174, rfl⟩
abbrev main_call3_v3 : Ref sig .tc := ⟨.hbm, 175, rfl⟩
abbrev main_call3_v4 : Ref sig .tc := ⟨.hbm, 176, rfl⟩
abbrev main_call3_c_1 : Ref sig .tc := ⟨.hbm, 177, rfl⟩
abbrev main_call3_v5 : Ref sig .tc := ⟨.hbm, 178, rfl⟩
abbrev main_call3_v6 : Ref sig .tc := ⟨.hbm, 179, rfl⟩
abbrev main_call3_c_2 : Ref sig .tc := ⟨.hbm, 180, rfl⟩
abbrev main_call3_v7 : Ref sig .tc := ⟨.hbm, 181, rfl⟩
abbrev main_call3_v8 : Ref sig .tc := ⟨.hbm, 182, rfl⟩
abbrev main_call3_c_3 : Ref sig .tc := ⟨.hbm, 183, rfl⟩
abbrev main_call3_v9 : Ref sig .tc := ⟨.hbm, 184, rfl⟩
abbrev main_call3_v10 : Ref sig .tc := ⟨.hbm, 185, rfl⟩
abbrev main_call3_v11 : Ref sig .tc := ⟨.hbm, 186, rfl⟩
abbrev main_call3_v12 : Ref sig .tc := ⟨.hbm, 187, rfl⟩
abbrev main_call3_v13 : Ref sig .tc := ⟨.hbm, 188, rfl⟩
abbrev main_call3_v14 : Ref sig .tc := ⟨.hbm, 189, rfl⟩
abbrev main_v94 : Ref sig .tc := ⟨.hbm, 190, rfl⟩
abbrev main_v95 : Ref sig .tc := ⟨.hbm, 191, rfl⟩
abbrev main_cst_13 : Ref sig .tc := ⟨.hbm, 192, rfl⟩
abbrev main_v96 : Ref sig .tc := ⟨.hbm, 193, rfl⟩
abbrev main_cst_14 : Ref sig .tc := ⟨.hbm, 194, rfl⟩
abbrev main_v97 : Ref sig .tc := ⟨.hbm, 195, rfl⟩
abbrev main_cst_15 : Ref sig .tc := ⟨.hbm, 196, rfl⟩
abbrev main_v98 : Ref sig .tc := ⟨.hbm, 197, rfl⟩
abbrev main_v99 : Ref sig .tc := ⟨.hbm, 198, rfl⟩
abbrev main_v100 : Ref sig .tc := ⟨.hbm, 199, rfl⟩
abbrev main_v101 : Ref sig .tc := ⟨.hbm, 200, rfl⟩
abbrev main_v102 : Ref sig .tc := ⟨.hbm, 201, rfl⟩
abbrev main_v103 : Ref sig .tc := ⟨.hbm, 202, rfl⟩
abbrev main_v104 : Ref sig .tc := ⟨.hbm, 203, rfl⟩
abbrev main_v105 : Ref sig .tc := ⟨.hbm, 204, rfl⟩
abbrev main_v106 : Ref sig .tc := ⟨.hbm, 205, rfl⟩
abbrev main_cst_16 : Ref sig .tc := ⟨.hbm, 206, rfl⟩
abbrev main_v107 : Ref sig .tc := ⟨.hbm, 207, rfl⟩
abbrev main_cst_17 : Ref sig .tc := ⟨.hbm, 208, rfl⟩
abbrev main_v108 : Ref sig .tc := ⟨.hbm, 209, rfl⟩
abbrev main_v109 : Ref sig .tc := ⟨.hbm, 210, rfl⟩
abbrev main_v110 : Ref sig .tc := ⟨.hbm, 211, rfl⟩
abbrev main_v111 : Ref sig .tc := ⟨.hbm, 212, rfl⟩
abbrev main_v112 : Ref sig .tc := ⟨.hbm, 213, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_1 : BitVec 32 := 0#32
  let v4 : BitVec 1 := Scalar.cmpi .ne v3 c0_i32_1
  v4

def k0_off1 (i : grid0.Coords) : Fin 4 → Nat :=
  let c0_40 : Index := 0#32
  let c0_41 : Index := 0#32
  let arg1 : BitVec 32 := BitVec.ofNat 32 (i 1).val
  let v75 : Index := Scalar.indexCast arg1
  let c0_42 : Index := 0#32
  ![0, 0, v75.toNat, 0]
def k0_off2 (i : grid0.Coords) : Fin 4 → Nat :=
  let c0_43 : Index := 0#32
  let c1 : Index := 1#32
  let arg1 : BitVec 32 := BitVec.ofNat 32 (i 1).val
  let v80 : Index := Scalar.indexCast arg1
  let c0_44 : Index := 0#32
  ![0, 1, v80.toNat, 0]
def k0_off3 (i : grid0.Coords) : Fin 4 → Nat :=
  let c0_83 : Index := 0#32
  let c2 : Index := 2#32
  let arg1 : BitVec 32 := BitVec.ofNat 32 (i 1).val
  let v145 : Index := Scalar.indexCast arg1
  let c0_84 : Index := 0#32
  ![0, 2, v145.toNat, 0]
def k0_off4 (i : grid0.Coords) : Fin 4 → Nat :=
  let c0_85 : Index := 0#32
  let c3 : Index := 3#32
  let arg1 : BitVec 32 := BitVec.ofNat 32 (i 1).val
  let v150 : Index := Scalar.indexCast arg1
  let c0_86 : Index := 0#32
  ![0, 3, v150.toNat, 0]
def k0_cond2 (i : grid0.Coords) : BitVec 1 :=
  let arg1 : BitVec 32 := BitVec.ofNat 32 (i 1).val
  let c1_i32 : BitVec 32 := 1#32
  let v5 : BitVec 1 := Scalar.cmpi .eq arg1 c1_i32
  let v6 : BitVec 32 := Scalar.extui v5
  let c0_i32_2 : BitVec 32 := 0#32
  let v7 : BitVec 1 := Scalar.cmpi .ne v6 c0_i32_2
  v7

def k0_off5 (i : grid0.Coords) : Fin 4 → Nat :=
  let c0_40 : Index := 0#32
  let c0_41 : Index := 0#32
  let arg1 : BitVec 32 := BitVec.ofNat 32 (i 1).val
  let v73 : Index := Scalar.indexCast arg1
  let c0_42 : Index := 0#32
  ![0, 0, v73.toNat, 0]
def k0_off6 (i : grid0.Coords) : Fin 4 → Nat :=
  let c0_43 : Index := 0#32
  let c1 : Index := 1#32
  let arg1 : BitVec 32 := BitVec.ofNat 32 (i 1).val
  let v78 : Index := Scalar.indexCast arg1
  let c0_44 : Index := 0#32
  ![0, 1, v78.toNat, 0]
def k0_off7 (i : grid0.Coords) : Fin 4 → Nat :=
  let c0_83 : Index := 0#32
  let c2 : Index := 2#32
  let arg1 : BitVec 32 := BitVec.ofNat 32 (i 1).val
  let v141 : Index := Scalar.indexCast arg1
  let c0_84 : Index := 0#32
  ![0, 2, v141.toNat, 0]
def k0_off8 (i : grid0.Coords) : Fin 4 → Nat :=
  let c0_85 : Index := 0#32
  let c3 : Index := 3#32
  let arg1 : BitVec 32 := BitVec.ofNat 32 (i 1).val
  let v146 : Index := Scalar.indexCast arg1
  let c0_86 : Index := 0#32
  ![0, 3, v146.toNat, 0]
def k0_cond3 (i : grid0.Coords) : BitVec 1 :=
  let arg1 : BitVec 32 := BitVec.ofNat 32 (i 1).val
  let c2_i32 : BitVec 32 := 2#32
  let v8 : BitVec 1 := Scalar.cmpi .eq arg1 c2_i32
  let v9 : BitVec 32 := Scalar.extui v8
  let c0_i32_3 : BitVec 32 := 0#32
  let v10 : BitVec 1 := Scalar.cmpi .ne v9 c0_i32_3
  v10

def k0_off9 (i : grid0.Coords) : Fin 4 → Nat :=
  let c0_40 : Index := 0#32
  let c0_41 : Index := 0#32
  let arg1 : BitVec 32 := BitVec.ofNat 32 (i 1).val
  let v75 : Index := Scalar.indexCast arg1
  let c0_42 : Index := 0#32
  ![0, 0, v75.toNat, 0]
def k0_off10 (i : grid0.Coords) : Fin 4 → Nat :=
  let c0_43 : Index := 0#32
  let c1 : Index := 1#32
  let arg1 : BitVec 32 := BitVec.ofNat 32 (i 1).val
  let v80 : Index := Scalar.indexCast arg1
  let c0_44 : Index := 0#32
  ![0, 1, v80.toNat, 0]
def k0_off11 (i : grid0.Coords) : Fin 4 → Nat :=
  let c0_83 : Index := 0#32
  let c2 : Index := 2#32
  let arg1 : BitVec 32 := BitVec.ofNat 32 (i 1).val
  let v145 : Index := Scalar.indexCast arg1
  let c0_84 : Index := 0#32
  ![0, 2, v145.toNat, 0]
def k0_off12 (i : grid0.Coords) : Fin 4 → Nat :=
  let c0_85 : Index := 0#32
  let c3 : Index := 3#32
  let arg1 : BitVec 32 := BitVec.ofNat 32 (i 1).val
  let v150 : Index := Scalar.indexCast arg1
  let c0_86 : Index := 0#32
  ![0, 3, v150.toNat, 0]
def k0_cond4 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_4 : BitVec 32 := 0#32
  let v13 : BitVec 1 := Scalar.cmpi .ne v12 c0_i32_4
  v13

def k0_off13 (i : grid0.Coords) : Fin 4 → Nat :=
  let c0_40 : Index := 0#32
  let c0_41 : Index := 0#32
  let arg1 : BitVec 32 := BitVec.ofNat 32 (i 1).val
  let v73 : Index := Scalar.indexCast arg1
  let c0_42 : Index := 0#32
  ![0, 0, v73.toNat, 0]
def k0_off14 (i : grid0.Coords) : Fin 4 → Nat :=
  let c0_43 : Index := 0#32
  let c1 : Index := 1#32
  let arg1 : BitVec 32 := BitVec.ofNat 32 (i 1).val
  let v78 : Index := Scalar.indexCast arg1
  let c0_44 : Index := 0#32
  ![0, 1, v78.toNat, 0]
def k0_off15 (i : grid0.Coords) : Fin 4 → Nat :=
  let c0_83 : Index := 0#32
  let c2 : Index := 2#32
  let arg1 : BitVec 32 := BitVec.ofNat 32 (i 1).val
  let v141 : Index := Scalar.indexCast arg1
  let c0_84 : Index := 0#32
  ![0, 2, v141.toNat, 0]
def k0_off16 (i : grid0.Coords) : Fin 4 → Nat :=
  let c0_85 : Index := 0#32
  let c3 : Index := 3#32
  let arg1 : BitVec 32 := BitVec.ofNat 32 (i 1).val
  let v146 : Index := Scalar.indexCast arg1
  let c0_86 : Index := 0#32
  ![0, 3, v146.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x4x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ReferenceIdeal.lean ====
abbrev S8x4096x512 : Shape := ⟨3, ![8, 4096, 512]⟩
abbrev S8x4096x4x128 : Shape := ⟨4, ![8, 4096, 4, 128]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x4x128x4096 : Shape := ⟨4, ![8, 4, 128, 4096]⟩
abbrev S8x4x4096x128 : Shape := ⟨4, ![8, 4, 4096, 128]⟩

abbrev nBuf : Space → Nat
  | .hbm => 104
  | .vmem => 0
  | .smem => 0
  | _ => 0

abbrev bufTy : (tb : Table) → Fin (tcTables nBuf tb) → BufTy
  | .hbm, ⟨0, _⟩ => ⟨S8x4096x512, .bf16⟩
  | .hbm, ⟨1, _⟩ => ⟨S8x4096x512, .f32⟩
  | .hbm, ⟨2, _⟩ => ⟨S8x4096x4x128, .f32⟩
  | .hbm, ⟨3, _⟩ => ⟨S4096, .i32⟩
  | .hbm, ⟨4, _⟩ => ⟨S4096x1, .i32⟩
  | .hbm, ⟨5, _⟩ => ⟨S1x4096, .i32⟩
  | .hbm, ⟨6, _⟩ => ⟨S4096x4096, .i32⟩
  | .hbm, ⟨7, _⟩ => ⟨S4096x4096, .i32⟩
  | .hbm, ⟨8, _⟩ => ⟨S4096x4096, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S4096x4096, .i32⟩
  | .hbm, ⟨16, _⟩ => ⟨S4096x4096, .i32⟩
  | .hbm, ⟨17, _⟩ => ⟨S_, .i32⟩
  | .hbm, ⟨18, _⟩ => ⟨S4096x4096, .i32⟩
  | .hbm, ⟨19, _⟩ => ⟨S4096x4096, .i1⟩
  | .hbm, ⟨20, _⟩ => ⟨S_, .i32⟩
  | .hbm, ⟨21, _⟩ => ⟨S4096x4096, .i32⟩
  | .hbm, ⟨22, _⟩ => ⟨S4096x4096, .i1⟩
  | .hbm, ⟨23, _⟩ => ⟨S_, .i32⟩
  | .hbm, ⟨24, _⟩ => ⟨S_, .i1⟩
  | .hbm, ⟨25, _⟩ => ⟨S4096x4096, .i1⟩
  | .hbm, ⟨26, _⟩ => ⟨S4096x4096, .i1⟩
  | .hbm, ⟨27, _⟩ => ⟨S4096x4096, .i1⟩
  | .hbm, ⟨28, _⟩ => ⟨S4096x4096, .i32⟩
  | .hbm, ⟨29, _⟩ => ⟨S4096x4096, .i32⟩
  | .hbm, ⟨30, _⟩ => ⟨S4096x4096, .i32⟩
  | .hbm, ⟨31, _⟩ => ⟨S4096x4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S4096x4096, .f32⟩
  | .hbm, ⟨39, _⟩ => ⟨S4096x4096, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S4096x4096, .f32⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S128, .i32⟩
  | .hbm, ⟨51, _⟩ => ⟨S128x1, .i32⟩
  | .hbm, ⟨52, _⟩ => ⟨S1x128, .i32⟩
  | .hbm, ⟨53, _⟩ => ⟨S128x128, .i32⟩
  | .hbm, ⟨54, _⟩ => ⟨S128x128, .i32⟩
  | .hbm, ⟨55, _⟩ => ⟨S128x128, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S_, .i1⟩
  | .hbm, ⟨60, _⟩ => ⟨S_, .i32⟩
  | .hbm, ⟨61, _⟩ => ⟨S_, .i32⟩
  | .hbm, ⟨62, _⟩ => ⟨S128x128, .i32⟩
  | .hbm, ⟨63, _⟩ => ⟨S128x128, .i32⟩
  | .hbm, ⟨64, _⟩ => ⟨S_, .i32⟩
  | .hbm, ⟨65, _⟩ => ⟨S128x128, .i32⟩
  | .hbm, ⟨66, _⟩ => ⟨S128x128, .i1⟩
  | .hbm, ⟨67, _⟩ => ⟨S_, .i32⟩
  | .hbm, ⟨68, _⟩ => ⟨S128x128, .i32⟩
  | .hbm, ⟨69, _⟩ => ⟨S128x128, .i1⟩
  | .hbm, ⟨70, _⟩ => ⟨S_, .i32⟩
  | .hbm, ⟨71, _⟩ => ⟨S_, .i1⟩
  | .hbm, ⟨72, _⟩ => ⟨S128x128, .i1⟩
  | .hbm, ⟨73, _⟩ => ⟨S128x128, .i1⟩
  | .hbm, ⟨74, _⟩ => ⟨S128x128, .i1⟩
  | .hbm, ⟨75, _⟩ => ⟨S128x128, .i32⟩
  | .hbm, ⟨76, _⟩ => ⟨S128x128, .i32⟩
  | .hbm, ⟨77, _⟩ => ⟨S128x128, .i32⟩
  | .hbm, ⟨78, _⟩ => ⟨S128x128, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S128x128, .f32⟩
  | .hbm, ⟨86, _⟩ => ⟨S128x128, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S128x128, .f32⟩
  | .hbm, ⟨92, _⟩ => ⟨S128x128, .f32⟩
  | .hbm, ⟨93, _⟩ => ⟨S128x128, .f32⟩
  | .hbm, ⟨94, _⟩ => ⟨S128x128, .f32⟩
  | .hbm, ⟨95, _⟩ => ⟨S128x128, .f32⟩
  | .hbm, ⟨96, _⟩ => ⟨S128x128, .f32⟩
  | .hbm, ⟨97, _⟩ => ⟨S8x4096x4x128, .f32⟩
  | .hbm, ⟨98, _⟩ => ⟨S8x4096x4x128, .f32⟩
  | .hbm, ⟨99, _⟩ => ⟨S8x4x128x4096, .f32⟩
  | .hbm, ⟨100, _⟩ => ⟨S8x4x4096x128, .f32⟩
  | .hbm, ⟨101, _⟩ => ⟨S8x4x128x4096, .f32⟩
  | .hbm, ⟨102, _⟩ => ⟨S8x4x4096x128, .f32⟩
  | .hbm, ⟨103, _⟩ => ⟨S8x4x4096x128, .f32⟩
  | _, _ => ⟨S8x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_c : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_1 : Ref sig .tc := ⟨.hbm, 17, rfl⟩
abbrev main_call0_v5 : Ref sig .tc := ⟨.hbm, 18, rfl⟩
abbrev main_call0_v6 : Ref sig .tc := ⟨.hbm, 19, rfl⟩
abbrev main_call0_c_2 : Ref sig .tc := ⟨.hbm, 20, rfl⟩
abbrev main_call0_v7 : Ref sig .tc := ⟨.hbm, 21, rfl⟩
abbrev main_call0_v8 : Ref sig .tc := ⟨.hbm, 22, rfl⟩
abbrev main_call0_c_3 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_v8 : Ref sig .tc := ⟨.hbm, 30, rfl⟩
abbrev main_v9 : Ref sig .tc := ⟨.hbm, 31, rfl⟩
abbrev main_cst : Ref sig .tc := ⟨.hbm, 32, rfl⟩
abbrev main_v10 : Ref sig .tc := ⟨.hbm, 33, rfl⟩
abbrev main_cst_0 : Ref sig .tc := ⟨.hbm, 34, rfl⟩
abbrev main_v11 : Ref sig .tc := ⟨.hbm, 35, rfl⟩
abbrev main_cst_1 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_cst_2 : Ref sig .tc := ⟨.hbm, 40, rfl⟩
abbrev main_v15 : Ref sig .tc := ⟨.hbm, 41, rfl⟩
abbrev main_cst_3 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_c_4 : Ref sig .tc := ⟨.hbm, 56, rfl⟩
abbrev main_call1_v0 : Ref sig .tc := ⟨.hbm, 57, rfl⟩
abbrev main_call1_c : Ref sig .tc := ⟨.hbm, 58, rfl⟩
abbrev main_call1_v1 : Ref sig .tc := ⟨.hbm, 59, rfl⟩
abbrev main_call1_c_0 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_c_1 : Ref sig .tc := ⟨.hbm, 64, rfl⟩
abbrev main_call1_v5 : Ref sig .tc := ⟨.hbm, 65, rfl⟩
abbrev main_call1_v6 : Ref sig .tc := ⟨.hbm, 66, rfl⟩
abbrev main_call1_c_2 : Ref sig .tc := ⟨.hbm, 67, rfl⟩
abbrev main_call1_v7 : Ref sig .tc := ⟨.hbm, 68, rfl⟩
abbrev main_call1_v8 : Ref sig .tc := ⟨.hbm, 69, rfl⟩
abbrev main_call1_c_3 : Ref sig .tc := ⟨.hbm, 70, rfl⟩
abbrev main_call1_v9 : Ref sig .tc := ⟨.hbm, 71, rfl⟩
abbrev main_call1_v10 : Ref sig .tc := ⟨.hbm, 72, rfl⟩
abbrev main_call1_v11 : Ref sig .tc := ⟨.hbm, 73, rfl⟩
abbrev main_call1_v12 : Ref sig .tc := ⟨.hbm, 74, rfl⟩
abbrev main_call1_v13 : Ref sig .tc := ⟨.hbm, 75, rfl⟩
abbrev main_call1_v14 : Ref sig .tc := ⟨.hbm, 76, rfl⟩
abbrev main_v29 : Ref sig .tc := ⟨.hbm, 77, rfl⟩
abbrev main_v30 : Ref sig .tc := ⟨.hbm, 78, rfl⟩
abbrev main_cst_5 : Ref sig .tc := ⟨.hbm, 79, rfl⟩
abbrev main_v31 : Ref sig .tc := ⟨.hbm, 80, rfl⟩
abbrev main_cst_6 : Ref sig .tc := ⟨.hbm, 81, rfl⟩
abbrev main_v32 : Ref sig .tc := ⟨.hbm, 82, rfl⟩
abbrev main_cst_7 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_cst_8 : Ref sig .tc := ⟨.hbm, 87, rfl⟩
abbrev main_v36 : Ref sig .tc := ⟨.hbm, 88, rfl⟩
abbrev main_cst_9 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩

abbrev nD : Nat := 1
abbrev τ : Topo := Topo.v7x

variable {F : FTy → Type} [FloatOps F]
-- ==== Kernel2.lean ====
abbrev S8x4096x1024 : Shape := ⟨3, ![8, 4096, 1024]⟩
abbrev S16x3072 : Shape := ⟨2, ![16, 3072]⟩
abbrev S1024x7200 : Shape := ⟨2, ![1024, 7200]⟩
abbrev S3x3072 : Shape := ⟨2, ![3, 3072]⟩
abbrev S2x8 : Shape := ⟨2, ![2, 8]⟩
abbrev S1024x5120 : Shape := ⟨2, ![1024, 5120]⟩
abbrev S1024x2048 : Shape := ⟨2, ![1024, 2048]⟩
abbrev S1024x16 : Shape := ⟨2, ![1024, 16]⟩
abbrev S1x1024x1x16 : Shape := ⟨4, ![1, 1024, 1, 16]⟩
abbrev S1x1024x8x16 : Shape := ⟨4, ![1, 1024, 8, 16]⟩
abbrev S1024x128 : Shape := ⟨2, ![1024, 128]⟩
abbrev S16x1024 : Shape := ⟨2, ![16, 1024]⟩
abbrev S1x16 : Shape := ⟨2, ![1, 16]⟩
abbrev S1x1x1x16 : Shape := ⟨4, ![1, 1, 1, 16]⟩
abbrev S1x1x8x16 : Shape := ⟨4, ![1, 1, 8, 16]⟩
abbrev S1x128 : Shape := ⟨2, ![1, 128]⟩
abbrev S_ : Shape := ⟨0, ![]⟩
abbrev S6x128 : Shape := ⟨2, ![6, 128]⟩
abbrev S8x128 : Shape := ⟨2, ![8, 128]⟩
abbrev S16x1 : Shape := ⟨2, ![16, 1]⟩
abbrev S16x2 : Shape := ⟨2, ![16, 2]⟩
abbrev S256 : Shape := ⟨1, ![256]⟩
abbrev S64 : Shape := ⟨1, ![64]⟩
abbrev S64x1 : Shape := ⟨2, ![64, 1]⟩
abbrev S1x256 : Shape := ⟨2, ![1, 256]⟩
abbrev S64x256 : Shape := ⟨2, ![64, 256]⟩
abbrev S64x512 : Shape := ⟨2, ![64, 512]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S16x1x3072 : Shape := ⟨3, ![16, 1, 3072]⟩
abbrev S8x4096x512 : Shape := ⟨3, ![8, 4096, 512]⟩
abbrev S8x4096x3072 : Shape := ⟨3, ![8, 4096, 3072]⟩
abbrev S8x4096x128 : Shape := ⟨3, ![8, 4096, 128]⟩
abbrev S8x16x4096 : Shape := ⟨3, ![8, 16, 4096]⟩
abbrev S1x512x1024 : Shape := ⟨3, ![1, 512, 1024]⟩
abbrev S1x8x1024 : Shape := ⟨3, ![1, 8, 1024]⟩
abbrev S1x1x3072 : Shape := ⟨3, ![1, 1, 3072]⟩
abbrev S1x512x512 : Shape := ⟨3, ![1, 512, 512]⟩
abbrev S1x512x3072 : Shape := ⟨3, ![1, 512, 3072]⟩
abbrev S1x512x128 : Shape := ⟨3, ![1, 512, 128]⟩
abbrev S1x16x512 : Shape := ⟨3, ![1, 16, 512]⟩
abbrev S512x1024 : Shape := ⟨2, ![512, 1024]⟩
abbrev S8x1024 : Shape := ⟨2, ![8, 1024]⟩
abbrev S8x512 : Shape := ⟨2, ![8, 512]⟩
abbrev S8x64x1024 : Shape := ⟨3, ![8, 64, 1024]⟩
abbrev S8x1x512 : Shape := ⟨3, ![8, 1, 512]⟩
abbrev S8x64x512 : Shape := ⟨3, ![8, 64, 512]⟩
abbrev S1x64x512 : Shape := ⟨3, ![1, 64, 512]⟩
abbrev S1x3072 : Shape := ⟨2, ![1, 3072]⟩
abbrev S1x1024 : Shape := ⟨2, ![1, 1024]⟩
abbrev S8 : Shape := ⟨1, ![8]⟩
abbrev S8x1 : Shape := ⟨2, ![8, 1]⟩
abbrev S528x1024 : Shape := ⟨2, ![528, 1024]⟩
abbrev S1024x3072 : Shape := ⟨2, ![1024, 3072]⟩
abbrev S1024x256 : Shape := ⟨2, ![1024, 256]⟩
abbrev S528x256 : Shape := ⟨2, ![528, 256]⟩
abbrev S3x256 : Shape := ⟨2, ![3, 256]⟩
abbrev S512x256 : Shape := ⟨2, ![512, 256]⟩
abbrev S512x128 : Shape := ⟨2, ![512, 128]⟩
abbrev S1x512x256 : Shape := ⟨3, ![1, 512, 256]⟩
abbrev S1024x1024 : Shape := ⟨2, ![1024, 1024]⟩
abbrev S512x2048 : Shape := ⟨2, ![512, 2048]⟩
abbrev S8x64x128 : Shape := ⟨3, ![8, 64, 128]⟩
abbrev S8x1x128 : Shape := ⟨3, ![8, 1, 128]⟩
abbrev S16x512 : Shape := ⟨2, ![16, 512]⟩

abbrev nBuf : Space → Nat
  | .hbm => 129
  | .vmem => 36
  | .smem => 0
  | _ => 0

abbrev hbmTy0_0 (i : Nat) : BufTy := match i % 128 with
  | 0 => ⟨S8x4096x1024, .f32⟩
  | 1 => ⟨S16x3072, .f32⟩
  | 2 => ⟨S1024x7200, .f32⟩
  | 3 => ⟨S3x3072, .f32⟩
  | 4 => ⟨S2x8, .f32⟩
  | 5 => ⟨S2x8, .f32⟩
  | 6 => ⟨S1024x5120, .f32⟩
  | 7 => ⟨S1024x5120, .bf16⟩
  | 8 => ⟨S1024x2048, .f32⟩
  | 9 => ⟨S1024x2048, .bf16⟩
  | 10 => ⟨S1024x16, .f32⟩
  | 11 => ⟨S1024x16, .f32⟩
  | 12 => ⟨S1x1024x1x16, .f32⟩
  | 13 => ⟨S1x1024x8x16, .f32⟩
  | 14 => ⟨S1024x128, .f32⟩
  | 15 => ⟨S1024x128, .bf16⟩
  | 16 => ⟨S1x1024x1x16, .f32⟩
  | 17 => ⟨S1x1024x8x16, .f32⟩
  | 18 => ⟨S1024x128, .f32⟩
  | 19 => ⟨S1024x128, .bf16⟩
  | 20 => ⟨S16x1024, .f32⟩
  | 21 => ⟨S16x1024, .bf16⟩
  | 22 => ⟨S1x16, .f32⟩
  | 23 => ⟨S1x16, .f32⟩
  | 24 => ⟨S1x1x1x16, .f32⟩
  | 25 => ⟨S1x1x8x16, .f32⟩
  | 26 => ⟨S1x128, .f32⟩
  | 27 => ⟨S1x1x1x16, .f32⟩
  | 28 => ⟨S1x1x8x16, .f32⟩
  | 29 => ⟨S1x128, .f32⟩
  | 30 => ⟨S_, .f32⟩
  | 31 => ⟨S6x128, .f32⟩
  | 32 => ⟨S8x128, .f32⟩
  | 33 => ⟨S16x1, .f32⟩
  | 34 => ⟨S16x1, .f32⟩
  | 35 => ⟨S16x2, .f32⟩
  | 36 => ⟨S256, .f32⟩
  | 37 => ⟨S_, .f32⟩
  | 38 => ⟨S256, .f32⟩
  | 39 => ⟨S256, .f32⟩
  | 40 => ⟨S_, .f32⟩
  | 41 => ⟨S256, .f32⟩
  | 42 => ⟨S256, .f32⟩
  | 43 => ⟨S_, .f32⟩
  | 44 => ⟨S256, .f32⟩
  | 45 => ⟨S256, .f32⟩
  | 46 => ⟨S64, .f32⟩
  | 47 => ⟨S64x1, .f32⟩
  | 48 => ⟨S1x256, .f32⟩
  | 49 => ⟨S64x256, .f32⟩
  | 50 => ⟨S64x256, .f32⟩
  | 51 => ⟨S64x256, .f32⟩
  | 52 => ⟨S64, .f32⟩
  | 53 => ⟨S64x1, .f32⟩
  | 54 => ⟨S1x256, .f32⟩
  | 55 => ⟨S64x256, .f32⟩
  | 56 => ⟨S64x256, .f32⟩
  | 57 => ⟨S64x256, .f32⟩
  | 58 => ⟨S64x256, .f32⟩
  | 59 => ⟨S64x256, .f32⟩
  | 60 => ⟨S64x512, .f32⟩
  | 61 => ⟨S64x256, .f32⟩
  | 62 => ⟨S64x256, .f32⟩
  | 63 => ⟨S64x512, .f32⟩
  | 64 => ⟨S512, .i32⟩
  | 65 => ⟨S512x1, .i32⟩
  | 66 => ⟨S_, .i32⟩
  | 67 => ⟨S_, .i32⟩
  | 68 => ⟨S512x1, .i32⟩
  | 69 => ⟨S512x1, .i32⟩
  | 70 => ⟨S512x1, .i32⟩
  | 71 => ⟨S_, .i32⟩
  | 72 => ⟨S512x1, .i32⟩
  | 73 => ⟨S512x1, .i1⟩
  | 74 => ⟨S512x1, .i32⟩
  | 75 => ⟨S512x1, .i32⟩
  | 76 => ⟨S_, .i32⟩
  | 77 => ⟨S512x1, .i32⟩
  | 78 => ⟨S512x1, .i1⟩
  | 79 => ⟨S512x1, .i1⟩
  | 80 => ⟨S_, .i32⟩
  | 81 => ⟨S512x1, .i32⟩
  | 82 => ⟨S512x1, .i32⟩
  | 83 => ⟨S512x1, .i32⟩
  | 84 => ⟨S1x512, .i32⟩
  | 85 => ⟨S_, .i32⟩
  | 86 => ⟨S_, .i32⟩
  | 87 => ⟨S1x512, .i32⟩
  | 88 => ⟨S1x512, .i32⟩
  | 89 => ⟨S1x512, .i32⟩
  | 90 => ⟨S_, .i32⟩
  | 91 => ⟨S1x512, .i32⟩
  | 92 => ⟨S1x512, .i1⟩
  | 93 => ⟨S1x512, .i32⟩
  | 94 => ⟨S1x512, .i32⟩
  | 95 => ⟨S_, .i32⟩
  | 96 => ⟨S1x512, .i32⟩
  | 97 => ⟨S1x512, .i1⟩
  | 98 => ⟨S1x512, .i1⟩
  | 99 => ⟨S_, .i32⟩
  | 100 => ⟨S1x512, .i32⟩
  | 101 => ⟨S1x512, .i32⟩
  | 102 => ⟨S1x512, .i32⟩
  | 103 => ⟨S512x512, .i32⟩
  | 104 => ⟨S512x512, .i32⟩
  | 105 => ⟨S512x512, .i1⟩
  | 106 => ⟨S512x1, .i32⟩
  | 107 => ⟨S1x512, .i32⟩
  | 108 => ⟨S512x512, .i32⟩
  | 109 => ⟨S512x512, .i32⟩
  | 110 => ⟨S512x512, .i1⟩
  | 111 => ⟨S512x512, .i1⟩
  | 112 => ⟨S512x1, .i32⟩
  | 113 => ⟨S1x512, .i32⟩
  | 114 => ⟨S512x512, .i32⟩
  | 115 => ⟨S512x512, .i32⟩
  | 116 => ⟨S512x512, .i1⟩
  | 117 => ⟨S512x512, .i1⟩
  | 118 => ⟨S512x512, .bf16⟩
  | 119 => ⟨S512x512, .bf16⟩
  | 120 => ⟨S16x1x3072, .f32⟩
  | 121 => ⟨S8x4096x512, .bf16⟩
  | 122 => ⟨S8x4096x512, .bf16⟩
  | 123 => ⟨S8x4096x3072, .bf16⟩
  | 124 => ⟨S8x4096x1024, .bf16⟩
  | 125 => ⟨S8x4096x1024, .bf16⟩
  | 126 => ⟨S8x4096x1024, .bf16⟩
  | 127 => ⟨S8x4096x128, .f32⟩
  | _ => ⟨S8x4096x1024, .f32⟩

abbrev hbmTy0_1 (i : Nat) : BufTy := match i % 128 with
  | 0 => ⟨S8x16x4096, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1x3072, .f32⟩
  | .local _ .vmem, ⟨7, _⟩ => ⟨S1x1x3072, .f32⟩
  | .local _ .vmem, ⟨8, _⟩ => ⟨S64x512, .f32⟩
  | .local _ .vmem, ⟨9, _⟩ => ⟨S64x512, .f32⟩
  | .local _ .vmem, ⟨10, _⟩ => ⟨S1024x5120, .bf16⟩
  | .local _ .vmem, ⟨11, _⟩ => ⟨S1024x2048, .bf16⟩
  | .local _ .vmem, ⟨12, _⟩ => ⟨S1024x128, .bf16⟩
  | .local _ .vmem, ⟨13, _⟩ => ⟨S1024x128, .bf16⟩
  | .local _ .vmem, ⟨14, _⟩ => ⟨S16x1024, .bf16⟩
  | .local _ .vmem, ⟨15, _⟩ => ⟨S3x3072, .f32⟩
  | .local _ .vmem, ⟨16, _⟩ => ⟨S8x128, .f32⟩
  | .local _ .vmem, ⟨17, _⟩ => ⟨S16x2, .f32⟩
  | .local _ .vmem, ⟨18, _⟩ => ⟨S512x512, .bf16⟩
  | .local _ .vmem, ⟨19, _⟩ => ⟨S512x512, .bf16⟩
  | .local _ .vmem, ⟨20, _⟩ => ⟨S1x512x512, .bf16⟩
  | .local _ .vmem, ⟨21, _⟩ => ⟨S1x512x512, .bf16⟩
  | .local _ .vmem, ⟨22, _⟩ => ⟨S1x512x512, .bf16⟩
  | .local _ .vmem, ⟨23, _⟩ => ⟨S1x512x512, .bf16⟩
  | .local _ .vmem, ⟨24, _⟩ => ⟨S1x512x3072, .bf16⟩
  | .local _ .vmem, ⟨25, _⟩ => ⟨S1x512x3072, .bf16⟩
  | .local _ .vmem, ⟨26, _⟩ => ⟨S1x512x1024, .bf16⟩
  | .local _ .vmem, ⟨27, _⟩ => ⟨S1x512x1024, .bf16⟩
  | .local _ .vmem, ⟨28, _⟩ => ⟨S1x512x1024, .bf16⟩
  | .local _ .vmem, ⟨29, _⟩ => ⟨S1x512x1024, .bf16⟩
  | .local _ .vmem, ⟨30, _⟩ => ⟨S1x512x1024, .bf16⟩
  | .local _ .vmem, ⟨31, _⟩ => ⟨S1x512x1024, .bf16⟩
  | .local _ .vmem, ⟨32, _⟩ => ⟨S1x512x128, .f32⟩
  | .local _ .vmem, ⟨33, _⟩ => ⟨S1x512x128, .f32⟩
  | .local _ .vmem, ⟨34, _⟩ => ⟨S1x16x512, .f32⟩
  | .local _ .vmem, ⟨35, _⟩ => ⟨S1x16x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_0 : Ref sig .tc := ⟨.hbm, 37, rfl⟩
abbrev main_v30 : Ref sig .tc := ⟨.hbm, 38, rfl⟩
abbrev main_v31 : Ref sig .tc := ⟨.hbm, 39, rfl⟩
abbrev main_cst_1 : Ref sig .tc := ⟨.hbm, 40, rfl⟩
abbrev main_v32 : Ref sig .tc := ⟨.hbm, 41, rfl⟩
abbrev main_v33 : Ref sig .tc := ⟨.hbm, 42, rfl⟩
abbrev main_cst_2 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_c : Ref sig .tc := ⟨.hbm, 66, rfl⟩
abbrev main_call0_v0 : Ref sig .tc := ⟨.hbm, 67, rfl⟩
abbrev main_call0_v1 : Ref sig .tc := ⟨.hbm, 68, rfl⟩
abbrev main_call0_v2 : Ref sig .tc := ⟨.hbm, 69, rfl⟩
abbrev main_call0_v3 : Ref sig .tc := ⟨.hbm, 70, rfl⟩
abbrev main_call0_v4 : Ref sig .tc := ⟨.hbm, 71, rfl⟩
abbrev main_call0_v5 : Ref sig .tc := ⟨.hbm, 72, rfl⟩
abbrev main_call0_v6 : Ref sig .tc := ⟨.hbm, 73, rfl⟩
abbrev main_call0_v7 : Ref sig .tc := ⟨.hbm, 74, rfl⟩
abbrev main_call0_v8 : Ref sig .tc := ⟨.hbm, 75, rfl⟩
abbrev main_call0_c : Ref sig .tc := ⟨.hbm, 76, rfl⟩
abbrev main_call0_v9 : Ref sig .tc := ⟨.hbm, 77, rfl⟩
abbrev main_call0_v10 : Ref sig .tc := ⟨.hbm, 78, rfl⟩
abbrev main_call0_v11 : Ref sig .tc := ⟨.hbm, 79, rfl⟩
abbrev main_call0_c_0 : Ref sig .tc := ⟨.hbm, 80, rfl⟩
abbrev main_call0_v12 : Ref sig .tc := ⟨.hbm, 81, rfl⟩
abbrev main_call0_v13 : Ref sig .tc := ⟨.hbm, 82, rfl⟩
abbrev main_v56 : Ref sig .tc := ⟨.hbm, 83, rfl⟩
abbrev main_v57 : Ref sig .tc := ⟨.hbm, 84, rfl⟩
abbrev main_c_3 : Ref sig .tc := ⟨.hbm, 85, rfl⟩
abbrev main_call1_v0 : Ref sig .tc := ⟨.hbm, 86, rfl⟩
abbrev main_call1_v1 : Ref sig .tc := ⟨.hbm, 87, rfl⟩
abbrev main_call1_v2 : Ref sig .tc := ⟨.hbm, 88, rfl⟩
abbrev main_call1_v3 : Ref sig .tc := ⟨.hbm, 89, rfl⟩
abbrev main_call1_v4 : Ref sig .tc := ⟨.hbm, 90, rfl⟩
abbrev main_call1_v5 : Ref sig .tc := ⟨.hbm, 91, rfl⟩
abbrev main_call1_v6 : Ref sig .tc := ⟨.hbm, 92, rfl⟩
abbrev main_call1_v7 : Ref sig .tc := ⟨.hbm, 93, rfl⟩
abbrev main_call1_v8 : Ref sig .tc := ⟨.hbm, 94, rfl⟩
abbrev main_call1_c : Ref sig .tc := ⟨.hbm, 95, rfl⟩
abbrev main_call1_v9 : Ref sig .tc := ⟨.hbm, 96, rfl⟩
abbrev main_call1_v10 : Ref sig .tc := ⟨.hbm, 97, rfl⟩
abbrev main_call1_v11 : Ref sig .tc := ⟨.hbm, 98, rfl⟩
abbrev main_call1_c_0 : Ref sig .tc := ⟨.hbm, 99, rfl⟩
abbrev main_call1_v12 : Ref sig .tc := ⟨.hbm, 100, rfl⟩
abbrev main_call1_v13 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77_0 : Ref sig .tc := ⟨.hbm, 121, rfl⟩
abbrev main_v77_1 : Ref sig .tc := ⟨.hbm, 122, rfl⟩
abbrev main_v77_2 : Ref sig .tc := ⟨.hbm, 123, rfl⟩
abbrev main_v77_3 : Ref sig .tc := ⟨.hbm, 124, rfl⟩
abbrev main_v77_4 : Ref sig .tc := ⟨.hbm, 125, rfl⟩
abbrev main_v77_5 : Ref sig .tc := ⟨.hbm, 126, rfl⟩
abbrev main_v77_6 : Ref sig .tc := ⟨.hbm, 127, rfl⟩
abbrev main_v77_7 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_stg22_0 : Ref sig .tc := ⟨.vmem, 32, rfl⟩
abbrev cc0_stg22_1 : Ref sig .tc := ⟨.vmem, 33, rfl⟩
abbrev cc0_stg23_0 : Ref sig .tc := ⟨.vmem, 34, rfl⟩
abbrev cc0_stg23_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem20_1 : DmaSem sig := 29
abbrev cc0_sem21_0 : DmaSem sig := 30
abbrev cc0_sem21_1 : DmaSem sig := 31
abbrev cc0_sem22_0 : DmaSem sig := 32
abbrev cc0_sem22_1 : DmaSem sig := 33
abbrev cc0_sem23_0 : DmaSem sig := 34
abbrev cc0_sem23_1 : DmaSem sig := 35

abbrev nD : Nat := 1
abbrev τ : Topo := Topo.v7x

variable {F : FTy → Type} [FloatOps F]

abbrev grid0 : Pipeline.Grid := ⟨2, ![8, 8], ![false, false]⟩

def k0_off1 (i : grid0.Coords) : Fin 2 → Nat :=
  let arg1 : BitVec 32 := BitVec.ofNat 32 (i 1).val
  let c8_i32 : BitVec 32 := 8#32
  let v6 : BitVec 32 := Scalar.muli arg1 c8_i32
  let v7 : Index := Scalar.indexCast v6
  let c0_8 : Index := 0#32
  ![v7.toNat, 0]
def k0_off2 (i : grid0.Coords) : Fin 2 → Nat :=
  let arg1 : BitVec 32 := BitVec.ofNat 32 (i 1).val
  let c8_i32_11 : BitVec 32 := 8#32
  let v22 : BitVec 32 := Scalar.muli arg1 c8_i32_11
  let c1_i32 : BitVec 32 := 1#32
  let v23 : BitVec 32 := Scalar.subi v22 c1_i32
  let c0_i32 : BitVec 32 := 0#32
  let v24 : BitVec 32 := Scalar.maxsi v23 c0_i32
  let v25 : Index := Scalar.indexCast v24
  let c0_12 : Index := 0#32
  ![v25.toNat, 0]
def k0_off3 (i : grid0.Coords) : Fin 2 → Nat :=
  let arg1 : BitVec 32 := BitVec.ofNat 32 (i 1).val
  let c1_i32_13 : BitVec 32 := 1#32
  let v28 : BitVec 32 := Scalar.addi arg1 c1_i32_13
  let c8_i32_14 : BitVec 32 := 8#32
  let v29 : BitVec 32 := Scalar.muli v28 c8_i32_14
  let c63_i32 : BitVec 32 := 63#32
  let v30 : BitVec 32 := Scalar.minsi v29 c63_i32
  let v31 : Index := Scalar.indexCast v30
  let c0_15 : Index := 0#32
  ![v31.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S64x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x5120 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S16x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S3x3072 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S16x2 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S512x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S512x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x3072 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x512x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x512x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x16x512 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]
-- ==== Reference2Ideal.lean ====
abbrev S8x4096x1024 : Shape := ⟨3, ![8, 4096, 1024]⟩
abbrev S16x3072 : Shape := ⟨2, ![16, 3072]⟩
abbrev S1024x7200 : Shape := ⟨2, ![1024, 7200]⟩
abbrev S3x3072 : Shape := ⟨2, ![3, 3072]⟩
abbrev S2x8 : Shape := ⟨2, ![2, 8]⟩
abbrev S256 : Shape := ⟨1, ![256]⟩
abbrev S_ : Shape := ⟨0, ![]⟩
abbrev S64 : Shape := ⟨1, ![64]⟩
abbrev S64x1 : Shape := ⟨2, ![64, 1]⟩
abbrev S1x256 : Shape := ⟨2, ![1, 256]⟩
abbrev S64x256 : Shape := ⟨2, ![64, 256]⟩
abbrev S64x512 : Shape := ⟨2, ![64, 512]⟩
abbrev S64x1x512 : Shape := ⟨3, ![64, 1, 512]⟩
abbrev S64x64x512 : Shape := ⟨3, ![64, 64, 512]⟩
abbrev S1x64x512 : Shape := ⟨3, ![1, 64, 512]⟩
abbrev S64x64x1024 : Shape := ⟨3, ![64, 64, 1024]⟩
abbrev S4096x1024 : Shape := ⟨2, ![4096, 1024]⟩
abbrev S1x4096x1024 : Shape := ⟨3, ![1, 4096, 1024]⟩
abbrev S8x3072 : Shape := ⟨2, ![8, 3072]⟩
abbrev S8x1024 : Shape := ⟨2, ![8, 1024]⟩
abbrev S8x1x1024 : Shape := ⟨3, ![8, 1, 1024]⟩
abbrev S8x4096 : Shape := ⟨2, ![8, 4096]⟩
abbrev S8x4096x1 : Shape := ⟨3, ![8, 4096, 1]⟩
abbrev S8x4096x7200 : Shape := ⟨3, ![8, 4096, 7200]⟩
abbrev S8x4096x512 : Shape := ⟨3, ![8, 4096, 512]⟩
abbrev S8x4096x3072 : Shape := ⟨3, ![8, 4096, 3072]⟩
abbrev S8x4098x3072 : Shape := ⟨3, ![8, 4098, 3072]⟩
abbrev S1x3072 : Shape := ⟨2, ![1, 3072]⟩
abbrev S3072 : Shape := ⟨1, ![3072]⟩
abbrev S1x1x3072 : Shape := ⟨3, ![1, 1, 3072]⟩
abbrev S8x4096x8x128 : Shape := ⟨4, ![8, 4096, 8, 128]⟩
abbrev S8x4096x8 : Shape := ⟨3, ![8, 4096, 8]⟩
abbrev S8x4096x8x1 : Shape := ⟨4, ![8, 4096, 8, 1]⟩

abbrev nBuf : Space → Nat
  | .hbm => 188
  | .vmem => 0
  | .smem => 0
  | _ => 0

abbrev hbmTy0_0 (i : Nat) : BufTy := match i % 128 with
  | 0 => ⟨S8x4096x1024, .f32⟩
  | 1 => ⟨S16x3072, .f32⟩
  | 2 => ⟨S1024x7200, .f32⟩
  | 3 => ⟨S3x3072, .f32⟩
  | 4 => ⟨S2x8, .f32⟩
  | 5 => ⟨S2x8, .f32⟩
  | 6 => ⟨S256, .f32⟩
  | 7 => ⟨S_, .f32⟩
  | 8 => ⟨S256, .f32⟩
  | 9 => ⟨S256, .f32⟩
  | 10 => ⟨S_, .f32⟩
  | 11 => ⟨S256, .f32⟩
  | 12 => ⟨S256, .f32⟩
  | 13 => ⟨S_, .f32⟩
  | 14 => ⟨S256, .f32⟩
  | 15 => ⟨S256, .f32⟩
  | 16 => ⟨S64, .f32⟩
  | 17 => ⟨S64x1, .f32⟩
  | 18 => ⟨S1x256, .f32⟩
  | 19 => ⟨S64x256, .f32⟩
  | 20 => ⟨S64x256, .f32⟩
  | 21 => ⟨S64x256, .f32⟩
  | 22 => ⟨S64, .f32⟩
  | 23 => ⟨S64x1, .f32⟩
  | 24 => ⟨S1x256, .f32⟩
  | 25 => ⟨S64x256, .f32⟩
  | 26 => ⟨S64x256, .f32⟩
  | 27 => ⟨S64x256, .f32⟩
  | 28 => ⟨S64x256, .f32⟩
  | 29 => ⟨S64x256, .f32⟩
  | 30 => ⟨S64x512, .f32⟩
  | 31 => ⟨S64x256, .f32⟩
  | 32 => ⟨S64x256, .f32⟩
  | 33 => ⟨S64x512, .f32⟩
  | 34 => ⟨S64x1x512, .f32⟩
  | 35 => ⟨S64x64x512, .f32⟩
  | 36 => ⟨S1x64x512, .f32⟩
  | 37 => ⟨S64x64x512, .f32⟩
  | 38 => ⟨S64x64x1024, .f32⟩
  | 39 => ⟨S4096x1024, .f32⟩
  | 40 => ⟨S1x4096x1024, .f32⟩
  | 41 => ⟨S8x4096x1024, .f32⟩
  | 42 => ⟨S8x4096x1024, .f32⟩
  | 43 => ⟨S8x3072, .f32⟩
  | 44 => ⟨S8x1024, .f32⟩
  | 45 => ⟨S8x1x1024, .f32⟩
  | 46 => ⟨S8x1024, .f32⟩
  | 47 => ⟨S8x1x1024, .f32⟩
  | 48 => ⟨S_, .f32⟩
  | 49 => ⟨S8x4096, .f32⟩
  | 50 => ⟨S8x4096x1, .f32⟩
  | 51 => ⟨S_, .f32⟩
  | 52 => ⟨S8x4096x1, .f32⟩
  | 53 => ⟨S8x4096x1, .f32⟩
  | 54 => ⟨S8x4096x1024, .f32⟩
  | 55 => ⟨S8x4096x1024, .f32⟩
  | 56 => ⟨S8x4096x1024, .f32⟩
  | 57 => ⟨S_, .f32⟩
  | 58 => ⟨S8x4096, .f32⟩
  | 59 => ⟨S8x4096x1, .f32⟩
  | 60 => ⟨S_, .f32⟩
  | 61 => ⟨S8x4096x1, .f32⟩
  | 62 => ⟨S8x4096x1, .f32⟩
  | 63 => ⟨S8x4096x1024, .f32⟩
  | 64 => ⟨S8x4096x1024, .f32⟩
  | 65 => ⟨S_, .f32⟩
  | 66 => ⟨S8x4096x1, .f32⟩
  | 67 => ⟨S8x4096x1, .f32⟩
  | 68 => ⟨S8x4096x1, .f32⟩
  | 69 => ⟨S8x4096x1024, .f32⟩
  | 70 => ⟨S8x4096x1024, .f32⟩
  | 71 => ⟨S_, .f32⟩
  | 72 => ⟨S8x1x1024, .f32⟩
  | 73 => ⟨S8x1x1024, .f32⟩
  | 74 => ⟨S8x4096x1024, .f32⟩
  | 75 => ⟨S8x4096x1024, .f32⟩
  | 76 => ⟨S8x4096x1024, .f32⟩
  | 77 => ⟨S8x4096x1024, .f32⟩
  | 78 => ⟨S8x4096x7200, .f32⟩
  | 79 => ⟨S8x4096x512, .f32⟩
  | 80 => ⟨S8x4096x512, .f32⟩
  | 81 => ⟨S8x4096x3072, .f32⟩
  | 82 => ⟨S8x4096x1024, .f32⟩
  | 83 => ⟨S8x4096x1024, .f32⟩
  | 84 => ⟨S8x4096x1024, .f32⟩
  | 85 => ⟨S_, .i32⟩
  | 86 => ⟨S_, .f32⟩
  | 87 => ⟨S8x4098x3072, .f32⟩
  | 88 => ⟨S8x4096x3072, .f32⟩
  | 89 => ⟨S1x3072, .f32⟩
  | 90 => ⟨S3072, .f32⟩
  | 91 => ⟨S1x1x3072, .f32⟩
  | 92 => ⟨S8x4096x3072, .f32⟩
  | 93 => ⟨S8x4096x3072, .f32⟩
  | 94 => ⟨S8x4096x3072, .f32⟩
  | 95 => ⟨S1x3072, .f32⟩
  | 96 => ⟨S3072, .f32⟩
  | 97 => ⟨S1x1x3072, .f32⟩
  | 98 => ⟨S8x4096x3072, .f32⟩
  | 99 => ⟨S8x4096x3072, .f32⟩
  | 100 => ⟨S8x4096x3072, .f32⟩
  | 101 => ⟨S8x4096x3072, .f32⟩
  | 102 => ⟨S1x3072, .f32⟩
  | 103 => ⟨S3072, .f32⟩
  | 104 => ⟨S1x1x3072, .f32⟩
  | 105 => ⟨S8x4096x3072, .f32⟩
  | 106 => ⟨S8x4096x3072, .f32⟩
  | 107 => ⟨S8x4096x3072, .f32⟩
  | 108 => ⟨S8x4096x3072, .f32⟩
  | 109 => ⟨S8x4096x3072, .f32⟩
  | 110 => ⟨S_, .f32⟩
  | 111 => ⟨S8x4096x3072, .f32⟩
  | 112 => ⟨S8x4096x3072, .f32⟩
  | 113 => ⟨S_, .f32⟩
  | 114 => ⟨S8x4096x3072, .f32⟩
  | 115 => ⟨S8x4096x3072, .f32⟩
  | 116 => ⟨S8x4096x3072, .f32⟩
  | 117 => ⟨S8x4096x1024, .f32⟩
  | 118 => ⟨S8x4096x1024, .f32⟩
  | 119 => ⟨S8x4096x1024, .f32⟩
  | 120 => ⟨S8x4096x8x128, .f32⟩
  | 121 => ⟨S8x4096x8x128, .f32⟩
  | 122 => ⟨S_, .f32⟩
  | 123 => ⟨S8x4096x8, .f32⟩
  | 124 => ⟨S8x4096x8x1, .f32⟩
  | 125 => ⟨S_, .f32⟩
  | 126 => ⟨S8x4096x8x1, .f32⟩
  | 127 => ⟨S8x4096x8x1, .f32⟩
  | _ => ⟨S8x4096x1024, .f32⟩

abbrev hbmTy0_1 (i : Nat) : BufTy := match i % 128 with
  | 0 => ⟨S8x4096x8x1, .f32⟩
  | 1 => ⟨S8x4096x8x128, .f32⟩
  | 2 => ⟨S8x4096x8x128, .f32⟩
  | 3 => ⟨S_, .f32⟩
  | 4 => ⟨S8x4096x8x128, .f32⟩
  | 5 => ⟨S8x4096x8x128, .f32⟩
  | 6 => ⟨S8x4096x8x128, .f32⟩
  | 7 => ⟨S8x4096x8x128, .f32⟩
  | 8 => ⟨S_, .f32⟩
  | 9 => ⟨S8x4096x8, .f32⟩
  | 10 => ⟨S8x4096x8x1, .f32⟩
  | 11 => ⟨S_, .f32⟩
  | 12 => ⟨S8x4096x8x1, .f32⟩
  | 13 => ⟨S8x4096x8x1, .f32⟩
  | 14 => ⟨S8x4096x8x1, .f32⟩
  | 15 => ⟨S8x4096x8x128, .f32⟩
  | 16 => ⟨S8x4096x8x128, .f32⟩
  | 17 => ⟨S8x4096x1024, .f32⟩
  | 18 => ⟨S8x4096x1024, .f32⟩
  | 19 => ⟨S8x4096x3072, .f32⟩
  | 20 => ⟨S8x4096x512, .bf16⟩
  | 21 => ⟨S8x4096x512, .f32⟩
  | 22 => ⟨S8x4096x512, .f32⟩
  | 23 => ⟨S_, .f32⟩
  | 24 => ⟨S8x4096x512, .f32⟩
  | 25 => ⟨S8x4096x512, .f32⟩
  | 26 => ⟨S_, .f32⟩
  | 27 => ⟨S8x4096x512, .f32⟩
  | 28 => ⟨S8x4096x512, .f32⟩
  | 29 => ⟨S8x4096x512, .f32⟩
  | 30 => ⟨S8x4096x512, .bf16⟩
  | 31 => ⟨S8x4096x3072, .bf16⟩
  | 32 => ⟨S8x4096x1024, .f32⟩
  | 33 => ⟨S8x4096x1024, .f32⟩
  | 34 => ⟨S_, .f32⟩
  | 35 => ⟨S8x4096x1024, .f32⟩
  | 36 => ⟨S8x4096x1024, .f32⟩
  | 37 => ⟨S_, .f32⟩
  | 38 => ⟨S8x4096x1024, .f32⟩
  | 39 => ⟨S8x4096x1024, .f32⟩
  | 40 => ⟨S8x4096x1024, .f32⟩
  | 41 => ⟨S8x4096x1024, .bf16⟩
  | 42 => ⟨S8x4096x1024, .f32⟩
  | 43 => ⟨S8x4096x1024, .f32⟩
  | 44 => ⟨S_, .f32⟩
  | 45 => ⟨S8x4096x1024, .f32⟩
  | 46 => ⟨S8x4096x1024, .f32⟩
  | 47 => ⟨S_, .f32⟩
  | 48 => ⟨S8x4096x1024, .f32⟩
  | 49 => ⟨S8x4096x1024, .f32⟩
  | 50 => ⟨S8x4096x1024, .bf16⟩
  | 51 => ⟨S8x4096x1024, .f32⟩
  | 52 => ⟨S8x4096x1024, .f32⟩
  | 53 => ⟨S_, .f32⟩
  | 54 => ⟨S8x4096x1024, .f32⟩
  | 55 => ⟨S8x4096x1024, .f32⟩
  | 56 => ⟨S_, .f32⟩
  | 57 => ⟨S8x4096x1024, .f32⟩
  | 58 => ⟨S8x4096x1024, .f32⟩
  | 59 => ⟨S8x4096x1024, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_2 : Ref sig .tc := ⟨.hbm, 48, rfl⟩
abbrev main_v39 : Ref sig .tc := ⟨.hbm, 49, rfl⟩
abbrev main_v40 : Ref sig .tc := ⟨.hbm, 50, rfl⟩
abbrev main_cst_3 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_4 : Ref sig .tc := ⟨.hbm, 57, rfl⟩
abbrev main_v46 : Ref sig .tc := ⟨.hbm, 58, rfl⟩
abbrev main_v47 : Ref sig .tc := ⟨.hbm, 59, rfl⟩
abbrev main_cst_5 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_6 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_7 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_c : Ref sig .tc := ⟨.hbm, 85, rfl⟩
abbrev main_call0_v0 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_cst_8 : Ref sig .tc := ⟨.hbm, 110, rfl⟩
abbrev main_v93 : Ref sig .tc := ⟨.hbm, 111, rfl⟩
abbrev main_v94 : Ref sig .tc := ⟨.hbm, 112, rfl⟩
abbrev main_cst_9 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_cst_10 : Ref sig .tc := ⟨.hbm, 122, rfl⟩
abbrev main_v103 : Ref sig .tc := ⟨.hbm, 123, rfl⟩
abbrev main_v104 : Ref sig .tc := ⟨.hbm, 124, rfl⟩
abbrev main_cst_11 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_cst_12 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_cst_13 : Ref sig .tc := ⟨.hbm, 136, rfl⟩
abbrev main_v114 : Ref sig .tc := ⟨.hbm, 137, rfl⟩
abbrev main_v115 : Ref sig .tc := ⟨.hbm, 138, rfl⟩
abbrev main_cst_14 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_cst_15 : Ref sig .tc := ⟨.hbm, 151, rfl⟩
abbrev main_v127 : Ref sig .tc := ⟨.hbm, 152, rfl⟩
abbrev main_v128 : Ref sig .tc := ⟨.hbm, 153, rfl⟩
abbrev main_cst_16 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_cst_17 : Ref sig .tc := ⟨.hbm, 162, rfl⟩
abbrev main_v136 : Ref sig .tc := ⟨.hbm, 163, rfl⟩
abbrev main_v137 : Ref sig .tc := ⟨.hbm, 164, rfl⟩
abbrev main_cst_18 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_cst_19 : Ref sig .tc := ⟨.hbm, 172, rfl⟩
abbrev main_v144 : Ref sig .tc := ⟨.hbm, 173, rfl⟩
abbrev main_v145 : Ref sig .tc := ⟨.hbm, 174, rfl⟩
abbrev main_cst_20 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_cst_21 : Ref sig .tc := ⟨.hbm, 181, rfl⟩
abbrev main_v151 : Ref sig .tc := ⟨.hbm, 182, rfl⟩
abbrev main_v152 : Ref sig .tc := ⟨.hbm, 183, rfl⟩
abbrev main_cst_22 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩

abbrev nD : Nat := 1
abbrev τ : Topo := Topo.v7x

variable {F : FTy → Type} [FloatOps F]
-- ==== Kernel3.lean ====
abbrev S8x4096x1024 : Shape := ⟨3, ![8, 4096, 1024]⟩
abbrev S16x3072 : Shape := ⟨2, ![16, 3072]⟩
abbrev S8x4x4096x128 : Shape := ⟨4, ![8, 4, 4096, 128]⟩
abbrev S8x4096x512 : Shape := ⟨3, ![8, 4096, 512]⟩
abbrev S4x128x128 : Shape := ⟨3, ![4, 128, 128]⟩
abbrev S512x1024 : Shape := ⟨2, ![512, 1024]⟩
abbrev S1024x1024 : Shape := ⟨2, ![1024, 1024]⟩
abbrev S128 : Shape := ⟨1, ![128]⟩
abbrev S1024 : Shape := ⟨1, ![1024]⟩
abbrev S256 : Shape := ⟨1, ![256]⟩
abbrev S_ : Shape := ⟨0, ![]⟩
abbrev S64 : Shape := ⟨1, ![64]⟩
abbrev S64x1 : Shape := ⟨2, ![64, 1]⟩
abbrev S1x256 : Shape := ⟨2, ![1, 256]⟩
abbrev S64x256 : Shape := ⟨2, ![64, 256]⟩
abbrev S64x512 : Shape := ⟨2, ![64, 512]⟩
abbrev S16x1x3072 : Shape := ⟨3, ![16, 1, 3072]⟩
abbrev S1x128 : Shape := ⟨2, ![1, 128]⟩
abbrev S1x1024 : Shape := ⟨2, ![1, 1024]⟩
abbrev S1x512x1024 : Shape := ⟨3, ![1, 512, 1024]⟩
abbrev S1x1x3072 : Shape := ⟨3, ![1, 1, 3072]⟩
abbrev S1x4x512x128 : Shape := ⟨4, ![1, 4, 512, 128]⟩
abbrev S1x512x512 : Shape := ⟨3, ![1, 512, 512]⟩
abbrev S1x1x512x128 : Shape := ⟨4, ![1, 1, 512, 128]⟩
abbrev S512x128 : Shape := ⟨2, ![512, 128]⟩
abbrev S1x128x128 : Shape := ⟨3, ![1, 128, 128]⟩
abbrev S128x128 : Shape := ⟨2, ![128, 128]⟩
abbrev S512x512 : Shape := ⟨2, ![512, 512]⟩
abbrev S512 : Shape := ⟨1, ![512]⟩
abbrev S512x1 : Shape := ⟨2, ![512, 1]⟩
abbrev S1x3072 : Shape := ⟨2, ![1, 3072]⟩
abbrev S8x512 : Shape := ⟨2, ![8, 512]⟩
abbrev S8x64x1024 : Shape := ⟨3, ![8, 64, 1024]⟩
abbrev S8x1x512 : Shape := ⟨3, ![8, 1, 512]⟩
abbrev S8x64x512 : Shape := ⟨3, ![8, 64, 512]⟩
abbrev S1x64x512 : Shape := ⟨3, ![1, 64, 512]⟩
abbrev S256x1024 : Shape := ⟨2, ![256, 1024]⟩
abbrev S256x1 : Shape := ⟨2, ![256, 1]⟩
abbrev S1x256x1024 : Shape := ⟨3, ![1, 256, 1024]⟩

abbrev nBuf : Space → Nat
  | .hbm => 52
  | .vmem => 27
  | .smem => 0
  | _ => 0

abbrev bufTy : (tb : Table) → Fin (tcTables nBuf tb) → BufTy
  | .hbm, ⟨0, _⟩ => ⟨S8x4096x1024, .f32⟩
  | .hbm, ⟨1, _⟩ => ⟨S16x3072, .f32⟩
  | .hbm, ⟨2, _⟩ => ⟨S8x4x4096x128, .f32⟩
  | .hbm, ⟨3, _⟩ => ⟨S8x4096x512, .bf16⟩
  | .hbm, ⟨4, _⟩ => ⟨S8x4096x1024, .bf16⟩
  | .hbm, ⟨5, _⟩ => ⟨S8x4096x1024, .bf16⟩
  | .hbm, ⟨6, _⟩ => ⟨S8x4096x1024, .bf16⟩
  | .hbm, ⟨7, _⟩ => ⟨S8x4096x1024, .bf16⟩
  | .hbm, ⟨8, _⟩ => ⟨S4x128x128, .f32⟩
  | .hbm, ⟨9, _⟩ => ⟨S512x1024, .f32⟩
  | .hbm, ⟨10, _⟩ => ⟨S1024x1024, .f32⟩
  | .hbm, ⟨11, _⟩ => ⟨S1024x1024, .f32⟩
  | .hbm, ⟨12, _⟩ => ⟨S128, .f32⟩
  | .hbm, ⟨13, _⟩ => ⟨S1024, .f32⟩
  | .hbm, ⟨14, _⟩ => ⟨S1024, .f32⟩
  | .hbm, ⟨15, _⟩ => ⟨S256, .f32⟩
  | .hbm, ⟨16, _⟩ => ⟨S_, .f32⟩
  | .hbm, ⟨17, _⟩ => ⟨S256, .f32⟩
  | .hbm, ⟨18, _⟩ => ⟨S256, .f32⟩
  | .hbm, ⟨19, _⟩ => ⟨S_, .f32⟩
  | .hbm, ⟨20, _⟩ => ⟨S256, .f32⟩
  | .hbm, ⟨21, _⟩ => ⟨S256, .f32⟩
  | .hbm, ⟨22, _⟩ => ⟨S_, .f32⟩
  | .hbm, ⟨23, _⟩ => ⟨S256, .f32⟩
  | .hbm, ⟨24, _⟩ => ⟨S256, .f32⟩
  | .hbm, ⟨25, _⟩ => ⟨S64, .f32⟩
  | .hbm, ⟨26, _⟩ => ⟨S64x1, .f32⟩
  | .hbm, ⟨27, _⟩ => ⟨S1x256, .f32⟩
  | .hbm, ⟨28, _⟩ => ⟨S64x256, .f32⟩
  | .hbm, ⟨29, _⟩ => ⟨S64x256, .f32⟩
  | .hbm, ⟨30, _⟩ => ⟨S64x256, .f32⟩
  | .hbm, ⟨31, _⟩ => ⟨S64, .f32⟩
  | .hbm, ⟨32, _⟩ => ⟨S64x1, .f32⟩
  | .hbm, ⟨33, _⟩ => ⟨S1x256, .f32⟩
  | .hbm, ⟨34, _⟩ => ⟨S64x256, .f32⟩
  | .hbm, ⟨35, _⟩ => ⟨S64x256, .f32⟩
  | .hbm, ⟨36, _⟩ => ⟨S64x256, .f32⟩
  | .hbm, ⟨37, _⟩ => ⟨S64x256, .f32⟩
  | .hbm, ⟨38, _⟩ => ⟨S64x256, .f32⟩
  | .hbm, ⟨39, _⟩ => ⟨S64x512, .f32⟩
  | .hbm, ⟨40, _⟩ => ⟨S64x256, .f32⟩
  | .hbm, ⟨41, _⟩ => ⟨S64x256, .f32⟩
  | .hbm, ⟨42, _⟩ => ⟨S64x512, .f32⟩
  | .hbm, ⟨43, _⟩ => ⟨S16x1x3072, .f32⟩
  | .hbm, ⟨44, _⟩ => ⟨S4x128x128, .bf16⟩
  | .hbm, ⟨45, _⟩ => ⟨S512x1024, .bf16⟩
  | .hbm, ⟨46, _⟩ => ⟨S1024x1024, .bf16⟩
  | .hbm, ⟨47, _⟩ => ⟨S1024x1024, .bf16⟩
  | .hbm, ⟨48, _⟩ => ⟨S1x128, .f32⟩
  | .hbm, ⟨49, _⟩ => ⟨S1x1024, .f32⟩
  | .hbm, ⟨50, _⟩ => ⟨S1x1024, .f32⟩
  | .hbm, ⟨51, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x3072, .f32⟩
  | .local _ .vmem, ⟨3, _⟩ => ⟨S1x1x3072, .f32⟩
  | .local _ .vmem, ⟨4, _⟩ => ⟨S64x512, .f32⟩
  | .local _ .vmem, ⟨5, _⟩ => ⟨S64x512, .f32⟩
  | .local _ .vmem, ⟨6, _⟩ => ⟨S1x4x512x128, .f32⟩
  | .local _ .vmem, ⟨7, _⟩ => ⟨S1x4x512x128, .f32⟩
  | .local _ .vmem, ⟨8, _⟩ => ⟨S1x512x512, .bf16⟩
  | .local _ .vmem, ⟨9, _⟩ => ⟨S1x512x512, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x512x1024, .bf16⟩
  | .local _ .vmem, ⟨18, _⟩ => ⟨S4x128x128, .bf16⟩
  | .local _ .vmem, ⟨19, _⟩ => ⟨S512x1024, .bf16⟩
  | .local _ .vmem, ⟨20, _⟩ => ⟨S1024x1024, .bf16⟩
  | .local _ .vmem, ⟨21, _⟩ => ⟨S1024x1024, .bf16⟩
  | .local _ .vmem, ⟨22, _⟩ => ⟨S1x128, .f32⟩
  | .local _ .vmem, ⟨23, _⟩ => ⟨S1x1024, .f32⟩
  | .local _ .vmem, ⟨24, _⟩ => ⟨S1x1024, .f32⟩
  | .local _ .vmem, ⟨25, _⟩ => ⟨S1x512x1024, .f32⟩
  | .local _ .vmem, ⟨26, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_v4 : Ref sig .tc := ⟨.hbm, 21, rfl⟩
abbrev main_cst_1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg17_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem17_1 : DmaSem sig := 26

abbrev nD : Nat := 1
abbrev τ : Topo := Topo.v7x

variable {F : FTy → Type} [FloatOps F]

abbrev grid0 : Pipeline.Grid := ⟨2, ![8, 8], ![false, false]⟩

def k0_off1 (i : grid0.Coords) : Fin 2 → Nat :=
  let arg1 : BitVec 32 := BitVec.ofNat 32 (i 1).val
  let c8_i32 : BitVec 32 := 8#32
  let v165 : BitVec 32 := Scalar.muli arg1 c8_i32
  let v166 : Index := Scalar.indexCast v165
  let c0_80 : Index := 0#32
  ![v166.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x4x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S4x128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1x512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Reference3Ideal.lean ====
abbrev S8x4096x1024 : Shape := ⟨3, ![8, 4096, 1024]⟩
abbrev S16x3072 : Shape := ⟨2, ![16, 3072]⟩
abbrev S8x4x4096x128 : Shape := ⟨4, ![8, 4, 4096, 128]⟩
abbrev S8x4096x512 : Shape := ⟨3, ![8, 4096, 512]⟩
abbrev S4x128x128 : Shape := ⟨3, ![4, 128, 128]⟩
abbrev S512x1024 : Shape := ⟨2, ![512, 1024]⟩
abbrev S1024x1024 : Shape := ⟨2, ![1024, 1024]⟩
abbrev S128 : Shape := ⟨1, ![128]⟩
abbrev S1024 : Shape := ⟨1, ![1024]⟩
abbrev S256 : Shape := ⟨1, ![256]⟩
abbrev S_ : Shape := ⟨0, ![]⟩
abbrev S64 : Shape := ⟨1, ![64]⟩
abbrev S64x1 : Shape := ⟨2, ![64, 1]⟩
abbrev S1x256 : Shape := ⟨2, ![1, 256]⟩
abbrev S64x256 : Shape := ⟨2, ![64, 256]⟩
abbrev S64x512 : Shape := ⟨2, ![64, 512]⟩
abbrev S64x1x512 : Shape := ⟨3, ![64, 1, 512]⟩
abbrev S64x64x512 : Shape := ⟨3, ![64, 64, 512]⟩
abbrev S1x64x512 : Shape := ⟨3, ![1, 64, 512]⟩
abbrev S64x64x1024 : Shape := ⟨3, ![64, 64, 1024]⟩
abbrev S4096x1024 : Shape := ⟨2, ![4096, 1024]⟩
abbrev S1x4096x1024 : Shape := ⟨3, ![1, 4096, 1024]⟩
abbrev S8x1024 : Shape := ⟨2, ![8, 1024]⟩
abbrev S8x1x1024 : Shape := ⟨3, ![8, 1, 1024]⟩
abbrev S4x128x8x4096 : Shape := ⟨4, ![4, 128, 8, 4096]⟩
abbrev S8x4096x4x128 : Shape := ⟨4, ![8, 4096, 4, 128]⟩
abbrev S8x4096x8x128 : Shape := ⟨4, ![8, 4096, 8, 128]⟩
abbrev S8x4096x8 : Shape := ⟨3, ![8, 4096, 8]⟩
abbrev S8x4096x8x1 : Shape := ⟨4, ![8, 4096, 8, 1]⟩
abbrev S1x1x1x128 : Shape := ⟨4, ![1, 1, 1, 128]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 123
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S16x3072, .f32⟩
  | .hbm, ⟨2, _⟩ => ⟨S8x4x4096x128, .f32⟩
  | .hbm, ⟨3, _⟩ => ⟨S8x4096x512, .bf16⟩
  | .hbm, ⟨4, _⟩ => ⟨S8x4096x1024, .bf16⟩
  | .hbm, ⟨5, _⟩ => ⟨S8x4096x1024, .bf16⟩
  | .hbm, ⟨6, _⟩ => ⟨S8x4096x1024, .bf16⟩
  | .hbm, ⟨7, _⟩ => ⟨S8x4096x1024, .bf16⟩
  | .hbm, ⟨8, _⟩ => ⟨S4x128x128, .f32⟩
  | .hbm, ⟨9, _⟩ => ⟨S512x1024, .f32⟩
  | .hbm, ⟨10, _⟩ => ⟨S1024x1024, .f32⟩
  | .hbm, ⟨11, _⟩ => ⟨S1024x1024, .f32⟩
  | .hbm, ⟨12, _⟩ => ⟨S128, .f32⟩
  | .hbm, ⟨13, _⟩ => ⟨S1024, .f32⟩
  | .hbm, ⟨14, _⟩ => ⟨S1024, .f32⟩
  | .hbm, ⟨15, _⟩ => ⟨S256, .f32⟩
  | .hbm, ⟨16, _⟩ => ⟨S_, .f32⟩
  | .hbm, ⟨17, _⟩ => ⟨S256, .f32⟩
  | .hbm, ⟨18, _⟩ => ⟨S256, .f32⟩
  | .hbm, ⟨19, _⟩ => ⟨S_, .f32⟩
  | .hbm, ⟨20, _⟩ => ⟨S256, .f32⟩
  | .hbm, ⟨21, _⟩ => ⟨S256, .f32⟩
  | .hbm, ⟨22, _⟩ => ⟨S_, .f32⟩
  | .hbm, ⟨23, _⟩ => ⟨S256, .f32⟩
  | .hbm, ⟨24, _⟩ => ⟨S256, .f32⟩
  | .hbm, ⟨25, _⟩ => ⟨S64, .f32⟩
  | .hbm, ⟨26, _⟩ => ⟨S64x1, .f32⟩
  | .hbm, ⟨27, _⟩ => ⟨S1x256, .f32⟩
  | .hbm, ⟨28, _⟩ => ⟨S64x256, .f32⟩
  | .hbm, ⟨29, _⟩ => ⟨S64x256, .f32⟩
  | .hbm, ⟨30, _⟩ => ⟨S64x256, .f32⟩
  | .hbm, ⟨31, _⟩ => ⟨S64, .f32⟩
  | .hbm, ⟨32, _⟩ => ⟨S64x1, .f32⟩
  | .hbm, ⟨33, _⟩ => ⟨S1x256, .f32⟩
  | .hbm, ⟨34, _⟩ => ⟨S64x256, .f32⟩
  | .hbm, ⟨35, _⟩ => ⟨S64x256, .f32⟩
  | .hbm, ⟨36, _⟩ => ⟨S64x256, .f32⟩
  | .hbm, ⟨37, _⟩ => ⟨S64x256, .f32⟩
  | .hbm, ⟨38, _⟩ => ⟨S64x256, .f32⟩
  | .hbm, ⟨39, _⟩ => ⟨S64x512, .f32⟩
  | .hbm, ⟨40, _⟩ => ⟨S64x256, .f32⟩
  | .hbm, ⟨41, _⟩ => ⟨S64x256, .f32⟩
  | .hbm, ⟨42, _⟩ => ⟨S64x512, .f32⟩
  | .hbm, ⟨43, _⟩ => ⟨S64x1x512, .f32⟩
  | .hbm, ⟨44, _⟩ => ⟨S64x64x512, .f32⟩
  | .hbm, ⟨45, _⟩ => ⟨S1x64x512, .f32⟩
  | .hbm, ⟨46, _⟩ => ⟨S64x64x512, .f32⟩
  | .hbm, ⟨47, _⟩ => ⟨S64x64x1024, .f32⟩
  | .hbm, ⟨48, _⟩ => ⟨S4096x1024, .f32⟩
  | .hbm, ⟨49, _⟩ => ⟨S1x4096x1024, .f32⟩
  | .hbm, ⟨50, _⟩ => ⟨S8x4096x1024, .f32⟩
  | .hbm, ⟨51, _⟩ => ⟨S8x4096x1024, .f32⟩
  | .hbm, ⟨52, _⟩ => ⟨S8x1024, .f32⟩
  | .hbm, ⟨53, _⟩ => ⟨S8x1x1024, .f32⟩
  | .hbm, ⟨54, _⟩ => ⟨S4x128x8x4096, .f32⟩
  | .hbm, ⟨55, _⟩ => ⟨S8x4096x4x128, .f32⟩
  | .hbm, ⟨56, _⟩ => ⟨S8x4096x512, .f32⟩
  | .hbm, ⟨57, _⟩ => ⟨S8x4096x512, .f32⟩
  | .hbm, ⟨58, _⟩ => ⟨S8x4096x512, .f32⟩
  | .hbm, ⟨59, _⟩ => ⟨S8x4096x1024, .f32⟩
  | .hbm, ⟨60, _⟩ => ⟨S8x4096x1024, .f32⟩
  | .hbm, ⟨61, _⟩ => ⟨S8x4096x8x128, .f32⟩
  | .hbm, ⟨62, _⟩ => ⟨S8x4096x8x128, .f32⟩
  | .hbm, ⟨63, _⟩ => ⟨S_, .f32⟩
  | .hbm, ⟨64, _⟩ => ⟨S8x4096x8, .f32⟩
  | .hbm, ⟨65, _⟩ => ⟨S8x4096x8x1, .f32⟩
  | .hbm, ⟨66, _⟩ => ⟨S_, .f32⟩
  | .hbm, ⟨67, _⟩ => ⟨S8x4096x8x1, .f32⟩
  | .hbm, ⟨68, _⟩ => ⟨S8x4096x8x1, .f32⟩
  | .hbm, ⟨69, _⟩ => ⟨S_, .f32⟩
  | .hbm, ⟨70, _⟩ => ⟨S8x4096x8x1, .f32⟩
  | .hbm, ⟨71, _⟩ => ⟨S8x4096x8x1, .f32⟩
  | .hbm, ⟨72, _⟩ => ⟨S8x4096x8x1, .f32⟩
  | .hbm, ⟨73, _⟩ => ⟨S8x4096x8x128, .f32⟩
  | .hbm, ⟨74, _⟩ => ⟨S8x4096x8x128, .f32⟩
  | .hbm, ⟨75, _⟩ => ⟨S1x1x1x128, .f32⟩
  | .hbm, ⟨76, _⟩ => ⟨S8x4096x8x128, .f32⟩
  | .hbm, ⟨77, _⟩ => ⟨S8x4096x8x128, .f32⟩
  | .hbm, ⟨78, _⟩ => ⟨S8x4096x1024, .f32⟩
  | .hbm, ⟨79, _⟩ => ⟨S8x4096x1024, .f32⟩
  | .hbm, ⟨80, _⟩ => ⟨S8x4096x1024, .f32⟩
  | .hbm, ⟨81, _⟩ => ⟨S8x4096x1024, .f32⟩
  | .hbm, ⟨82, _⟩ => ⟨S8x4096x1024, .f32⟩
  | .hbm, ⟨83, _⟩ => ⟨S8x4096x1024, .f32⟩
  | .hbm, ⟨84, _⟩ => ⟨S8x4096x1024, .f32⟩
  | .hbm, ⟨85, _⟩ => ⟨S8x4096x1024, .f32⟩
  | .hbm, ⟨86, _⟩ => ⟨S8x4096x1024, .f32⟩
  | .hbm, ⟨87, _⟩ => ⟨S8x4096x1024, .f32⟩
  | .hbm, ⟨88, _⟩ => ⟨S_, .f32⟩
  | .hbm, ⟨89, _⟩ => ⟨S8x4096x1024, .f32⟩
  | .hbm, ⟨90, _⟩ => ⟨S8x4096x1024, .f32⟩
  | .hbm, ⟨91, _⟩ => ⟨S8x4096x1024, .f32⟩
  | .hbm, ⟨92, _⟩ => ⟨S8x4096x1024, .f32⟩
  | .hbm, ⟨93, _⟩ => ⟨S8x4096x1024, .f32⟩
  | .hbm, ⟨94, _⟩ => ⟨S_, .f32⟩
  | .hbm, ⟨95, _⟩ => ⟨S8x4096, .f32⟩
  | .hbm, ⟨96, _⟩ => ⟨S8x4096x1, .f32⟩
  | .hbm, ⟨97, _⟩ => ⟨S_, .f32⟩
  | .hbm, ⟨98, _⟩ => ⟨S8x4096x1, .f32⟩
  | .hbm, ⟨99, _⟩ => ⟨S8x4096x1, .f32⟩
  | .hbm, ⟨100, _⟩ => ⟨S8x4096x1024, .f32⟩
  | .hbm, ⟨101, _⟩ => ⟨S8x4096x1024, .f32⟩
  | .hbm, ⟨102, _⟩ => ⟨S8x4096x1024, .f32⟩
  | .hbm, ⟨103, _⟩ => ⟨S_, .f32⟩
  | .hbm, ⟨104, _⟩ => ⟨S8x4096, .f32⟩
  | .hbm, ⟨105, _⟩ => ⟨S8x4096x1, .f32⟩
  | .hbm, ⟨106, _⟩ => ⟨S_, .f32⟩
  | .hbm, ⟨107, _⟩ => ⟨S8x4096x1, .f32⟩
  | .hbm, ⟨108, _⟩ => ⟨S8x4096x1, .f32⟩
  | .hbm, ⟨109, _⟩ => ⟨S8x4096x1024, .f32⟩
  | .hbm, ⟨110, _⟩ => ⟨S8x4096x1024, .f32⟩
  | .hbm, ⟨111, _⟩ => ⟨S_, .f32⟩
  | .hbm, ⟨112, _⟩ => ⟨S8x4096x1, .f32⟩
  | .hbm, ⟨113, _⟩ => ⟨S8x4096x1, .f32⟩
  | .hbm, ⟨114, _⟩ => ⟨S8x4096x1, .f32⟩
  | .hbm, ⟨115, _⟩ => ⟨S8x4096x1024, .f32⟩
  | .hbm, ⟨116, _⟩ => ⟨S8x4096x1024, .f32⟩
  | .hbm, ⟨117, _⟩ => ⟨S1x1x1024, .f32⟩
  | .hbm, ⟨118, _⟩ => ⟨S8x4096x1024, .f32⟩
  | .hbm, ⟨119, _⟩ => ⟨S8x4096x1024, .f32⟩
  | .hbm, ⟨120, _⟩ => ⟨S1x1x1024, .f32⟩
  | .hbm, ⟨121, _⟩ => ⟨S8x4096x1024, .f32⟩
  | .hbm, ⟨122, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_v4 : Ref sig .tc := ⟨.hbm, 21, rfl⟩
abbrev main_cst_1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_2 : Ref sig .tc := ⟨.hbm, 63, rfl⟩
abbrev main_v45 : Ref sig .tc := ⟨.hbm, 64, rfl⟩
abbrev main_v46 : Ref sig .tc := ⟨.hbm, 65, rfl⟩
abbrev main_cst_3 : Ref sig .tc := ⟨.hbm, 66, rfl⟩
abbrev main_v47 : Ref sig .tc := ⟨.hbm, 67, rfl⟩
abbrev main_v48 : Ref sig .tc := ⟨.hbm, 68, rfl⟩
abbrev main_cst_4 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_5 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_6 : Ref sig .tc := ⟨.hbm, 94, rfl⟩
abbrev main_v72 : Ref sig .tc := ⟨.hbm, 95, rfl⟩
abbrev main_v73 : Ref sig .tc := ⟨.hbm, 96, rfl⟩
abbrev main_cst_7 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_8 : Ref sig .tc := ⟨.hbm, 103, rfl⟩
abbrev main_v79 : Ref sig .tc := ⟨.hbm, 104, rfl⟩
abbrev main_v80 : Ref sig .tc := ⟨.hbm, 105, rfl⟩
abbrev main_cst_9 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_cst_10 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩

abbrev nD : Nat := 1
abbrev τ : Topo := Topo.v7x

variable {F : FTy → Type} [FloatOps F]
-- ==== Proof.Fourier.Body.lean ====
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.WritesUnit
public import Idealize.ShloMosaic.Lib.Pointwise

@[expose] public section

set_option maxRecDepth 16384

noncomputable section

namespace Cert.KernelIdeal.Fourier

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one grid point computes -/

/-- Rows `1024 q … 1024 q + 1023` of one batch's values, the columns of channel group `g`. -/
abbrev rows (x0 : Vec F S1x4096x512 .bf16) (q : ℕ) (hq : q < 4) (g : ℕ) (hg : g < 4) : Vec F S1x1024x128 .bf16 :=
  View.ld x0 (Rect.unit (s := S1x4096x512) ![0, 1024 * q, 128 * g] S1x1024x128.size (fun a => by
    fin_cases a <;> simp <;> omega))

/-- The two channel products (with the cosine and with the sine columns) of the quarter-turn combination of the four
    row blocks `l0 … l3` that position residue `a` uses. -/
def pairOf (a : Fin 4) (r : Vec F S256x256 .bf16) (l0 l1 l2 l3 : Vec F S1x1024x128 .bf16) (h : Fin 2) : FVec F S1024x128 .bf16 :=
  match a, h with
  | 0, 0 => k0_pay5 (k0_pay1 r) l0 l1 l2 l3
  | 0, 1 => k0_pay6 (k0_pay1 r) l0 l1 l2 l3
  | 1, 0 => k0_pay28 (k0_pay1 r) l0 l1 l2 l3
  | 1, 1 => k0_pay29 (k0_pay1 r) l0 l1 l2 l3
  | 2, 0 => k0_pay50 (k0_pay1 r) l0 l1 l2 l3
  | 2, 1 => k0_pay51 (k0_pay1 r) l0 l1 l2 l3
  | 3, 0 => k0_pay73 (k0_pay1 r) l0 l1 l2 l3
  | 3, 1 => k0_pay74 (k0_pay1 r) l0 l1 l2 l3

/-- The channel matrix as the body loads it. -/
abbrev wholeR (x2 : Vec F S256x256 .bf16) : Vec F S256x256 .bf16 :=
  View.ld x2 (Rect.unit (s := S256x256) ![0, 0] S256x256.size inb_S256x256_S256x256_0_0)

/-- The residue's position matrix as the body loads it. -/
abbrev wholeM (x1 : Vec F S1x1024x2048 .bf16) : Vec F S1x1024x2048 .bf16 :=
  View.ld x1 (Rect.unit (s := S1x1024x2048) ![0, 0, 0] S1x1024x2048.size inb_S1x1024x2048_S1x1024x2048_0_0_0)

/-- `pairOf` on the rows of channel group `g`. -/
def pairAt (a : Fin 4) (x0 : Vec F S1x4096x512 .bf16) (x2 : Vec F S256x256 .bf16) (g : ℕ) (hg : g < 4) (h : Fin 2) : FVec F S1024x128 .bf16 :=
  pairOf a (wholeR x2) (rows x0 0 (by omega) g hg) (rows x0 1 (by omega) g hg) (rows x0 2 (by omega) g hg) (rows x0 3 (by omega) g hg) h

/-- Two channel groups side by side, the cosine products above the sine products. -/
def panel (w : Fin 2 → Fin 2 → FVec F S1024x128 .bf16) : Vec F S2048x256 .bf16 := fun j =>
  if h : (j 1).val < 128 then
    if k : (j 0).val < 1024 then w 0 0 (ix2 ⟨(j 0).val, k⟩ ⟨(j 1).val, h⟩)
    else w 0 1 (ix2 ⟨(j 0).val - 1024, by have : (j 0).val < 2048 := (j 0).isLt; omega⟩ ⟨(j 1).val, h⟩)
  else
    if k : (j 0).val < 1024 then w 1 0 (ix2 ⟨(j 0).val, k⟩ ⟨(j 1).val - 128, by have : (j 1).val < 256 := (j 1).isLt; omega⟩)
    else w 1 1 (ix2 ⟨(j 0).val - 1024, by have : (j 0).val < 2048 := (j 0).isLt; omega⟩ ⟨(j 1).val - 128, by have : (j 1).val < 256 := (j 1).isLt; omega⟩)

/-- The panel of channel groups `2 p` and `2 p + 1`. -/
def panelAt (a : Fin 4) (x0 : Vec F S1x4096x512 .bf16) (x2 : Vec F S256x256 .bf16) (p : ℕ) (hp : p < 2) : Vec F S2048x256 .bf16 :=
  panel ![pairAt a x0 x2 (2 * p) (by omega), pairAt a x0 x2 (2 * p + 1) (by omega)]

/-- The output rows of residue `a` in channel group `g`. -/
def tile (a : Fin 4) (x0 : Vec F S1x4096x512 .bf16) (x1 : Vec F S1x1024x2048 .bf16) (x2 : Vec F S256x256 .bf16) (g : Fin 4) : FVec F S1x1x1024x128 .f32 :=
  match g with
  | 0 => k0_pay36 (wholeM x1) (panelAt a x0 x2 0 (by omega))
  | 1 => k0_pay37 (wholeM x1) (panelAt a x0 x2 0 (by omega))
  | 2 => k0_pay36 (wholeM x1) (panelAt a x0 x2 1 (by omega))
  | 3 => k0_pay37 (wholeM x1) (panelAt a x0 x2 1 (by omega))

/-- `Y` with its rows of residue `a` modulo 4 replaced by `V`, channel group by channel group. -/
def putRows (a : ℕ) (V : Fin 4 → Vec F S1x1x1024x128 .f32) (Y : Vec F S1x4x4096x128 .f32) : Vec F S1x4x4096x128 .f32 := fun y =>
  if (y 2).val % 4 = a then
    V (y 1) (ix4 0 0 ⟨(y 2).val / 4, by have : (y 2).val < 4096 := (y 2).isLt; omega⟩ (y 3))
  else Y y

/-! ## Reading the stores back -/

section Read

variable {κ : Kind} {sp : Space}

/-- Every fourth row of one channel group, stored last. -/
theorem read_row_cons (v : View sig κ sp S1x4x4096x128 .f32) (f : v.ty.Contents (Elt F)) (a g : ℕ) (ha : a < 4)
    (o : Fin 4 → ℕ) (ho : o = ![0, g, a, 0])
    (inb : ∀ x, S1x1x1024x128.size x = 0 ∨ o x + (![1, 1, 4, 1] : Fin 4 → ℕ) x * (S1x1x1024x128.size x - 1) < S1x4x4096x128.size x)
    (sp' : ∀ x, 0 < (![1, 1, 4, 1] : Fin 4 → ℕ) x)
    (w : Vec F S1x1x1024x128 .f32) (L : List (View.Piece (Elt F) S1x4x4096x128 .f32)) (y : S1x4x4096x128.Idx) :
    v.read (Elt F) (v.writes (Elt F) f (⟨⟨⟨o, S1x1x1024x128.size, ![1, 1, 4, 1], inb⟩, sp'⟩, w⟩ :: L)) y
      = if (y 1).val = g ∧ (y 2).val % 4 = a then
          w (ix4 0 0 ⟨(y 2).val / 4, by have : (y 2).val < 4096 := (y 2).isLt; omega⟩ (y 3))
        else v.read (Elt F) (v.writes (Elt F) f L) y := by
  subst ho
  split
  · next h =>
    obtain ⟨h1, h2⟩ := h
    have e : (⟨⟨![0, g, a, 0], S1x1x1024x128.size, ![1, 1, 4, 1], inb⟩, sp'⟩ : Rect S1x4x4096x128).emb
        (ix4 0 0 ⟨(y 2).val / 4, by have : (y 2).val < 4096 := (y 2).isLt; omega⟩ (y 3)) = y := by
      funext x
      apply Fin.ext
      fin_cases x
      · have : (y 0).val < 1 := (y 0).isLt
        show 0 + 1 * 0 = (y 0).val
        omega
      · show g + 1 * 0 = (y 1).val
        omega
      · show a + 4 * ((y 2).val / 4) = (y 2).val
        omega
      · show 0 + 1 * (y 3).val = (y 3).val
        omega
    exact (congrArg (v.read (Elt F) (v.writes (Elt F) f
      (⟨⟨⟨![0, g, a, 0], S1x1x1024x128.size, ![1, 1, 4, 1], inb⟩, sp'⟩, w⟩ :: L))) e.symm).trans
      (View.read_writes_cons_emb v f ⟨⟨![0, g, a, 0], S1x1x1024x128.size, ![1, 1, 4, 1], inb⟩, sp'⟩ w L _)
  · next h =>
    rw [View.writes_cons]
    refine View.read_slice_write_of_not_mem _ _ _ _ ?_
    intro hm
    obtain ⟨x, -, rfl⟩ := Finset.mem_map.mp hm
    apply h
    have h1 : (x 1).val < 1 := (x 1).isLt
    refine ⟨?_, ?_⟩
    · show g + 1 * (x 1).val = g
      omega
    · show (a + 4 * (x 2).val) % 4 = a
      omega

/-- The four channel groups' rows of one residue. -/
theorem read_rows (v : View sig κ sp S1x4x4096x128 .f32) (f : v.ty.Contents (Elt F)) (a : ℕ) (ha : a < 4)
    {o0 o1 o2 o3 : Fin 4 → ℕ} (h0 : o0 = ![0, 0, a, 0]) (h1 : o1 = ![0, 1, a, 0]) (h2 : o2 = ![0, 2, a, 0]) (h3 : o3 = ![0, 3, a, 0])
    (i0 i1 i2 i3) (sp' : ∀ x, 0 < (![1, 1, 4, 1] : Fin 4 → ℕ) x) (V : Fin 4 → Vec F S1x1x1024x128 .f32)
    {w0 w1 w2 w3 : Vec F S1x1x1024x128 .f32} (e0 : w0 = V 0) (e1 : w1 = V 1) (e2 : w2 = V 2) (e3 : w3 = V 3) :
    v.read (Elt F) (v.writes (Elt F) f [⟨⟨⟨o3, S1x1x1024x128.size, ![1, 1, 4, 1], i3⟩, sp'⟩, w3⟩,
        ⟨⟨⟨o2, S1x1x1024x128.size, ![1, 1, 4, 1], i2⟩, sp'⟩, w2⟩, ⟨⟨⟨o1, S1x1x1024x128.size, ![1, 1, 4, 1], i1⟩, sp'⟩, w1⟩,
        ⟨⟨⟨o0, S1x1x1024x128.size, ![1, 1, 4, 1], i0⟩, sp'⟩, w0⟩])
      = putRows a V (v.read (Elt F) f) := by
  subst e0 e1 e2 e3
  funext y
  rw [read_row_cons v f a 3 ha _ h3, read_row_cons v f a 2 ha _ h2, read_row_cons v f a 1 ha _ h1, read_row_cons v f a 0 ha _ h0]
  unfold putRows
  obtain ⟨y0, y1, y2, y3, rfl⟩ : ∃ (p : Fin 1) (q : Fin 4) (r : Fin 4096) (s : Fin 128), y = ix4 p q r s :=
    ⟨y 0, y 1, y 2, y 3, eq_ix4 y⟩
  by_cases hy : y2.val % 4 = a
  · fin_cases y1 <;> simp [ix4, hy]
  · simp [ix4, hy, View.writes]

/-- Two channel groups' products, stored half by half and read back together. -/
theorem read_panel (v : View sig κ sp S2048x512 .bf16) (c0 c1 : ℕ) (hc : c1 = c0 + 128)
    (i0 i1 i2 i3) (ib : ∀ x, (![0, c0] : Fin 2 → ℕ) x + S2048x256.size x ≤ S2048x512.size x)
    (w : Fin 2 → Fin 2 → FVec F S1024x128 .bf16) (L : List (View.Piece (Elt F) S2048x512 .bf16)) :
    View.readCov v (⟨Rect.unit (s := S2048x512) ![1024, c1] S1024x128.size i3, w 1 1⟩ :: ⟨Rect.unit (s := S2048x512) ![0, c1] S1024x128.size i2, w 1 0⟩
        :: ⟨Rect.unit (s := S2048x512) ![1024, c0] S1024x128.size i1, w 0 1⟩ :: ⟨Rect.unit (s := S2048x512) ![0, c0] S1024x128.size i0, w 0 0⟩ :: L)
      (Rect.unit (s := S2048x512) ![0, c0] S2048x256.size ib).toLoadRect = panel w := by
  subst hc
  funext j
  obtain ⟨p, q, rfl⟩ : ∃ (p : Fin 2048) (q : Fin 256), j = ix2 p q := ⟨j 0, j 1, eq_ix2 j⟩
  have e0 : (((Rect.unit (s := S2048x512) ![0, c0] S2048x256.size ib).toLoadRect.idx (ix2 p q)) 0).val = p.val := by
    show 0 + 1 * p.val = p.val
    omega
  have e1 : (((Rect.unit (s := S2048x512) ![0, c0] S2048x256.size ib).toLoadRect.idx (ix2 p q)) 1).val = c0 + q.val := by
    show c0 + 1 * q.val = c0 + q.val
    omega
  show v.read (Elt F) (v.writes (Elt F) v.junk _) ((Rect.unit (s := S2048x512) ![0, c0] S2048x256.size ib).toLoadRect.idx (ix2 p q)) = _
  generalize (Rect.unit (s := S2048x512) ![0, c0] S2048x256.size ib).toLoadRect.idx (ix2 p q) = y at e0 e1 ⊢
  have hp := p.isLt
  have hq := q.isLt
  have ey : ∀ (o : Fin 2 → ℕ) (r : ℕ) (c : ℕ), o = ![r, c] → ∀ x : S1024x128.Idx, (y 0).val = r + (x 0).val → (y 1).val = c + (x 1).val →
      ∀ a, (y a).val = o a + (x a).val := by
    intro o r c ho x h0 h1 a
    subst ho
    fin_cases a
    · exact h0
    · exact h1
  unfold panel
  by_cases h : q.val < 128 <;> by_cases k : p.val < 1024
  · rw [View.read_writes_cons_unit_of_not_mem _ _ i3 _ _ _ rfl 1 (Or.inl (by show _ < c0 + 128; omega)),
      View.read_writes_cons_unit_of_not_mem _ _ i2 _ _ _ rfl 1 (Or.inl (by show _ < c0 + 128; omega)),
      View.read_writes_cons_unit_of_not_mem _ _ i1 _ _ _ rfl 0 (Or.inl (by show _ < 1024; omega)),
      View.read_writes_cons_unit_of_mem _ _ i0 _ _ _ (ix2 ⟨p.val, k⟩ ⟨q.val, h⟩) rfl (ey _ 0 c0 rfl _ (by simp [ix2]; omega) (by simp [ix2]; omega))]
    rw [dif_pos (show ((ix2 p q : S2048x256.Idx) 1).val < 128 from h), dif_pos (show ((ix2 p q : S2048x256.Idx) 0).val < 1024 from k)]
    rfl
  · rw [View.read_writes_cons_unit_of_not_mem _ _ i3 _ _ _ rfl 1 (Or.inl (by show _ < c0 + 128; omega)),
      View.read_writes_cons_unit_of_not_mem _ _ i2 _ _ _ rfl 1 (Or.inl (by show _ < c0 + 128; omega)),
      View.read_writes_cons_unit_of_mem _ _ i1 _ _ _ (ix2 ⟨p.val - 1024, by omega⟩ ⟨q.val, h⟩) rfl (ey _ 1024 c0 rfl _ (by simp [ix2]; omega) (by simp [ix2]; omega))]
    rw [dif_pos (show ((ix2 p q : S2048x256.Idx) 1).val < 128 from h), dif_neg (show ¬ ((ix2 p q : S2048x256.Idx) 0).val < 1024 from k)]
    rfl
  · rw [View.read_writes_cons_unit_of_not_mem _ _ i3 _ _ _ rfl 0 (Or.inl (by show _ < 1024; omega)),
      View.read_writes_cons_unit_of_mem _ _ i2 _ _ _ (ix2 ⟨p.val, k⟩ ⟨q.val - 128, by omega⟩) rfl (ey _ 0 (c0 + 128) rfl _ (by simp [ix2]; omega) (by simp [ix2]; omega))]
    rw [dif_neg (show ¬ ((ix2 p q : S2048x256.Idx) 1).val < 128 from h), dif_pos (show ((ix2 p q : S2048x256.Idx) 0).val < 1024 from k)]
    rfl
  · rw [View.read_writes_cons_unit_of_mem _ _ i3 _ _ _ (ix2 ⟨p.val - 1024, by omega⟩ ⟨q.val - 128, by omega⟩) rfl (ey _ 1024 (c0 + 128) rfl _ (by simp [ix2]; omega) (by simp [ix2]; omega))]
    rw [dif_neg (show ¬ ((ix2 p q : S2048x256.Idx) 1).val < 128 from h), dif_neg (show ¬ ((ix2 p q : S2048x256.Idx) 0).val < 1024 from k)]
    rfl

end Read

end Cert.KernelIdeal.Fourier

end
-- ==== Proof.Fourier.Run.lean ====
module

public import proofs.«01_k».proof.Proof.Fourier.Body

@[expose] public section

set_option maxRecDepth 16384

noncomputable section

namespace Cert.KernelIdeal.Fourier

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's triple at a grid point of position residue `a`: the inputs' blocks are left as they were, of the output's
    block the rows of residue `a` are replaced by the tile's, every other row is left as found, and the panel the point
    stages its products through is left at some contents. -/
def Runs (a : Fin 4) (i : grid0.Coords) : Prop :=
  ∀ (c : Dev nD) (arg2 : Memref sig .tc .vmem S1x4096x512 .bf16) (harg2 : arg2.IsWhole)
    (arg3 : Memref sig .tc .vmem S1x1024x2048 .bf16) (harg3 : arg3.IsWhole)
    (arg4 : Memref sig .tc .vmem S256x256 .bf16) (harg4 : arg4.IsWhole)
    (arg5 : Memref sig .tc .vmem S1x4x4096x128 .f32) (harg5 : arg5.IsWhole)
    (arg6 : Memref sig .tc .vmem S2048x512 .bf16) (harg6 : arg6.IsWhole)
    (x0 : Vec F S1x4096x512 .bf16) (x1 : Vec F S1x1024x2048 .bf16) (x2 : Vec F S256x256 .bf16) (x3 : Vec F S1x4x4096x128 .f32)
    (E : Set ℕ) (K : PUnit → sProp 𝕄),
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (putRows a (tile a x0 x1 x2) x3)
            ∗ (∃ d, owns (c : Thread nD τ) arg6 fullShare d)) -∗ K ⟨⟩))
      ⊢ wp frame (wpE (defs₀ (F := F)) Variants.none c none) E
          (cc0_fourier i arg2 harg2 arg3 harg3 arg4 harg4 arg5 harg5 arg6 harg6) K

set_option maxHeartbeats 2000000 in
theorem run_0 (i : grid0.Coords) (hi : (i 1).val = 0) : Runs (F := F) 0 i := by
  intro c arg2 harg2 arg3 harg3 arg4 harg4 arg5 harg5 arg6 harg6 x0 x1 x2 x3 E K
  have hc0 : k0_cond1 i = 1#1 := by unfold k0_cond1; rw [hi]; decide
  have hc1 : ¬ k0_cond2 i = 1#1 := by unfold k0_cond2; rw [hi]; decide
  have hc2 : ¬ k0_cond3 i = 1#1 := by unfold k0_cond3; rw [hi]; decide
  have hc3 : ¬ k0_cond4 i = 1#1 := by unfold k0_cond4; rw [hi]; decide
  simp only [cc0_fourier_eq_skeleton]; unfold cc0_fourier_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%d6, %f6, -, HS0⟩, Hk⟩
  subst hf0; subst hf1; subst hf2; subst hf3
  sl_exec (disch := first | sl_exact hc0 | sl_exact hc1 | sl_exact hc2 | sl_exact hc3)
  sl_step
  iapply Hk
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro
    have p0 := read_panel arg6.view 0 128 rfl (by decide) (by decide) (by decide) (by decide) (by decide)
      ![pairAt 0 (arg2.view.read (Elt F) f0) (arg4.view.read (Elt F) f2) 0 (by omega), pairAt 0 (arg2.view.read (Elt F) f0) (arg4.view.read (Elt F) f2) 1 (by omega)] []
    have p1 := fun L => read_panel arg6.view 256 384 rfl (by decide) (by decide) (by decide) (by decide) (by decide)
      ![pairAt 0 (arg2.view.read (Elt F) f0) (arg4.view.read (Elt F) f2) 2 (by omega), pairAt 0 (arg2.view.read (Elt F) f0) (arg4.view.read (Elt F) f2) 3 (by omega)] L
    exact read_rows arg5.view f3 0 (by decide) (by unfold k0_off1; rw [hi]; rfl) (by unfold k0_off2; rw [hi]; rfl) (by unfold k0_off3; rw [hi]; rfl) (by unfold k0_off4; rw [hi]; rfl) _ _ _ _ spos_1_1_4_1 (tile 0 _ _ _)
      (congrArg (k0_pay36 _) p0) (congrArg (k0_pay37 _) p0) (congrArg (k0_pay36 _) (p1 _)) (congrArg (k0_pay37 _) (p1 _))
  iexists _, _; isplitr; swap; · iexact HS0
  ipureintro; rfl

set_option maxHeartbeats 2000000 in
theorem run_1 (i : grid0.Coords) (hi : (i 1).val = 1) : Runs (F := F) 1 i := by
  intro c arg2 harg2 arg3 harg3 arg4 harg4 arg5 harg5 arg6 harg6 x0 x1 x2 x3 E K
  have hc0 : ¬ k0_cond1 i = 1#1 := by unfold k0_cond1; rw [hi]; decide
  have hc1 : k0_cond2 i = 1#1 := by unfold k0_cond2; rw [hi]; decide
  have hc2 : ¬ k0_cond3 i = 1#1 := by unfold k0_cond3; rw [hi]; decide
  have hc3 : ¬ k0_cond4 i = 1#1 := by unfold k0_cond4; rw [hi]; decide
  simp only [cc0_fourier_eq_skeleton]; unfold cc0_fourier_skel
  simp only [k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%d6, %f6, -, HS0⟩, Hk⟩
  subst hf0; subst hf1; subst hf2; subst hf3
  sl_exec (disch := first | sl_exact hc0 | sl_exact hc1 | sl_exact hc2 | sl_exact hc3)
  sl_step
  iapply Hk
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro
    have p0 := read_panel arg6.view 0 128 rfl (by decide) (by decide) (by decide) (by decide) (by decide)
      ![pairAt 1 (arg2.view.read (Elt F) f0) (arg4.view.read (Elt F) f2) 0 (by omega), pairAt 1 (arg2.view.read (Elt F) f0) (arg4.view.read (Elt F) f2) 1 (by omega)] []
    have p1 := fun L => read_panel arg6.view 256 384 rfl (by decide) (by decide) (by decide) (by decide) (by decide)
      ![pairAt 1 (arg2.view.read (Elt F) f0) (arg4.view.read (Elt F) f2) 2 (by omega), pairAt 1 (arg2.view.read (Elt F) f0) (arg4.view.read (Elt F) f2) 3 (by omega)] L
    exact read_rows arg5.view f3 1 (by decide) (by unfold k0_off5; rw [hi]; rfl) (by unfold k0_off6; rw [hi]; rfl) (by unfold k0_off7; rw [hi]; rfl) (by unfold k0_off8; rw [hi]; rfl) _ _ _ _ spos_1_1_4_1 (tile 1 _ _ _)
      (congrArg (k0_pay36 _) p0) (congrArg (k0_pay37 _) p0) (congrArg (k0_pay36 _) (p1 _)) (congrArg (k0_pay37 _) (p1 _))
  iexists _, _; isplitr; swap; · iexact HS0
  ipureintro; rfl

set_option maxHeartbeats 2000000 in
theorem run_2 (i : grid0.Coords) (hi : (i 1).val = 2) : Runs (F := F) 2 i := by
  intro c arg2 harg2 arg3 harg3 arg4 harg4 arg5 harg5 arg6 harg6 x0 x1 x2 x3 E K
  have hc0 : ¬ k0_cond1 i = 1#1 := by unfold k0_cond1; rw [hi]; decide
  have hc1 : ¬ k0_cond2 i = 1#1 := by unfold k0_cond2; rw [hi]; decide
  have hc2 : k0_cond3 i = 1#1 := by unfold k0_cond3; rw [hi]; decide
  have hc3 : ¬ k0_cond4 i = 1#1 := by unfold k0_cond4; rw [hi]; decide
  simp only [cc0_fourier_eq_skeleton]; unfold cc0_fourier_skel
  simp only [k0_part9_eq_skeleton, k0_part10_eq_skeleton, k0_part11_eq_skeleton, k0_part12_eq_skeleton]
  unfold owns
  iintro ⟨⟨%f0, %hf0, H0⟩, ⟨%f1, %hf1, H1⟩, ⟨%f2, %hf2, H2⟩, ⟨%f3, %hf3, H3⟩, ⟨%d6, %f6, -, HS0⟩, Hk⟩
  subst hf0; subst hf1; subst hf2; subst hf3
  sl_exec (disch := first | sl_exact hc0 | sl_exact hc1 | sl_exact hc2 | sl_exact hc3)
  sl_step
  iapply Hk
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro
    have p0 := read_panel arg6.view 0 128 rfl (by decide) (by decide) (by decide) (by decide) (by decide)
      ![pairAt 2 (arg2.view.read (Elt F) f0) (arg4.view.read (Elt F) f2) 0 (by omega), pairAt 2 (arg2.view.read (Elt F) f0) (arg4.view.read (Elt F) f2) 1 (by omega)] []
    have p1 := fun L => read_panel arg6.view 256 384 rfl (by decide) (by decide) (by decide) (by decide) (by decide)
      ![pairAt 2 (arg2.view.read (Elt F) f0) (arg4.view.read (Elt F) f2) 2 (by omega), pairAt 2 (arg2.view.read (Elt F) f0) (arg4.view.read (Elt F) f2) 3 (by omega)] L
    exact read_rows arg5.view f3 2 (by decide) (by unfold k0_off9; rw [hi]; rfl) (by unfold k0_off10; rw [hi]; rfl) (by unfold k0_off11; rw [hi]; rfl) (by unfold k0_off12; rw [hi]; rfl) _ _ _ _ spos_1_1_4_1 (tile 2 _ _ _)
      (congrArg (k0_pay36 _) p0) (congrArg (k0_pay37 _) p0) (congrArg (k0_pay36 _) (p1 _)) (congrArg (k0_pay37 _) (p1 _))
  iexists _, _; isplitr; swap; · iexact HS0
  ipureintro; rfl

set_option maxHeartbeats 2000000 in
theorem run_3 (i : grid0.Coords) (hi : (i 1).val = 3) : Runs (F := F) 3 i := by
  intro c arg2 harg2 arg3 harg3 arg4 harg4 arg5 harg5 arg6 harg6 x0 x1 x2 x3 E K
  have hc0 : ¬ k0_cond1 i = 1#1 := by unfold k0_cond1; rw [hi]; decide
  have hc1 : ¬ k0_cond2 i = 1#1 := by unfold k0_cond2; rw [hi]; decide
  have hc2 : ¬ k0_cond3 i = 1#1 := by unfold k0_cond3; rw [hi]; decide
  have hc3 : k0_cond4 i = 1#1 := by unfold k0_cond4; rw [hi]; decide
  simp only [cc0_fourier_eq_skeleton]; unfold cc0_fourier_skel
  simp only [k0_part13_eq_skeleton, k0_part14_eq_skeleton, k0_part15_eq_skeleton, k0_part16_eq_skeleton]
  unfold owns
  iintro ⟨⟨%f0, %hf0, H0⟩, ⟨%f1, %hf1, H1⟩, ⟨%f2, %hf2, H2⟩, ⟨%f3, %hf3, H3⟩, ⟨%d6, %f6, -, HS0⟩, Hk⟩
  subst hf0; subst hf1; subst hf2; subst hf3
  sl_exec (disch := first | sl_exact hc0 | sl_exact hc1 | sl_exact hc2 | sl_exact hc3)
  sl_step
  iapply Hk
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro
    have p0 := read_panel arg6.view 0 128 rfl (by decide) (by decide) (by decide) (by decide) (by decide)
      ![pairAt 3 (arg2.view.read (Elt F) f0) (arg4.view.read (Elt F) f2) 0 (by omega), pairAt 3 (arg2.view.read (Elt F) f0) (arg4.view.read (Elt F) f2) 1 (by omega)] []
    have p1 := fun L => read_panel arg6.view 256 384 rfl (by decide) (by decide) (by decide) (by decide) (by decide)
      ![pairAt 3 (arg2.view.read (Elt F) f0) (arg4.view.read (Elt F) f2) 2 (by omega), pairAt 3 (arg2.view.read (Elt F) f0) (arg4.view.read (Elt F) f2) 3 (by omega)] L
    exact read_rows arg5.view f3 3 (by decide) (by unfold k0_off13; rw [hi]; rfl) (by unfold k0_off14; rw [hi]; rfl) (by unfold k0_off15; rw [hi]; rfl) (by unfold k0_off16; rw [hi]; rfl) _ _ _ _ spos_1_1_4_1 (tile 3 _ _ _)
      (congrArg (k0_pay36 _) p0) (congrArg (k0_pay37 _) p0) (congrArg (k0_pay36 _) (p1 _)) (congrArg (k0_pay37 _) (p1 _))
  iexists _, _; isplitr; swap; · iexact HS0
  ipureintro; rfl

end Cert.KernelIdeal.Fourier

end
-- ==== Proof.Fourier.Frame.lean ====
module

public import proofs.«01_k».proof.Proof.Gen.KernelIdeal.Frame
public import proofs.«01_k».proof.Proof.Fourier.Run
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Fourier

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The proof data: inputs are left as found; point `t` puts its tile on the rows `t mod 4` -/

variable (m : (ℓ : Loc nD τ sig) → Buf (Elt F) ℓ) (ρ : Dev nD → PrngReg)

/-- The rows a point of the inner axis fills: those of index `t mod 4` modulo four. -/
abbrev turn (t : Fin cfg0.N) : Fin 4 := ⟨t.val % 4, Nat.mod_lt _ (by decide)⟩

/-- The tile of group `g` that point `t` computes from its blocks. -/
def tileAt (c : Dev nD) (t : Fin cfg0.N) (g : Fin 4) : Vec F S1x1x1024x128 .f32 :=
  tile (turn t) (iblk m c 0 t) (iblk m c 1 t) (iblk m c 2 t) g

/-- What the body leaves in each window's buffer, given what it found there. -/
def rdat (c : Dev nD) : Pipeline.RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = putRows (turn t) (tileAt m c t) Y
  Φ _ := Pipeline.ΦA spec0 c
  q _ := fullShare
  owed _ := 0

theorem A_eq (c : Dev nD) (w : Fin cfg0.W) : (rdat m c).A w = V m c (Pipeline.arrRef spec0 w) := by
  dsimp only [rdat]

theorem after_3 (c : Dev nD) (t : Fin cfg0.N) (Y X) :
    (rdat m c).after 3 t Y X ↔ X = putRows (turn t) (tileAt m c t) Y := by
  dsimp only [rdat]; exact Iff.rfl

/-- The input buffers hold their blocks at every point, fetched there or not. -/
theorem finds_0 (c : Dev nD) (t : Fin cfg0.N) (Y) (h : (rdat m c).Finds 0 t Y) : Y = iblk m c 0 t := by
  obtain ⟨d, hd⟩ := (rdat m c).finds_in_eq_fetched 0 rfl (fun _ _ _ => rfl) (fun t Y X h => by dsimp only [rdat] at h; exact h) t Y h
  rw [hd]; unfold Pipeline.RDat.fetched Pipeline.RDat.blockOf iblk; rw [A_eq]; try rfl
theorem finds_1 (c : Dev nD) (t : Fin cfg0.N) (Y) (h : (rdat m c).Finds 1 t Y) : Y = iblk m c 1 t := by
  obtain ⟨d, hd⟩ := (rdat m c).finds_in_eq_fetched 1 rfl (fun _ _ _ => rfl) (fun t Y X h => by dsimp only [rdat] at h; exact h) t Y h
  rw [hd]; unfold Pipeline.RDat.fetched Pipeline.RDat.blockOf iblk; rw [A_eq]; try rfl
theorem finds_2 (c : Dev nD) (t : Fin cfg0.N) (Y) (h : (rdat m c).Finds 2 t Y) : Y = iblk m c 2 t := by
  obtain ⟨d, hd⟩ := (rdat m c).finds_in_eq_fetched 2 rfl (fun _ _ _ => rfl) (fun t Y X h => by dsimp only [rdat] at h; exact h) t Y h
  rw [hd]; unfold Pipeline.RDat.fetched Pipeline.RDat.blockOf iblk; rw [A_eq]; try rfl

/-! ## The body at a point -/

/-- The inner coordinate of point `t` is `t mod 4`. -/
theorem coord_1 (t : Fin cfg0.N) : (grid0.coords t 1).val = t.val % 4 := by
  have h : (grid0.coords t 1).val = t.val / 1 % 4 := Pipeline.Grid.coords_val t 1 (by decide) rfl
  rw [h, Nat.div_one]

theorem runs_at (t : Fin cfg0.N) : Runs (F := F) (turn t) (grid0.coords t) := by
  have h4 : t.val % 4 < 4 := Nat.mod_lt _ (by decide)
  have hc := coord_1 t
  rcases (by omega : t.val % 4 = 0 ∨ t.val % 4 = 1 ∨ t.val % 4 = 2 ∨ t.val % 4 = 3) with h | h | h | h
  · rw [show turn t = 0 from Fin.ext h]; exact run_0 _ (hc.trans h)
  · rw [show turn t = 1 from Fin.ext h]; exact run_1 _ (hc.trans h)
  · rw [show turn t = 2 from Fin.ext h]; exact run_2 _ (hc.trans h)
  · rw [show turn t = 3 from Fin.ext h]; exact run_3 _ (hc.trans h)

theorem PhiA0_eq (c : Dev nD) : (Pipeline.ΦA spec0 c : sProp 𝕄)
    = iprop((∃ d, owns (c : Thread nD τ) (Memref.whole cc0_scratch0) fullShare d) ∗ (∃ g, prngReg c g)) := by
  unfold Pipeline.ΦA; rw [scopedRest0_eq]; simp only [owns_whole]

theorem defs₀_row (t : Fin cfg0.N) :
    defs₀ (F := F) .tc cfg0.body (cfg0.bodyArgs t (cfg0.slots t)) = bodyAt0 t := by
  unfold defs₀; rw [Defs.onTc_tc]

theorem sound_body (c : Dev nD) (t : Fin cfg0.N) (Y : Vec F S1x4x4096x128 .f32) :
    iprop((rdat m c).Φ t.castSucc ∗ (rdat m c).owesAt () t.castSucc
      ∗ owns (c : Thread nD τ) (st0_0 t) fullShare (iblk m c 0 t)
      ∗ owns (c : Thread nD τ) (st0_1 t) fullShare (iblk m c 1 t)
      ∗ owns (c : Thread nD τ) (st0_2 t) fullShare (iblk m c 2 t)
      ∗ owns (c : Thread nD τ) (st0_3 t) fullShare Y)
    ⊢ wp frame (wpE (defs₀ (F := F)) Variants.none c none) Set.univ (bodyAt0 t) (fun _ =>
      iprop((rdat m c).Φ t.succ ∗ (rdat m c).owesAt () t.succ
        ∗ (∃ X, ⌜X = iblk m c 0 t⌝ ∗ owns (c : Thread nD τ) (st0_0 t) fullShare X)
        ∗ (∃ X, ⌜X = iblk m c 1 t⌝ ∗ owns (c : Thread nD τ) (st0_1 t) fullShare X)
        ∗ (∃ X, ⌜X = iblk m c 2 t⌝ ∗ owns (c : Thread nD τ) (st0_2 t) fullShare X)
        ∗ (∃ X, ⌜X = putRows (turn t) (tileAt m c t) Y⌝ ∗ owns (c : Thread nD τ) (st0_3 t) fullShare X))) := by
  unfold bodyAt0
  rw [show (rdat m c).Φ t.succ = (rdat m c).Φ t.castSucc from rfl,
    show (rdat m c).owesAt () t.succ = (rdat m c).owesAt () t.castSucc from rfl]
  rw [show (rdat m c).Φ t.castSucc = Pipeline.ΦA spec0 c from rfl, PhiA0_eq]
  iintro ⟨⟨HS, Hg⟩, Ho, H0, H1, H2, H3⟩
  iapply ((runs_at t) c _ _ _ _ _ _ _ _ _ _ (iblk m c 0 t) (iblk m c 1 t) (iblk m c 2 t) Y Set.univ _)
  isplitl [H0]; · iexact H0
  isplitl [H1]; · iexact H1
  isplitl [H2]; · iexact H2
  isplitl [H3]; · iexact H3
  isplitl [HS]; · iexact HS
  iintro ⟨H0, H1, H2, H3, HS⟩
  isplitl [HS Hg]
  · isplitl [HS]
    · iexact HS
    iexact Hg
  isplitl [Ho]; · iexact Ho
  isplitl [H0]; · iexists _; isplitr; · ipureintro; rfl
                  iexact H0
  isplitl [H1]; · iexists _; isplitr; · ipureintro; rfl
                  iexact H1
  isplitl [H2]; · iexists _; isplitr; · ipureintro; rfl
                  iexact H2
  iexists _; isplitr; · ipureintro; rfl
  iexact H3

theorem body_obligation (c : Dev nD) : (rdat (F := F) m c).BodyObligation (defs₀ (F := F)) Variants.none () Set.univ := fun t Y hY => by
  have e0 := finds_0 m c t _ (hY 0)
  have e1 := finds_1 m c t _ (hY 1)
  have e2 := finds_2 m c t _ (hY 2)
  rw [bigSep_W0, bigSep_W0, defs₀_row, e0, e1, e2]
  exact triple_restated (sound_body m c t (Y 3)) rfl .rfl fun _ => .rfl

/-! ## The run and the frame -/

set_option backward.isDefEq.respectTransparency.types false in
theorem run_main_quiescent : θ_run defs (onTc (τ := τ) (main (F := F))) (s₀ m ρ)
    (fun r => (Pipeline.RDat.FramePost (cfgs 0) (rdat m) (V m)) r ∧ r.2.sem = fun _ => 0) :=
  Pipeline.RDat.θ_run_frame (Q' := _) cfgs (0 : Fin 1) launch0 defs₀ Variants.none (rdat m) m ρ main
    (hbody := body_obligation m) (hshare := fun c => (rdat m c).share_full fun _ => rfl)
    (howed := fun _ _ => rfl) (V := V m) (hmain := hmain m Variants.none) (hA := A_eq m) (hΦ := fun _ _ => rfl)

/-- The argument array ends as it began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h.1.arr_in c 0 rfl).trans ((A_eq m c 0).trans (V_main_arg0 m c))) (run_main_quiescent m ρ)

/-- The frame: the argument array ends as it began and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

end Cert.KernelIdeal.Fourier

end
-- ==== Proof.Fourier.Tables.lean ====
module

public import Idealize.ShloMosaic.PureOps
public import Idealize.ShloMosaic.PureOps.Ideal
public import Idealize.ShloMosaic.Lib.IdealHost
public import Idealize.ShloMosaic.Lib.Affine
public import Idealize.ShloMosaic.Lib.Pointwise

@[expose] public section

set_option maxRecDepth 16384

noncomputable section

/-! # The angle tables of a discrete Fourier transform

`angle` is the table of `(i · j mod p) · (2π / p)` as the programs compute it, on 32-bit words and floats; read over the
extended reals it is that real number. -/

namespace Cert.Dft

open Idealize.ShloMosaic

abbrev S0 : Shape := ⟨0, ![]⟩
abbrev Sh (r c : ℕ) : Shape := ⟨2, ![r, c]⟩

variable {F : FTy → Type} [FloatOps F]

/-- The remainder by a positive number, with the sign fix that a floor division would need. -/
def rem {s : Shape} (h : S0.BroadcastsInDim s (![] : Fin 0 → Fin s.rank)) (x : IVec s 32) (p : BitVec 32) : IVec s 32 :=
  select (andi (cmpi .ne (cmpi .slt (Host.remsi x (broadcastInDim s ![] h (select (cmpi .eq (id (constantI S0 32 p)) (constantI S0 32 0#32)) (constantI S0 32 1#32) (id (constantI S0 32 p)))))
        (broadcastInDim s ![] h (constantI S0 32 0#32)))
      (broadcastInDim s ![] h (cmpi .slt (select (cmpi .eq (id (constantI S0 32 p)) (constantI S0 32 0#32)) (constantI S0 32 1#32) (id (constantI S0 32 p))) (constantI S0 32 0#32))))
    (cmpi .ne (Host.remsi x (broadcastInDim s ![] h (select (cmpi .eq (id (constantI S0 32 p)) (constantI S0 32 0#32)) (constantI S0 32 1#32) (id (constantI S0 32 p)))))
      (broadcastInDim s ![] h (constantI S0 32 0#32))))
    (addi (Host.remsi x (broadcastInDim s ![] h (select (cmpi .eq (id (constantI S0 32 p)) (constantI S0 32 0#32)) (constantI S0 32 1#32) (id (constantI S0 32 p)))))
      (broadcastInDim s ![] h (select (cmpi .eq (id (constantI S0 32 p)) (constantI S0 32 0#32)) (constantI S0 32 1#32) (id (constantI S0 32 p)))))
    (Host.remsi x (broadcastInDim s ![] h (select (cmpi .eq (id (constantI S0 32 p)) (constantI S0 32 0#32)) (constantI S0 32 1#32) (id (constantI S0 32 p)))))

/-- `2π / p`, `π` being the arc cosine of `-1` and `p` the number of the word `w`. -/
def step (w : BitVec 32) : FVec F S0 .f32 :=
  Host.divf (mulf (constant S0 .f32 0x40000000#32) (Host.acos (constant S0 .f32 0xBF800000#32))) (constant S0 .f32 w)

theorem rem_word (k q : ℕ) (hk : k < 2 ^ 31) (hq : 0 < q) (hq' : q < 2 ^ 31) :
    IntOp.remsi .host (BitVec.ofNat 32 k) (BitVec.ofNat 32 q) = BitVec.ofNat 32 (k % q) := by
  apply BitVec.eq_of_toNat_eq
  have h1 : (BitVec.ofNat 32 k).toNat = k := by rw [BitVec.toNat_ofNat]; omega
  rw [IntOp.toNat_remsi _ (by rw [h1]; omega) q hq (by omega), h1, BitVec.toNat_ofNat]
  have := Nat.mod_lt k hq
  omega

theorem slt_zero (k : ℕ) (hk : k < 2 ^ 31) : IntOp.cmpi .slt (BitVec.ofNat 32 k) 0#32 = 0#1 := by
  have h1 : (BitVec.ofNat 32 k).toInt = k := by
    rw [BitVec.toInt_eq_toNat_of_lt (by rw [BitVec.toNat_ofNat]; omega), BitVec.toNat_ofNat]; omega
  have h2 : (BitVec.ofNat 32 k).slt 0#32 = false := by
    rw [BitVec.slt, h1]; simp
  simp only [IntOp.cmpi, h2]; rfl

theorem rem_apply {s : Shape} (h : S0.BroadcastsInDim s (![] : Fin 0 → Fin s.rank)) (x : IVec s 32) (i : s.Idx) (k q : ℕ)
    (hx : x i = BitVec.ofNat 32 k) (hk : k < 2 ^ 31) (hq : 0 < q) (hq' : q < 2 ^ 31) :
    rem h x (BitVec.ofNat 32 q) i = BitVec.ofNat 32 (k % q) := by
  have hne : (BitVec.ofNat 32 q == 0#32) = false := by
    rw [beq_eq_false_iff_ne]; intro e
    have := congrArg BitVec.toNat e
    rw [BitVec.toNat_ofNat] at this; simp at this; omega
  have e : Scalar.select (IntOp.cmpi .eq (BitVec.ofNat 32 q) 0#32) 1#32 (BitVec.ofNat 32 q) = BitVec.ofNat 32 q := by
    simp only [IntOp.cmpi, hne]; rfl
  show Scalar.select (IntOp.andi (IntOp.cmpi .ne (IntOp.cmpi .slt (IntOp.remsi .host (x i) (Scalar.select (IntOp.cmpi .eq (BitVec.ofNat 32 q) 0#32) 1#32 (BitVec.ofNat 32 q))) 0#32)
      (IntOp.cmpi .slt (Scalar.select (IntOp.cmpi .eq (BitVec.ofNat 32 q) 0#32) 1#32 (BitVec.ofNat 32 q)) 0#32))
    (IntOp.cmpi .ne (IntOp.remsi .host (x i) (Scalar.select (IntOp.cmpi .eq (BitVec.ofNat 32 q) 0#32) 1#32 (BitVec.ofNat 32 q))) 0#32))
    _ (IntOp.remsi .host (x i) (Scalar.select (IntOp.cmpi .eq (BitVec.ofNat 32 q) 0#32) 1#32 (BitVec.ofNat 32 q))) = _
  rw [e, hx, rem_word k q hk hq hq', slt_zero q hq', slt_zero (k % q) (lt_of_le_of_lt (Nat.mod_le _ _) hk)]
  have z : ∀ w : BitVec 1, IntOp.andi (IntOp.cmpi .ne 0#1 0#1) w = 0#1 := by decide
  rw [z]; rfl

/-- The products `i · j`. -/
def products (r c : ℕ) (h0 : (⟨1, ![r]⟩ : Shape).BroadcastsInDim (Sh r 1) ![0]) (h1 : (⟨1, ![c]⟩ : Shape).BroadcastsInDim (Sh 1 c) ![1])
    (h2 : (Sh r 1).BroadcastsInDim (Sh r c) ![0, 1]) (h3 : (Sh 1 c).BroadcastsInDim (Sh r c) ![0, 1]) : IVec (Sh r c) 32 :=
  muli (broadcastInDim (Sh r c) ![0, 1] h2 (broadcastInDim (Sh r 1) ![0] h0 (iotaInDim ⟨1, ![r]⟩ 32 0)))
    (broadcastInDim (Sh r c) ![0, 1] h3 (broadcastInDim (Sh 1 c) ![1] h1 (iotaInDim ⟨1, ![c]⟩ 32 0)))

/-- The angle table. -/
def angle (r c : ℕ) (h0 : (⟨1, ![r]⟩ : Shape).BroadcastsInDim (Sh r 1) ![0]) (h1 : (⟨1, ![c]⟩ : Shape).BroadcastsInDim (Sh 1 c) ![1])
    (h2 : (Sh r 1).BroadcastsInDim (Sh r c) ![0, 1]) (h3 : (Sh 1 c).BroadcastsInDim (Sh r c) ![0, 1])
    (h4 : S0.BroadcastsInDim (Sh r c) ![]) (p w : BitVec 32) : FVec F (Sh r c) .f32 :=
  mulf (sitofp .f32 (rem h4 (products r c h0 h1 h2 h3) p)) (broadcastInDim (Sh r c) ![] h4 (step w))

theorem products_apply (r c : ℕ) (hr : r ≠ 1) (hc : c ≠ 1) (h0 h1 h2 h3) (i : Fin r) (j : Fin c) :
    products r c h0 h1 h2 h3 (ix2 i j) = BitVec.ofNat 32 (i.val * j.val) := by
  have e : products r c h0 h1 h2 h3 (ix2 i j) = BitVec.ofNat 32 i.val * BitVec.ofNat 32 j.val := by
    unfold products
    pointwise
    simp [hr, hc, IntOp.muli, Shape.Idx.norm, ix2]
    rfl
  rw [e, BitVec.ofNat_mul]

theorem two_word : (FloatOps.ofBits .f32 0x40000000#32 : Ideal .f32) = ((2 : ℝ) : EReal) := by
  show Ideal.ofBits .f32 _ = _
  simp [Ideal.ofBits, Ideal.ieee, -EReal.coe_mul]; norm_num

theorem neg_one_word : (FloatOps.ofBits .f32 0xBF800000#32 : Ideal .f32) = ((-1 : ℝ) : EReal) := by
  show Ideal.ofBits .f32 _ = _
  simp [Ideal.ofBits, Ideal.ieee, -EReal.coe_mul, -EReal.coe_neg]; norm_num

theorem step_eq (w : BitVec 32) (q : ℕ) (hq : 0 < q) (hw : (FloatOps.ofBits .f32 w : Ideal .f32) = ((q : ℝ) : EReal)) (i : S0.Idx) :
    (step (F := Ideal) w) i = ((2 * Real.pi / q : ℝ) : EReal) := by
  show Ideal.div ((FloatOps.ofBits .f32 0x40000000#32 : Ideal .f32) * Ideal.acos (FloatOps.ofBits .f32 0xBF800000#32 : Ideal .f32)) (FloatOps.ofBits .f32 w : Ideal .f32) = _
  rw [hw, two_word, neg_one_word, Ideal.acos_coe, if_pos ⟨le_refl _, by norm_num⟩, Real.arccos_neg_one, ← EReal.coe_mul,
    Ideal.div_coe (by exact_mod_cast hq.ne'), ← EReal.coe_mul, mul_one_div]

theorem angle_apply (r c : ℕ) (hr : r ≠ 1) (hc : c ≠ 1) (h0 h1 h2 h3 h4) (q : ℕ) (w : BitVec 32) (hq : 0 < q) (hq' : q < 2 ^ 31)
    (hw : (FloatOps.ofBits .f32 w : Ideal .f32) = ((q : ℝ) : EReal)) (hrc : r * c ≤ 2 ^ 31) (i : Fin r) (j : Fin c) :
    angle (F := Ideal) r c h0 h1 h2 h3 h4 (BitVec.ofNat 32 q) w (ix2 i j) = (((i.val * j.val % q : ℕ) * (2 * Real.pi / q) : ℝ) : EReal) := by
  have hk : i.val * j.val < 2 ^ 31 := lt_of_lt_of_le (Nat.mul_lt_mul_of_lt_of_le i.isLt (le_of_lt j.isLt) (lt_of_le_of_lt (Nat.zero_le _) j.isLt)) hrc
  have hm : i.val * j.val % q < 2 ^ 31 := lt_of_le_of_lt (Nat.mod_le _ _) hk
  have e := rem_apply h4 _ (ix2 i j) _ q (products_apply r c hr hc h0 h1 h2 h3 i j) hk hq hq'
  show (((rem h4 (products r c h0 h1 h2 h3) (BitVec.ofNat 32 q) (ix2 i j)).toInt : ℝ) : EReal) * step (F := Ideal) w _ = _
  rw [e, step_eq w q hq hw, BitVec.toInt_eq_toNat_of_lt (by rw [BitVec.toNat_ofNat]; omega), BitVec.toNat_ofNat, Nat.mod_eq_of_lt (by omega)]
  push_cast
  rfl

end Cert.Dft

end
-- ==== Proof.Layer.Spec.lean ====
module

public import Idealize.ShloMosaic.Lib.Pointwise
public import Idealize.ShloMosaic.PureOps.Ideal

@[expose] public section

noncomputable section

/-! # The layer's formulas, row by row, over the extended reals

The rows are functions of the channel. Both the calls and the references are read as these. -/

namespace Cert.Layer

open Idealize.ShloMosaic

/-- The number that a 32-bit word stands for. -/
abbrev num (b : BitVec 32) : EReal := (FloatOps.ofBits .f32 b : Ideal .f32)

/-- The mean of a row of the length the word stands for. -/
def mean (b : BitVec 32) {n : ℕ} (f : Fin n → EReal) : EReal := Ideal.div (∑ i, f i) (num b)

/-- A row less its mean. -/
def centred (z : Fin 1024 → EReal) (d : Fin 1024) : EReal := z d - mean 0x44800000#32 z

/-- A normalised row: centred, and over the root of its mean square. -/
def normed (z : Fin 1024 → EReal) (d : Fin 1024) : EReal :=
  centred z d * Ideal.rsqrt (mean 0x44800000#32 (fun j => centred z j * centred z j) + num 0x358637BD#32)

/-- The position table: the first half of the channels from the token's row of the grid, the other from its column. -/
def position (T : Fin 64 → Fin 512 → EReal) (n : ℕ) (d : Fin 1024) : EReal :=
  if h : d.val < 512 then T ⟨n / 64 % 64, Nat.mod_lt _ (by decide)⟩ ⟨d.val, h⟩
  else T ⟨n % 64, Nat.mod_lt _ (by decide)⟩ ⟨d.val - 512, by omega⟩

/-- The transform's row through its group's mixing matrix. -/
def mixedRow (mix : Fin 4 → Fin 128 → EReal) (w : Fin 4 → Fin 128 → Fin 128 → EReal) (j : Fin 512) : EReal :=
  ∑ c, mix ⟨j.val / 128, by omega⟩ c * w ⟨j.val / 128, by omega⟩ c ⟨j.val % 128, by omega⟩

theorem mixedRow_of (mix : Fin 4 → Fin 128 → EReal) (w : Fin 4 → Fin 128 → Fin 128 → EReal) (j : Fin 512) (g : Fin 4) (e : Fin 128)
    (h : j.val = 128 * g.val + e.val) : mixedRow mix w j = ∑ c, mix g c * w g c e := by
  rw [mixedRow, show (⟨j.val / 128, by omega⟩ : Fin 4) = g from Fin.ext (by simp; omega), show (⟨j.val % 128, by omega⟩ : Fin 128) = e from Fin.ext (by simp; omega)]

/-- A row normalised head by head, by the root of the head's mean square, and weighted. -/
def headNormed (o : Fin 1024 → EReal) (nw : Fin 128 → EReal) (j : Fin 1024) : EReal :=
  o j * Ideal.rsqrt (mean 0x43000000#32 (fun e : Fin 128 => o ⟨128 * (j.val / 128) + e.val, by omega⟩ * o ⟨128 * (j.val / 128) + e.val, by omega⟩) + num 0x358637BD#32)
    * nw ⟨j.val % 128, by omega⟩

theorem headNormed_of (o : Fin 1024 → EReal) (nw : Fin 128 → EReal) (j : Fin 1024) (g : Fin 8) (e : Fin 128)
    (h : j.val = 128 * g.val + e.val) : headNormed o nw j
      = o ⟨128 * g.val + e.val, by have := g.isLt; have := e.isLt; omega⟩ * Ideal.rsqrt (mean 0x43000000#32 (fun e : Fin 128 => o ⟨128 * g.val + e.val, by have := g.isLt; have := e.isLt; omega⟩ * o ⟨128 * g.val + e.val, by have := g.isLt; have := e.isLt; omega⟩) + num 0x358637BD#32) * nw e := by
  have h1 : j.val / 128 = g.val := by omega
  have h2 : j.val % 128 = e.val := by omega
  simp only [headNormed, h1, h2]
  exact congrArg (fun q => q * _ * _) (congrArg o (Fin.ext h))

/-- The layer's row before the last normalisation: the token scaled, and the gated projection of the two merged branches. -/
def merged (tok gate : Fin 1024 → EReal) (mix : Fin 4 → Fin 128 → EReal) (w : Fin 4 → Fin 128 → Fin 128 → EReal) (fg : Fin 512 → EReal) (o sg rf rd : Fin 1024 → EReal)
    (wf : Fin 512 → Fin 1024 → EReal) (nw : Fin 128 → EReal) (wd wo : Fin 1024 → Fin 1024 → EReal) (d : Fin 1024) : EReal :=
  num 0x3F9837F0#32 * tok d + gate d * ∑ j, (rf j * (∑ i, (mixedRow mix w i * fg i) * wf i j) + rd j * (∑ i, (headNormed o nw i * sg i) * wd i j)) * wo j d

end Cert.Layer

end
-- ==== Proof.Layer.Position.lean ====
module

public import proofs.«01_k».proof.Proof.Layer.Spec

@[expose] public section

noncomputable section

/-! # The table of sines and cosines for the positions

Every program here builds it by the same operations, so one name serves them all. -/

namespace Cert.Layer

open Idealize.ShloMosaic

variable {F : FTy → Type} [FloatOps F]

/-- A concatenation of two pieces, piece by piece. -/
theorem cat_two {α : Type} {t : Shape} {d : Fin t.rank} {s s' : Shape} {a a' : s.Idx → α} {b b' : s'.Idx → α} {h h'}
    (ha : a = a') (hb : b = b') : concatenate t d [⟨s, a⟩, ⟨s', b⟩] h = concatenate t d [⟨s, a'⟩, ⟨s', b'⟩] h' := by
  subst ha; subst hb; rfl

/-- The angles: a coordinate times its channel's frequency. -/
def angles (h0 : (⟨0, ![]⟩ : Shape).BroadcastsInDim ⟨1, ![256]⟩ ![]) (h1 : (⟨1, ![64]⟩ : Shape).BroadcastsInDim ⟨2, ![64, 1]⟩ ![0])
    (h2 : (⟨1, ![256]⟩ : Shape).BroadcastsInDim ⟨2, ![1, 256]⟩ ![1]) (h3 : (⟨2, ![64, 1]⟩ : Shape).BroadcastsInDim ⟨2, ![64, 256]⟩ ![0, 1])
    (h4 : (⟨2, ![1, 256]⟩ : Shape).BroadcastsInDim ⟨2, ![64, 256]⟩ ![0, 1]) : FVec F ⟨2, ![64, 256]⟩ .f32 :=
  mulf (broadcastInDim ⟨2, ![64, 256]⟩ ![0, 1] h3 (broadcastInDim ⟨2, ![64, 1]⟩ ![0] h1 (sitofp .f32 (iotaInDim ⟨1, ![64]⟩ 32 0))))
    (broadcastInDim ⟨2, ![64, 256]⟩ ![0, 1] h4 (broadcastInDim ⟨2, ![1, 256]⟩ ![1] h2
      (Host.divf (broadcastInDim ⟨1, ![256]⟩ ![] h0 (constant ⟨0, ![]⟩ .f32 0x3F800000#32))
        (Host.powf (broadcastInDim ⟨1, ![256]⟩ ![] h0 (constant ⟨0, ![]⟩ .f32 0x461C4000#32))
          (Host.divf (sitofp .f32 (iotaInDim ⟨1, ![256]⟩ 32 0)) (broadcastInDim ⟨1, ![256]⟩ ![] h0 (constant ⟨0, ![]⟩ .f32 0x43800000#32)))))))

/-- The table: the angles' sines, then their cosines. -/
def posTab (h0 : (⟨0, ![]⟩ : Shape).BroadcastsInDim ⟨1, ![256]⟩ ![]) (h1 : (⟨1, ![64]⟩ : Shape).BroadcastsInDim ⟨2, ![64, 1]⟩ ![0])
    (h2 : (⟨1, ![256]⟩ : Shape).BroadcastsInDim ⟨2, ![1, 256]⟩ ![1]) (h3 : (⟨2, ![64, 1]⟩ : Shape).BroadcastsInDim ⟨2, ![64, 256]⟩ ![0, 1])
    (h4 : (⟨2, ![1, 256]⟩ : Shape).BroadcastsInDim ⟨2, ![64, 256]⟩ ![0, 1]) (h5 : Shape.Concatenates [⟨2, ![64, 256]⟩, ⟨2, ![64, 256]⟩] ⟨2, ![64, 512]⟩ 1) :
    FVec F ⟨2, ![64, 512]⟩ .f32 :=
  concatenate ⟨2, ![64, 512]⟩ 1 [⟨⟨2, ![64, 256]⟩, Host.sin (angles h0 h1 h2 h3 h4)⟩, ⟨⟨2, ![64, 256]⟩, Host.cos (angles h0 h1 h2 h3 h4)⟩] h5

end Cert.Layer

end
-- ==== Proof.Fourier.Host.lean ====
module

public import proofs.«01_k».proof.Proof.Fourier.Frame
public import proofs.«01_k».proof.Proof.Fourier.Tables
public import proofs.«01_k».proof.Proof.Layer.Position
public import proofs.«01_k».proof.Proof.Gen.KernelIdeal.Skeleton
public import proofs.«01_k».proof.Proof.Gen.KernelIdeal.Points
public import Idealize.ShloMosaic.Lib.Pipeline.FrameBody
public import Idealize.ShloMosaic.Lib.StableHlo.RunRead
public import Idealize.ShloMosaic.Lib.Tactic
public import Idealize.ShloMosaic.Lib.WordCmp

@[expose] public section

set_option maxRecDepth 16384

noncomputable section

namespace Cert.KernelIdeal.Fourier

open Cert.KernelIdeal Cert.KernelIdeal.Gen
open Cert.Layer (cat_two)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two tables that the call is given

Both are computed before the call, from the angle tables. -/

variable (m : (ℓ : Loc nD τ sig) → Buf (Elt F) ℓ)

abbrev angC : FVec F S128x128 .f32 := Cert.Dft.angle 128 128 bcast_S128_S128x1_0 bcast_S128_S1x128_1 bcast_S128x1_S128x128_0_1 bcast_S1x128_S128x128_0_1 bcast_S_S128x128 128#32 0x43000000#32
abbrev angA : FVec F S32x1024 .f32 := Cert.Dft.angle 32 1024 bcast_S32_S32x1_0 bcast_S1024_S1x1024_1 bcast_S32x1_S32x1024_0_1 bcast_S1x1024_S32x1024_0_1 bcast_S_S32x1024 32#32 0x42000000#32
abbrev angB : FVec F S32x1024 .f32 := Cert.Dft.angle 32 1024 bcast_S32_S32x1_0 bcast_S1024_S1x1024_1 bcast_S32x1_S32x1024_0_1 bcast_S1x1024_S32x1024_0_1 bcast_S_S32x1024 1024#32 0x44800000#32
abbrev angK : FVec F S4x1024 .f32 := Cert.Dft.angle 4 1024 bcast_S4_S4x1_0 bcast_S1024_S1x1024_1 bcast_S4x1_S4x1024_0_1 bcast_S1x1024_S4x1024_0_1 bcast_S_S4x1024 4096#32 0x45800000#32

/-- `1 / √128`. -/
def chanScale : FVec F S_ .f32 := Host.divf (constant S_ .f32 0x3F800000#32) (Host.sqrt (constant S_ .f32 0x43000000#32))

/-- The channel table: cosines and sines in its upper half, sines and negated cosines in its lower half. -/
def chanTable : FVec F S256x256 .bf16 :=
  truncf .bf16 (mulf (concatenate S256x256 0 [⟨S128x256, concatenate S128x256 1 [⟨S128x128, Host.cos angC⟩, ⟨S128x128, Host.sin angC⟩] concatenates_S128x128_S128x128_S128x256_d1⟩,
      ⟨S128x256, concatenate S128x256 1 [⟨S128x128, Host.sin angC⟩, ⟨S128x128, Host.negf (Host.cos angC)⟩] concatenates_S128x128_S128x128_S128x256_d1⟩] concatenates_S128x256_S128x256_S256x256_d0)
    (broadcastInDim S256x256 ![] bcast_S_S256x256 chanScale)) bitsLt_bf16_f32

/-- `a` along the first axis and `b` along the second, of the first level of angle addition. -/
abbrev hi3 (a : FVec F S32x1024 .f32) : FVec F S32x32x1024 .f32 :=
  broadcastInDim S32x32x1024 ![0, 1, 2] bcast_S32x1x1024_S32x32x1024_0_1_2 (broadcastInDim S32x1x1024 ![0, 2] bcast_S32x1024_S32x1x1024_0_2 a)
abbrev lo3 (a : FVec F S32x1024 .f32) : FVec F S32x32x1024 .f32 :=
  broadcastInDim S32x32x1024 ![0, 1, 2] bcast_S1x32x1024_S32x32x1024_0_1_2 (broadcastInDim S1x32x1024 ![1, 2] bcast_S32x1024_S1x32x1024_1_2 a)

/-- Cosine and sine of `2π · m · n / 1024`, by angle addition. -/
def cosB : FVec F S32x32x1024 .f32 := subf (mulf (hi3 (Host.cos angA)) (lo3 (Host.cos angB))) (mulf (hi3 (Host.sin angA)) (lo3 (Host.sin angB)))
def sinB : FVec F S32x32x1024 .f32 := addf (mulf (hi3 (Host.sin angA)) (lo3 (Host.cos angB))) (mulf (hi3 (Host.cos angA)) (lo3 (Host.sin angB)))

abbrev hi4 (a : FVec F S4x1024 .f32) : FVec F S4x1024x1024 .f32 :=
  broadcastInDim S4x1024x1024 ![0, 1, 2] bcast_S4x1x1024_S4x1024x1024_0_1_2 (broadcastInDim S4x1x1024 ![0, 2] bcast_S4x1024_S4x1x1024_0_2 a)
abbrev lo4 (b : FVec F S32x32x1024 .f32) : FVec F S4x1024x1024 .f32 :=
  broadcastInDim S4x1024x1024 ![0, 1, 2] bcast_S1x1024x1024_S4x1024x1024_0_1_2 (shapeCast S1x1024x1024 b shapeCasts_S32x32x1024_S1x1024x1024)

def cosM : FVec F S4x1024x1024 .f32 := subf (mulf (hi4 (Host.cos angK)) (lo4 cosB)) (mulf (hi4 (Host.sin angK)) (lo4 sinB))
def sinM : FVec F S4x1024x1024 .f32 := addf (mulf (hi4 (Host.sin angK)) (lo4 cosB)) (mulf (hi4 (Host.cos angK)) (lo4 sinB))

/-- The position table: scaled cosines, then negated scaled sines. -/
def posTable : FVec F S4x1024x2048 .bf16 :=
  truncf .bf16 (concatenate S4x1024x2048 2 [⟨S4x1024x1024, mulf cosM (broadcastInDim S4x1024x1024 ![] bcast_S_S4x1024x1024 (constant S_ .f32 0x3C800000#32))⟩,
    ⟨S4x1024x1024, mulf sinM (broadcastInDim S4x1024x1024 ![] bcast_S_S4x1024x1024 (constant S_ .f32 0xBC800000#32))⟩] concatenates_S4x1024x1024_S4x1024x1024_S4x1024x2048_d2) bitsLt_bf16_f32

set_option maxHeartbeats 2000000 in
theorem V_chan (c : Dev nD) : V m c main_v111 = chanTable := by
  simp only [V, hostOps0, hostOps0_1, hostOps0_2, hostOps0_3, hostOps0_4, hostOps0_5, hostOps0_6, hostOps0_7, hostOps0_8, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_reads_simp
  refine congrArg (fun x => truncf .bf16 x bitsLt_bf16_f32) (congrArg₂ mulf (cat_two ?_ ?_) rfl)
  all_goals
    after_reads_simp
    refine cat_two ?_ ?_
    all_goals
      after_reads_simp
      rfl

set_option maxHeartbeats 2000000 in
theorem V_pos (c : Dev nD) : V m c main_v87 = posTable := by
  simp only [V, hostOps0, hostOps0_1, hostOps0_2, hostOps0_3, hostOps0_4, hostOps0_5, hostOps0_6, hostOps0_7, hostOps0_8, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_reads_simp
  refine congrArg (fun x => truncf .bf16 x bitsLt_bf16_f32) (cat_two ?_ ?_)
  all_goals
    after_reads_simp
    rfl

end Cert.KernelIdeal.Fourier

end
-- ==== Proof.Fourier.Values.lean ====
module

public import proofs.«01_k».proof.Proof.Fourier.Host
public import Idealize.ShloMosaic.Lib.Pointwise

@[expose] public section

set_option maxRecDepth 16384

noncomputable section

/-! # The two tables over the extended reals -/

namespace Cert.KernelIdeal.Fourier

open Cert.KernelIdeal Cert.KernelIdeal.Gen
open Idealize.ShloMosaic Idealize.ShloMosaic.TcCoe

/-- The angle `2π k / q`. -/
def ang (q k : ℕ) : ℝ := k * (2 * Real.pi / q)

/-- Angles that differ by whole turns have one cosine and one sine. -/
theorem ang_mod (q k : ℕ) (hq : 0 < q) : ang q k = ang q (k % q) + (k / q : ℕ) * (2 * Real.pi) := by
  have h : (k : ℝ) = (k % q : ℕ) + q * (k / q : ℕ) := by exact_mod_cast (Nat.mod_add_div k q).symm
  have hq' : (q : ℝ) ≠ 0 := by exact_mod_cast hq.ne'
  unfold ang
  rw [h]
  field_simp

theorem cos_ang_mod (q k : ℕ) (hq : 0 < q) : Real.cos (ang q (k % q)) = Real.cos (ang q k) := by
  rw [ang_mod q k hq, Real.cos_add_nat_mul_two_pi]

theorem sin_ang_mod (q k : ℕ) (hq : 0 < q) : Real.sin (ang q (k % q)) = Real.sin (ang q k) := by
  rw [ang_mod q k hq, Real.sin_add_nat_mul_two_pi]

theorem word_32 : (FloatOps.ofBits .f32 0x42000000#32 : Ideal .f32) = (((32 : ℕ) : ℝ) : EReal) := by
  show Ideal.ofBits .f32 _ = _
  simp [Ideal.ofBits, Ideal.ieee, -EReal.coe_mul]; norm_num
theorem word_128 : (FloatOps.ofBits .f32 0x43000000#32 : Ideal .f32) = (((128 : ℕ) : ℝ) : EReal) := by
  show Ideal.ofBits .f32 _ = _
  simp [Ideal.ofBits, Ideal.ieee, -EReal.coe_mul]; norm_num
theorem word_1024 : (FloatOps.ofBits .f32 0x44800000#32 : Ideal .f32) = (((1024 : ℕ) : ℝ) : EReal) := by
  show Ideal.ofBits .f32 _ = _
  simp [Ideal.ofBits, Ideal.ieee, -EReal.coe_mul]; norm_num
theorem word_4096 : (FloatOps.ofBits .f32 0x45800000#32 : Ideal .f32) = (((4096 : ℕ) : ℝ) : EReal) := by
  show Ideal.ofBits .f32 _ = _
  simp [Ideal.ofBits, Ideal.ieee, -EReal.coe_mul]; norm_num
theorem word_one : (FloatOps.ofBits .f32 0x3F800000#32 : Ideal .f32) = ((1 : ℝ) : EReal) := by
  show Ideal.ofBits .f32 _ = _
  simp [Ideal.ofBits, Ideal.ieee, -EReal.coe_mul]; norm_num
theorem word_64th : (FloatOps.ofBits .f32 0x3C800000#32 : Ideal .f32) = (((1 / 64 : ℝ)) : EReal) := by
  show Ideal.ofBits .f32 _ = _
  simp [Ideal.ofBits, Ideal.ieee, -EReal.coe_mul]; norm_num
theorem word_neg_64th : (FloatOps.ofBits .f32 0xBC800000#32 : Ideal .f32) = (((-(1 / 64) : ℝ)) : EReal) := by
  show Ideal.ofBits .f32 _ = _
  simp [Ideal.ofBits, Ideal.ieee, -EReal.coe_mul, -EReal.coe_neg]; norm_num

theorem angC_apply (i j : Fin 128) : angC (F := Ideal) (ix2 i j) = ((ang 128 (i.val * j.val % 128) : ℝ) : EReal) :=
  (Cert.Dft.angle_apply 128 128 (by decide) (by decide) _ _ _ _ _ 128 _ (by decide) (by decide) word_128 (by decide) i j)
theorem angA_apply (i : Fin 32) (j : Fin 1024) : angA (F := Ideal) (ix2 i j) = ((ang 32 (i.val * j.val % 32) : ℝ) : EReal) :=
  (Cert.Dft.angle_apply 32 1024 (by decide) (by decide) _ _ _ _ _ 32 _ (by decide) (by decide) word_32 (by decide) i j)
theorem angB_apply (i : Fin 32) (j : Fin 1024) : angB (F := Ideal) (ix2 i j) = ((ang 1024 (i.val * j.val % 1024) : ℝ) : EReal) :=
  (Cert.Dft.angle_apply 32 1024 (by decide) (by decide) _ _ _ _ _ 1024 _ (by decide) (by decide) word_1024 (by decide) i j)
theorem angK_apply (i : Fin 4) (j : Fin 1024) : angK (F := Ideal) (ix2 i j) = ((ang 4096 (i.val * j.val % 4096) : ℝ) : EReal) :=
  (Cert.Dft.angle_apply 4 1024 (by decide) (by decide) _ _ _ _ _ 4096 _ (by decide) (by decide) word_4096 (by decide) i j)

theorem cosC (i j : Fin 128) : Ideal.cos (angC (F := Ideal) (ix2 i j)) = ((Real.cos (ang 128 (i.val * j.val)) : ℝ) : EReal) := by
  rw [angC_apply, Ideal.cos_coe, cos_ang_mod _ _ (by decide)]
theorem sinC (i j : Fin 128) : Ideal.sin (angC (F := Ideal) (ix2 i j)) = ((Real.sin (ang 128 (i.val * j.val)) : ℝ) : EReal) := by
  rw [angC_apply, Ideal.sin_coe, sin_ang_mod _ _ (by decide)]
theorem cosA (i : Fin 32) (j : Fin 1024) : Ideal.cos (angA (F := Ideal) (ix2 i j)) = ((Real.cos (ang 32 (i.val * j.val)) : ℝ) : EReal) := by
  rw [angA_apply, Ideal.cos_coe, cos_ang_mod _ _ (by decide)]
theorem sinA (i : Fin 32) (j : Fin 1024) : Ideal.sin (angA (F := Ideal) (ix2 i j)) = ((Real.sin (ang 32 (i.val * j.val)) : ℝ) : EReal) := by
  rw [angA_apply, Ideal.sin_coe, sin_ang_mod _ _ (by decide)]
theorem cosBs (i : Fin 32) (j : Fin 1024) : Ideal.cos (angB (F := Ideal) (ix2 i j)) = ((Real.cos (ang 1024 (i.val * j.val)) : ℝ) : EReal) := by
  rw [angB_apply, Ideal.cos_coe, cos_ang_mod _ _ (by decide)]
theorem sinBs (i : Fin 32) (j : Fin 1024) : Ideal.sin (angB (F := Ideal) (ix2 i j)) = ((Real.sin (ang 1024 (i.val * j.val)) : ℝ) : EReal) := by
  rw [angB_apply, Ideal.sin_coe, sin_ang_mod _ _ (by decide)]
theorem cosK (i : Fin 4) (j : Fin 1024) : Ideal.cos (angK (F := Ideal) (ix2 i j)) = ((Real.cos (ang 4096 (i.val * j.val)) : ℝ) : EReal) := by
  rw [angK_apply, Ideal.cos_coe, cos_ang_mod _ _ (by decide)]
theorem sinK (i : Fin 4) (j : Fin 1024) : Ideal.sin (angK (F := Ideal) (ix2 i j)) = ((Real.sin (ang 4096 (i.val * j.val)) : ℝ) : EReal) := by
  rw [angK_apply, Ideal.sin_coe, sin_ang_mod _ _ (by decide)]

theorem chanScale_apply (i : S_.Idx) : chanScale (F := Ideal) i = ((1 / Real.sqrt 128 : ℝ) : EReal) := by
  show Ideal.div (FloatOps.ofBits .f32 0x3F800000#32 : Ideal .f32) (Ideal.sqrt (FloatOps.ofBits .f32 0x43000000#32 : Ideal .f32)) = _
  rw [word_one, word_128, Ideal.sqrt_coe, if_neg (by norm_num), Ideal.div_coe (by norm_num), ← EReal.coe_mul]
  norm_num

/-- The channel table's entries. -/
def chanR (i j : ℕ) : ℝ :=
  (if i < 128 then (if j < 128 then Real.cos (ang 128 (i * j)) else Real.sin (ang 128 (i * (j - 128))))
    else (if j < 128 then Real.sin (ang 128 ((i - 128) * j)) else -Real.cos (ang 128 ((i - 128) * (j - 128))))) * (1 / Real.sqrt 128)

theorem chanTable_apply (i j : Fin 256) : chanTable (F := Ideal) (ix2 i j) = ((chanR i.val j.val : ℝ) : EReal) := by
  unfold chanTable
  pointwise
  rw [chanScale_apply, chanR, EReal.coe_mul]
  congr 1
  split <;> split <;> simp only [cosC, sinC, EReal.coe_neg]

theorem cosB_apply (p q : Fin 32) (j : Fin 1024) : cosB (F := Ideal) (ix3 p q j) =
    ((Real.cos (ang 1024 ((32 * p.val + q.val) * j.val)) : ℝ) : EReal) := by
  unfold cosB hi3 lo3
  pointwise
  rw [cosA, sinA, cosBs, sinBs, ← EReal.coe_mul, ← EReal.coe_mul, ← EReal.coe_sub, ← Real.cos_add]
  congr 2
  unfold ang; push_cast; ring

theorem sinB_apply (p q : Fin 32) (j : Fin 1024) : sinB (F := Ideal) (ix3 p q j) =
    ((Real.sin (ang 1024 ((32 * p.val + q.val) * j.val)) : ℝ) : EReal) := by
  unfold sinB hi3 lo3
  pointwise
  rw [cosA, sinA, cosBs, sinBs, ← EReal.coe_mul, ← EReal.coe_mul, ← EReal.coe_add, ← Real.sin_add]
  congr 2
  unfold ang; push_cast; ring

theorem angle_split (a k n : ℕ) : ang 4096 (a * n) + ang 1024 ((32 * (k / 32) + k % 32) * n) = ang 4096 ((a + 4 * k) * n) := by
  rw [Nat.div_add_mod]
  unfold ang; push_cast; ring

theorem cosM_apply (a : Fin 4) (k : Fin 1024) (n : Fin 1024) : cosM (F := Ideal) (ix3 a k n) =
    ((Real.cos (ang 4096 ((a.val + 4 * k.val) * n.val)) : ℝ) : EReal) := by
  unfold cosM hi4 lo4
  pointwise
  rw [cosK, sinK, cosB_apply, sinB_apply, ← EReal.coe_mul, ← EReal.coe_mul, ← EReal.coe_sub, ← Real.cos_add, angle_split]

theorem sinM_apply (a : Fin 4) (k : Fin 1024) (n : Fin 1024) : sinM (F := Ideal) (ix3 a k n) =
    ((Real.sin (ang 4096 ((a.val + 4 * k.val) * n.val)) : ℝ) : EReal) := by
  unfold sinM hi4 lo4
  pointwise
  rw [cosK, sinK, cosB_apply, sinB_apply, ← EReal.coe_mul, ← EReal.coe_mul, ← EReal.coe_add, ← Real.sin_add, angle_split]

/-- The position table's entries. -/
def posR (a k n : ℕ) : ℝ :=
  if n < 1024 then Real.cos (ang 4096 ((a + 4 * k) * n)) * (1 / 64) else Real.sin (ang 4096 ((a + 4 * k) * (n - 1024))) * -(1 / 64)

theorem posTable_apply (a : Fin 4) (k : Fin 1024) (n : Fin 2048) : posTable (F := Ideal) (ix3 a k n) = ((posR a.val k.val n.val : ℝ) : EReal) := by
  unfold posTable
  pointwise
  have h1 : Ideal.ofBits FTy.f32 1015021568#32 = (((1 / 64 : ℝ)) : EReal) := word_64th
  have h2 : Ideal.ofBits FTy.f32 3162505216#32 = (((-(1 / 64) : ℝ)) : EReal) := word_neg_64th
  rw [h1, h2, posR]
  split <;> simp only [cosM_apply, sinM_apply, ← EReal.coe_mul]

end Cert.KernelIdeal.Fourier

end
-- ==== Proof.Fourier.Equation.lean ====
module

public import proofs.«01_k».proof.Proof.Fourier.Values
public import Idealize.ShloMosaic.Lib.Pointwise

@[expose] public section

set_option maxRecDepth 16384

noncomputable section

/-! # The radix-four step is the discrete Fourier transform -/

namespace Cert.KernelIdeal.Fourier

open Cert.KernelIdeal Cert.KernelIdeal.Gen
open Idealize.ShloMosaic Idealize.ShloMosaic.TcCoe

/-- A finite sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- What the call computes from the positions `n`, `1024 + n`, `2048 + n`, `3072 + n` for the outputs of residue `a`:
    column `k` of the channel product of their combination by quarter turns. -/
def pairR (a : ℕ) (X : ℕ → ℕ → ℝ) (n k : ℕ) : ℝ :=
  match a with
  | 0 => ∑ c : Fin 128, (X n c + X (1024 + n) c + X (2048 + n) c + X (3072 + n) c) * chanR c k
  | 1 => ∑ c : Fin 128, (X n c - X (2048 + n) c) * chanR c k + ∑ c : Fin 128, (X (3072 + n) c - X (1024 + n) c) * chanR (128 + c) k
  | 2 => ∑ c : Fin 128, (X n c - X (1024 + n) c + X (2048 + n) c - X (3072 + n) c) * chanR c k
  | _ => ∑ c : Fin 128, (X n c - X (2048 + n) c) * chanR c k + ∑ c : Fin 128, (X (1024 + n) c - X (3072 + n) c) * chanR (128 + c) k

/-- A quarter turn of the pair (cosine, sine). -/
def quarter (p : ℝ × ℝ) : ℝ × ℝ := (-p.2, p.1)

theorem turn_by (r : ℕ) (x : ℝ) : (Real.cos (x + r * (Real.pi / 2)), Real.sin (x + r * (Real.pi / 2))) = quarter^[r] (Real.cos x, Real.sin x) := by
  induction r with
  | zero => simp
  | succ r ih =>
    rw [Function.iterate_succ_apply', ← ih]
    have : x + ((r + 1 : ℕ) : ℝ) * (Real.pi / 2) = x + r * (Real.pi / 2) + Real.pi / 2 := by push_cast; ring
    rw [this, Real.cos_add_pi_div_two, Real.sin_add_pi_div_two]
    rfl

/-- The angle at position `1024 j + n` is the one at `n`, turned by `j · a` quarters and by whole turns. -/
theorem ang_block (a m j n : ℕ) : ang 4096 ((a + 4 * m) * (1024 * j + n)) = ang 4096 ((a + 4 * m) * n) + (j * a : ℕ) * (Real.pi / 2) + (j * m : ℕ) * (2 * Real.pi) := by
  unfold ang; push_cast; ring

theorem cos_block (a m j n : ℕ) : Real.cos (ang 4096 ((a + 4 * m) * (1024 * j + n)))
    = (quarter^[j * a] (Real.cos (ang 4096 ((a + 4 * m) * n)), Real.sin (ang 4096 ((a + 4 * m) * n)))).1 := by
  rw [← turn_by, ang_block, Real.cos_add_nat_mul_two_pi]

theorem sin_block (a m j n : ℕ) : Real.sin (ang 4096 ((a + 4 * m) * (1024 * j + n)))
    = (quarter^[j * a] (Real.cos (ang 4096 ((a + 4 * m) * n)), Real.sin (ang 4096 ((a + 4 * m) * n)))).2 := by
  rw [← turn_by, ang_block, Real.sin_add_nat_mul_two_pi]

theorem sum_blocks (f : ℕ → ℝ) : ∑ x : Fin 4096, f x = ∑ n : Fin 1024, (f (1024 * 0 + n) + f (1024 * 1 + n) + f (1024 * 2 + n) + f (1024 * 3 + n)) := by
  rw [Fin.sum_univ_eq_sum_range f 4096, show (4096 : ℕ) = 1024 + 1024 + 1024 + 1024 from rfl, Finset.sum_range_add, Finset.sum_range_add, Finset.sum_range_add]
  simp only [Finset.sum_add_distrib]
  simp only [← Fin.sum_univ_eq_sum_range]
  norm_num

/-- The two-dimensional transform at output position `a + 4 m`, channel `d`. -/
def dftR (X : ℕ → ℕ → ℝ) (k d : ℕ) : ℝ :=
  ∑ x : Fin 4096, (∑ c : Fin 128, X x c * (Real.cos (ang 128 (c * d)) * (1 / Real.sqrt 128))) * (Real.cos (ang 4096 (k * x)) * (1 / 64))
    - ∑ x : Fin 4096, (∑ c : Fin 128, X x c * (Real.sin (ang 128 (c * d)) * (1 / Real.sqrt 128))) * (Real.sin (ang 4096 (k * x)) * (1 / 64))

/-- The call's sum over the first quarter of the positions is the transform over all of them. -/
theorem dft_eq (X : ℕ → ℕ → ℝ) (a m d : ℕ) (ha : a < 4) (hd : d < 128) :
    ∑ n : Fin 1024, posR a m n * pairR a X n d + ∑ n : Fin 1024, posR a m (1024 + n) * pairR a X n (128 + d) = dftR X (a + 4 * m) d := by
  unfold dftR
  rw [sum_blocks (fun x => (∑ c : Fin 128, X x c * (Real.cos (ang 128 (c * d)) * (1 / Real.sqrt 128))) * (Real.cos (ang 4096 ((a + 4 * m) * x)) * (1 / 64))),
    sum_blocks (fun x => (∑ c : Fin 128, X x c * (Real.sin (ang 128 (c * d)) * (1 / Real.sqrt 128))) * (Real.sin (ang 4096 ((a + 4 * m) * x)) * (1 / 64))),
    ← Finset.sum_add_distrib, ← Finset.sum_sub_distrib]
  refine Finset.sum_congr rfl fun n _ => ?_
  have h1 : posR a m n = Real.cos (ang 4096 ((a + 4 * m) * n)) * (1 / 64) := if_pos n.isLt
  have h2 : posR a m (1024 + n) = Real.sin (ang 4096 ((a + 4 * m) * n)) * -(1 / 64) := by
    rw [posR, if_neg (by omega), Nat.add_sub_cancel_left]
  have c1 : ∀ c : Fin 128, chanR c d = Real.cos (ang 128 (c * d)) * (1 / Real.sqrt 128) := fun c => by
    rw [chanR, if_pos c.isLt, if_pos hd]
  have c2 : ∀ c : Fin 128, chanR c (128 + d) = Real.sin (ang 128 (c * d)) * (1 / Real.sqrt 128) := fun c => by
    rw [chanR, if_pos c.isLt, if_neg (by omega), Nat.add_sub_cancel_left]
  have c3 : ∀ c : Fin 128, chanR (128 + c) d = Real.sin (ang 128 (c * d)) * (1 / Real.sqrt 128) := fun c => by
    rw [chanR, if_neg (by omega), if_pos hd, Nat.add_sub_cancel_left]
  have c4 : ∀ c : Fin 128, chanR (128 + c) (128 + d) = -Real.cos (ang 128 (c * d)) * (1 / Real.sqrt 128) := fun c => by
    rw [chanR, if_neg (by omega), if_neg (by omega), Nat.add_sub_cancel_left, Nat.add_sub_cancel_left]
  simp only [cos_block, sin_block, h1, h2]
  interval_cases a <;>
  · simp only [pairR, c1, c2, c3, c4, Function.iterate_succ, Function.iterate_zero, Function.comp_apply, quarter, id, Nat.reduceMul, mul_zero, zero_mul, zero_add, mul_one, one_mul,
      Finset.mul_sum, Finset.sum_mul, ← Finset.sum_add_distrib, ← Finset.sum_sub_distrib]
    refine Finset.sum_congr rfl fun c _ => ?_
    ring

end Cert.KernelIdeal.Fourier

end
-- ==== Proof.Fourier.Out.lean ====
module

public import proofs.«01_k».proof.Proof.Fourier.Frame
public import Idealize.ShloMosaic.Lib.Pipeline.ArrRel
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Fourier

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the result array holds

A row of the output block is written at the one point whose turn it is, so when the block is written back, at the fourth
point, every row holds the tile of its own point. -/

variable (m : (ℓ : Loc nD τ sig) → Buf (Elt F) ℓ) (ρ : Dev nD → PrngReg)

/-- The point that computes the rows of residue `a` of block `b`. -/
abbrev pt (b : ℕ) (a : ℕ) (hb : b < 8) (ha : a < 4) : Fin cfg0.N := ⟨4 * b + a, by rw [show cfg0.N = 32 from N_0]; omega⟩

/-- The element of the result array at batch `b`, group `g`, row `k`, channel `d`. -/
def resultAt (c : Dev nD) (b : Fin 8) (g : Fin 4) (k : Fin 4096) (d : Fin 128) : Elt F .f32 :=
  tileAt m c (pt b.val (k.val % 4) b.isLt (Nat.mod_lt _ (by decide))) g (ix4 0 0 ⟨k.val / 4, by omega⟩ d)

/-- The result array. -/
def result (c : Dev nD) : Vec F S8x4x4096x128 .f32 := fun y => resultAt m c (y 0) (y 1) (y 2) (y 3)

theorem fetch_3 (t : Fin cfg0.N) : (cfg0.win 3).fetch t = false := (cfg0.win 3).fetch_out rfl t

/-- What the body may leave at point `t` is what it may have left at the point before with this point's rows put in,
    unless the point before wrote the block back. -/
theorem leaves_step (c : Dev nD) (t : Fin cfg0.N) (ht : t.val % 4 ≠ 0) (X) (h : (rdat m c).Leaves 3 t X) :
    ∃ Y, (rdat m c).Leaves 3 ⟨t.val - 1, Nat.lt_of_le_of_lt (Nat.sub_le _ _) t.isLt⟩ Y
      ∧ X = putRows (turn t) (tileAt m c t) Y := by
  obtain ⟨Y, hY, hX⟩ := h
  have h0 : t.val ≠ 0 := by rintro e; rw [e] at ht; exact ht rfl
  rcases ((rdat m c).finds_of_pos (fetch_3 t) h0 Y).mp hY with hf | hl
  · have h3 : (t.val - 1) % 4 = 3 := (flush0_3 _).mp hf
    omega
  · exact ⟨Y, hl, (after_3 m c t Y X).mp hX⟩

theorem leaves_last (c : Dev nD) (t : Fin cfg0.N) (ht : t.val % 4 = 3) (X) (h : (rdat m c).Leaves 3 t X)
    (hb : t.val / 4 < 8) (y : S1x4x4096x128.Idx) :
    X y = resultAt m c ⟨t.val / 4, hb⟩ (y 1) (y 2) (y 3) := by
  obtain ⟨Y2, h2, e3⟩ := leaves_step m c t (by omega) X h
  obtain ⟨Y1, h1, e2⟩ := leaves_step m c _ (by dsimp only; omega) Y2 h2
  obtain ⟨Y0, h0, e1⟩ := leaves_step m c _ (by dsimp only; omega) Y1 h1
  obtain ⟨Y, -, e0⟩ := h0
  have e0 := (after_3 m c _ Y Y0).mp e0
  subst e3 e2 e1 e0
  have hr : (y 2).val % 4 < 4 := Nat.mod_lt _ (by decide)
  have key : ∀ (u : Fin cfg0.N) (hu : u.val % 4 = (y 2).val % 4) (hq : u.val / 4 = t.val / 4),
      tileAt m c u (y 1) (ix4 0 0 ⟨(y 2).val / 4, by have : (y 2).val < 4096 := (y 2).isLt; omega⟩ (y 3))
        = resultAt m c ⟨t.val / 4, hb⟩ (y 1) (y 2) (y 3) := by
    intro u hu hq
    unfold resultAt
    rw [show pt (t.val / 4) ((y 2).val % 4) hb hr = u from Fin.ext (by show 4 * (t.val / 4) + (y 2).val % 4 = u.val; omega)]
  unfold putRows
  dsimp only [turn]
  split_ifs with c3 c2 c1 c0
  · exact key _ (by dsimp only; omega) (by dsimp only)
  · exact key _ (by dsimp only; omega) (by dsimp only; omega)
  · exact key _ (by dsimp only; omega) (by dsimp only; omega)
  · exact key _ (by dsimp only; omega) (by dsimp only; omega)
  · omega

theorem coord_0 (t : Fin cfg0.N) : (grid0.coords t 0).val = t.val / 4 := by
  have h : (grid0.coords t 0).val = t.val / 4 % 8 := Pipeline.Grid.coords_val t 0 (by decide) rfl
  have hN : t.val < 32 := lt_of_lt_of_eq t.isLt (show cfg0.N = 32 from N_0)
  rw [h]; omega

theorem index_3 (t : Fin cfg0.N) : win0_3.index t = ![t.val / 4, 0, 0, 0] := by
  have hN : t.val < 32 := lt_of_lt_of_eq t.isLt (show cfg0.N = 32 from N_0)
  show cc0_transform_3 (grid0.coords t) = _
  unfold cc0_transform_3
  simp only [coord_0, BitVec.toNat_ofNat]
  rw [Nat.mod_eq_of_lt (by omega)]

/-- After the run the result array holds `result`. -/
theorem out_eq (c : Dev nD) (after : (w' : Fin cfg0.W) → Fin cfg0.N → (cfg0.win w').block.Idx → Elt F (cfg0.win w').elt)
    (hL : ∀ (w : Fin cfg0.W) (u : Fin cfg0.N), (cfg0.win w).flush u = true → (rdat m c).Leaves w u (after w u)) :
    ((rdat m c).withAfter after).arrAt 3 cfg0.N = result m c := by
  refine Dat.arrAt_eq_of_covers _ 3 _ (by decide +kernel) fun t hf y => ?_
  have ht := (flush0_3 t).mp hf
  have hN : t.val < 32 := lt_of_lt_of_eq t.isLt (show cfg0.N = 32 from N_0)
  have e := leaves_last m c t ht _ (hL 3 t hf) (by omega) y
  blk_simp
  refine e.trans ?_
  show resultAt m c _ _ _ _ = resultAt m c _ _ _ _
  congr 1 <;> refine Fin.ext ?_ <;> blk_simp [index_3]

theorem run_value : θ_run defs (onTc (τ := τ) (main (F := F))) (s₀ m ρ)
    (fun r => ∀ c : Dev nD, r.2.mem ((c.tc : Thread nD τ).loc main_v112) = result m c) :=
  (θ_run defs _ _).mono (fun _ h c => by
    obtain ⟨after, hL, hA⟩ := h.1.exists_exact c
    exact (hA 3).trans (out_eq m c after hL)) (run_main_quiescent m ρ)

end Cert.KernelIdeal.Fourier

end
-- ==== Proof.Fourier.Block.lean ====
module

public import proofs.«01_k».proof.Proof.Fourier.Equation
public import proofs.«01_k».proof.Proof.Fourier.Out
public import Idealize.ShloMosaic.Lib.Pointwise

@[expose] public section

set_option maxRecDepth 16384

noncomputable section

/-! # One grid point's output over the reals -/

namespace Cert.KernelIdeal.Fourier

open Cert.KernelIdeal Cert.KernelIdeal.Gen
open Idealize.ShloMosaic Idealize.ShloMosaic.TcCoe

/-- The four row blocks hold the reals `X`, the channel matrix holds its table: the pair of channel products holds `pairR`. -/
theorem pair_value (a : Fin 4) (h : Fin 2) (r : Vec Ideal S256x256 .bf16) (l0 l1 l2 l3 : Vec Ideal S1x1024x128 .bf16) (X : ℕ → ℕ → ℝ)
    (hr : ∀ i j : Fin 256, r (ix2 i j) = ((chanR i j : ℝ) : EReal))
    (h0 : ∀ (n : Fin 1024) (d : Fin 128), l0 (ix3 0 n d) = ((X n d : ℝ) : EReal))
    (h1 : ∀ (n : Fin 1024) (d : Fin 128), l1 (ix3 0 n d) = ((X (1024 + n) d : ℝ) : EReal))
    (h2 : ∀ (n : Fin 1024) (d : Fin 128), l2 (ix3 0 n d) = ((X (2048 + n) d : ℝ) : EReal))
    (h3 : ∀ (n : Fin 1024) (d : Fin 128), l3 (ix3 0 n d) = ((X (3072 + n) d : ℝ) : EReal))
    (n : Fin 1024) (d : Fin 128) :
    pairOf a r l0 l1 l2 l3 h (ix2 n d) = ((pairR a X n (128 * h + d) : ℝ) : EReal) := by
  fin_cases a <;> fin_cases h <;>
  · simp only [pairOf]
    unfold_payloads
    pointwise
    simp only [hr, h0, h1, h2, h3, pairR, coe_sum, EReal.coe_add, EReal.coe_mul, EReal.coe_sub]

/-- The row blocks of a batch's values. -/
theorem rows_apply (x : Vec Ideal S1x4096x512 .bf16) (q : ℕ) (hq : q < 4) (g : ℕ) (hg : g < 4) (n : Fin 1024) (d : Fin 128) :
    rows x q hq g hg (ix3 0 n d) = x (ix3 0 ⟨1024 * q + n.val, by omega⟩ ⟨128 * g + d.val, by omega⟩) := by
  unfold rows
  pointwise

theorem wholeR_apply (x : Vec Ideal S256x256 .bf16) (i j : Fin 256) : wholeR x (ix2 i j) = x (ix2 i j) := by
  unfold wholeR
  pointwise

theorem wholeM_apply (x : Vec Ideal S1x1024x2048 .bf16) (i : Fin 1024) (j : Fin 2048) : wholeM x (ix3 0 i j) = x (ix3 0 i j) := by
  unfold wholeM
  pointwise

variable (x0 : Vec Ideal S1x4096x512 .bf16) (x1 : Vec Ideal S1x1024x2048 .bf16) (x2 : Vec Ideal S256x256 .bf16)

theorem pairAt_value (a : Fin 4) (g : ℕ) (hg : g < 4) (h : Fin 2) (Y : ℕ → ℕ → ℝ)
    (hr : ∀ i j : Fin 256, x2 (ix2 i j) = ((chanR i j : ℝ) : EReal))
    (hx : ∀ (n : Fin 4096) (d : Fin 512), x0 (ix3 0 n d) = ((Y n d : ℝ) : EReal)) (n : Fin 1024) (d : Fin 128) :
    pairAt a x0 x2 g hg h (ix2 n d) = ((pairR a (fun p q => Y p (128 * g + q)) n (128 * h + d) : ℝ) : EReal) := by
  unfold pairAt
  refine pair_value a h _ _ _ _ _ (fun p q => Y p (128 * g + q)) (fun i j => ?_) (fun n d => ?_) (fun n d => ?_) (fun n d => ?_) (fun n d => ?_) n d
  · rw [wholeR_apply, hr]
  all_goals
    rw [rows_apply, hx]
    try norm_num

/-- A position product over the two halves of a panel. -/
theorem product_value (M : Fin 1024 → Fin 2048 → EReal) (w : Fin 2 → Fin 2 → FVec Ideal S1024x128 .bf16) (e : Fin 2) (i : Fin 1024) (d : Fin 128) (hd) :
    ∑ s : Fin 2048, M i s * panel w (ix2 s ⟨128 * e.val + d.val, hd⟩)
      = ∑ n : Fin 1024, M i ⟨n.val, by omega⟩ * w e 0 (ix2 n d) + ∑ n : Fin 1024, M i ⟨1024 + n.val, by omega⟩ * w e 1 (ix2 n d) := by
  refine (Fin.sum_univ_two_halves (a := 1024) (b := 1024) (N := 2048) rfl _).trans ?_
  have hu : ∀ (n : Fin 1024) (hn), panel w (ix2 ⟨n.val, hn⟩ ⟨128 * e.val + d.val, hd⟩) = w e 0 (ix2 n d) := fun n hn => by
    fin_cases e
    · simp [panel, ix2]
    · simp [panel, ix2]
  have hl : ∀ (n : Fin 1024) (hn), panel w (ix2 ⟨1024 + n.val, hn⟩ ⟨128 * e.val + d.val, hd⟩) = w e 1 (ix2 n d) := fun n hn => by
    fin_cases e
    · simp [panel, ix2]
    · simp [panel, ix2]
  simp only [hu, hl]

theorem pay36_apply (P : Vec Ideal S2048x256 .bf16) (i : Fin 1024) (d : Fin 128) :
    k0_pay36 (wholeM x1) P (ix4 0 0 i d) = ∑ s : Fin 2048, x1 (ix3 0 i s) * P (ix2 s ⟨d.val, by omega⟩) := by
  unfold_payloads
  pointwise
  exact Finset.sum_congr rfl fun s _ => by rw [wholeM_apply]

theorem pay37_apply (P : Vec Ideal S2048x256 .bf16) (i : Fin 1024) (d : Fin 128) :
    k0_pay37 (wholeM x1) P (ix4 0 0 i d) = ∑ s : Fin 2048, x1 (ix3 0 i s) * P (ix2 s ⟨128 + d.val, by omega⟩) := by
  unfold_payloads
  pointwise
  exact Finset.sum_congr rfl fun s _ => by rw [wholeM_apply]

theorem index_0 (t : Fin cfg0.N) : win0_0.index t = ![t.val / 4, 0, 0] := by
  have hN : t.val < 32 := lt_of_lt_of_eq t.isLt (show cfg0.N = 32 from N_0)
  show cc0_transform_0 (grid0.coords t) = _
  unfold cc0_transform_0
  simp only [coord_0, BitVec.toNat_ofNat]
  rw [Nat.mod_eq_of_lt (by omega)]

theorem index_1 (t : Fin cfg0.N) : win0_1.index t = ![t.val % 4, 0, 0] := by
  have hN : t.val < 32 := lt_of_lt_of_eq t.isLt (show cfg0.N = 32 from N_0)
  show cc0_transform_1 (grid0.coords t) = _
  unfold cc0_transform_1
  simp only [coord_1, BitVec.toNat_ofNat]
  rw [Nat.mod_eq_of_lt (by omega)]

theorem index_2 (t : Fin cfg0.N) : win0_2.index t = ![0, 0] := by
  show cc0_transform_2 (grid0.coords t) = _
  unfold cc0_transform_2
  rfl

variable (m : (ℓ : Loc nD τ sig) → Buf (Elt Ideal) ℓ) (c : Dev nD)

/-- At batch `b` the values' block is that batch. -/
theorem block_0 (b : Fin 8) (a : Fin 4) (n : Fin 4096) (d : Fin 512) :
    iblk m c 0 (pt b.val a.val b.isLt a.isLt) (ix3 0 n d) = m ((c : Thread nD τ).loc main_arg0) (ix3 b n d) := by
  refine Eq.trans ?_ (congrFun (V_main_arg0 m c) (ix3 b n d))
  blk_simp [iblk]
  refine congrArg (V m c main_arg0) (funext fun x => Fin.ext ?_)
  have ha := a.isLt
  fin_cases x <;> blk_simp [index_0]
  · show (4 * b.val + a.val) / 4 = b.val
    omega
  · rfl
  · rfl

/-- At residue `a` the position table's block is that residue's. -/
theorem block_1 (b : Fin 8) (a : Fin 4) (k : Fin 1024) (n : Fin 2048) :
    iblk m c 1 (pt b.val a.val b.isLt a.isLt) (ix3 0 k n) = ((posR a k n : ℝ) : EReal) := by
  refine Eq.trans ?_ ((congrFun (V_pos m c) (ix3 a k n)).trans (posTable_apply a k n))
  blk_simp [iblk]
  refine congrArg (V m c main_v87) (funext fun x => Fin.ext ?_)
  have ha := a.isLt
  fin_cases x <;> blk_simp [index_1]
  · show (4 * b.val + a.val) % 4 = a.val
    omega
  · rfl
  · rfl

/-- The channel table is one block. -/
theorem block_2 (t : Fin cfg0.N) (i j : Fin 256) : iblk m c 2 t (ix2 i j) = ((chanR i j : ℝ) : EReal) := by
  refine Eq.trans ?_ ((congrFun (V_chan m c) (ix2 i j)).trans (chanTable_apply i j))
  blk_simp [iblk]
  refine congrArg (V m c main_v111) (funext fun x => Fin.ext ?_)
  fin_cases x <;> blk_simp [index_2] <;> rfl

/-- One tile holds the transform's values. -/
theorem tile_value (a : Fin 4) (g : Fin 4) (Y : ℕ → ℕ → ℝ)
    (h0 : ∀ (n : Fin 4096) (d : Fin 512), x0 (ix3 0 n d) = ((Y n d : ℝ) : EReal))
    (h1 : ∀ (k : Fin 1024) (n : Fin 2048), x1 (ix3 0 k n) = ((posR a k n : ℝ) : EReal))
    (h2 : ∀ i j : Fin 256, x2 (ix2 i j) = ((chanR i j : ℝ) : EReal)) (k : Fin 1024) (d : Fin 128) :
    tile a x0 x1 x2 g (ix4 0 0 k d) = ((dftR (fun p q => Y p (128 * g + q)) (a + 4 * k) d : ℝ) : EReal) := by
  have one : ∀ (p : ℕ) (hp : p < 2) (e : Fin 2) (hd), ∑ s : Fin 2048, x1 (ix3 0 k s) * panelAt a x0 x2 p hp (ix2 s ⟨128 * e.val + d.val, hd⟩)
      = ((dftR (fun i q => Y i (128 * (2 * p + e.val) + q)) (a + 4 * k) d : ℝ) : EReal) := fun p hp e hd => by
    rw [← dft_eq _ a k d a.isLt d.isLt, EReal.coe_add, coe_sum, coe_sum]
    refine (product_value (fun i s => x1 (ix3 0 i s)) _ e k d hd).trans ?_
    have hw : ∀ (h : Fin 2) (n : Fin 1024), (![pairAt a x0 x2 (2 * p) (by omega), pairAt a x0 x2 (2 * p + 1) (by omega)] : Fin 2 → Fin 2 → FVec Ideal S1024x128 .bf16) e h (ix2 n d)
        = ((pairR a (fun i q => Y i (128 * (2 * p + e.val) + q)) n (128 * h + d) : ℝ) : EReal) := fun h n => by
      fin_cases e
      · exact pairAt_value x0 x2 a (2 * p) _ h Y h2 h0 n d
      · exact pairAt_value x0 x2 a (2 * p + 1) _ h Y h2 h0 n d
    refine congrArg₂ (· + ·) (Finset.sum_congr rfl fun n _ => ?_) (Finset.sum_congr rfl fun n _ => ?_)
    · rw [hw, h1, ← EReal.coe_mul]; norm_num
    · rw [hw, h1, ← EReal.coe_mul]; norm_num
  fin_cases g
  · exact (pay36_apply x1 _ k d).trans ((Finset.sum_congr rfl fun s _ => by norm_num).trans (one 0 (by omega) 0 (by have := d.isLt; simp; omega)))
  · exact (pay37_apply x1 _ k d).trans ((Finset.sum_congr rfl fun s _ => by norm_num).trans (one 0 (by omega) 1 (by have := d.isLt; simp; omega)))
  · exact (pay36_apply x1 _ k d).trans ((Finset.sum_congr rfl fun s _ => by norm_num).trans (one 1 (by omega) 0 (by have := d.isLt; simp; omega)))
  · exact (pay37_apply x1 _ k d).trans ((Finset.sum_congr rfl fun s _ => by norm_num).trans (one 1 (by omega) 1 (by have := d.isLt; simp; omega)))

/-- The result array holds the transform, where the values are real. -/
theorem result_value (Y : Fin 8 → ℕ → ℕ → ℝ)
    (hY : ∀ (b : Fin 8) (n : Fin 4096) (d : Fin 512), m ((c : Thread nD τ).loc main_arg0) (ix3 b n d) = ((Y b n d : ℝ) : EReal))
    (b : Fin 8) (g : Fin 4) (k : Fin 4096) (d : Fin 128) :
    resultAt m c b g k d = ((dftR (fun p q => Y b p (128 * g + q)) k d : ℝ) : EReal) := by
  have ht : turn (pt b.val (k.val % 4) b.isLt (Nat.mod_lt _ (by decide))) = ⟨k.val % 4, Nat.mod_lt _ (by decide)⟩ :=
    Fin.ext (by show (4 * b.val + k.val % 4) % 4 = k.val % 4; omega)
  unfold resultAt tileAt
  rw [ht]
  refine (tile_value _ _ _ ⟨k.val % 4, Nat.mod_lt _ (by decide)⟩ g (Y b) (fun n d => ?_) (fun k' n => ?_) (fun i j => ?_) ⟨k.val / 4, by omega⟩ d).trans ?_
  · rw [block_0 m c b ⟨k.val % 4, Nat.mod_lt _ (by decide)⟩, hY]
  · exact block_1 m c b ⟨k.val % 4, Nat.mod_lt _ (by decide)⟩ k' n
  · exact block_2 m c _ i j
  · show ((dftR _ (k.val % 4 + 4 * (k.val / 4)) d : ℝ) : EReal) = _
    rw [Nat.mod_add_div]

end Cert.KernelIdeal.Fourier

end
-- ==== Proof.Fourier.Reference.lean ====
module

public import proofs.«01_k».proof.Proof.Gen.ReferenceIdeal.Run
public import proofs.«01_k».proof.Proof.Fourier.Equation

@[expose] public section

set_option maxRecDepth 16384

noncomputable section

/-! # The reference over the reals -/

namespace Cert.ReferenceIdeal.Fourier

open Cert.ReferenceIdeal Cert.ReferenceIdeal.Gen
open Idealize.ShloMosaic Idealize.ShloMosaic.TcCoe
open Cert.KernelIdeal.Fourier (ang cos_ang_mod sin_ang_mod word_128 word_4096 word_one dftR coe_sum)

section
variable {F : FTy → Type} [FloatOps F]

abbrev angC : FVec F S128x128 .f32 := Cert.Dft.angle 128 128 bcast_S128_S128x1_0 bcast_S128_S1x128_1 bcast_S128x1_S128x128_0_1 bcast_S1x128_S128x128_0_1 bcast_S_S128x128 128#32 0x43000000#32
abbrev angN : FVec F S4096x4096 .f32 := Cert.Dft.angle 4096 4096 bcast_S4096_S4096x1_0 bcast_S4096_S1x4096_1 bcast_S4096x1_S4096x4096_0_1 bcast_S1x4096_S4096x4096_0_1 bcast_S_S4096x4096 4096#32 0x45800000#32

/-- `1 / √` of the number of the word `w`. -/
def scale (w : BitVec 32) : FVec F S_ .f32 := Host.divf (constant S_ .f32 0x3F800000#32) (Host.sqrt (constant S_ .f32 w))

/-- A channel product, then a position product. -/
def products (u : FVec F S8x4096x512 .bf16) (cc : FVec F S128x128 .f32) (cn : FVec F S4096x4096 .f32) : FVec F S8x4x4096x128 .f32 :=
  transpose S8x4x4096x128 [0, 1, 3, 2] (Host.dotGeneral dot_S8x4096x4x128_S4096x4096_S8x4x128x4096_1_1_023_0_n_n none (Host.dotGeneral dot_S8x4096x4x128_S128x128_S8x4096x4x128_3_0_012_1_n_n none (shapeCast _ (extf .f32 u bitsLt_bf16_f32) shapeCasts_S8x4096x512_S8x4096x4x128) cc) cn) transposes_S8x4x128x4096_S8x4x4096x128_0_1_3_2

theorem res_eq (m : (ℓ : Loc nD τ sig) → Buf (Elt F) ℓ) (c : Dev nD) : Value.res_out0 m c =
    subf (products (m ((c.tc : Thread nD τ).loc main_arg0)) (mulf (Host.cos angC) (broadcastInDim S128x128 ![] bcast_S_S128x128 (scale 0x43000000#32)))
        (mulf (Host.cos angN) (broadcastInDim S4096x4096 ![] bcast_S_S4096x4096 (scale 0x45800000#32))))
      (products (m ((c.tc : Thread nD τ).loc main_arg0)) (mulf (Host.sin angC) (broadcastInDim S128x128 ![] bcast_S_S128x128 (scale 0x43000000#32)))
        (mulf (Host.sin angN) (broadcastInDim S4096x4096 ![] bcast_S_S4096x4096 (scale 0x45800000#32)))) := by
  show Value.res_main_v50 m c = _
  unfold Value.res_main_v50
  rfl
end

theorem products_apply (u : FVec Ideal S8x4096x512 .bf16) (cc : FVec Ideal S128x128 .f32) (cn : FVec Ideal S4096x4096 .f32)
    (b : Fin 8) (g : Fin 4) (k : Fin 4096) (d : Fin 128) : products u cc cn (ix4 b g k d)
      = ∑ x : Fin 4096, (∑ c : Fin 128, u (ix3 b x ⟨128 * g.val + c.val, by omega⟩) * cc (ix2 c d)) * cn (ix2 k x) := by
  unfold products
  pointwise
  refine Finset.sum_congr rfl fun x _ => ?_
  refine congrArg (· * cn (ix2 k x)) (Finset.sum_congr rfl fun c _ => ?_)
  rw [show (⟨128 * g.val + c.val, by omega⟩ : Fin 512) = ⟨g.val * 128 + c.val, by omega⟩ from Fin.ext (by simp; omega)]

theorem angC_apply (i j : Fin 128) : angC (F := Ideal) (ix2 i j) = ((ang 128 (i.val * j.val % 128) : ℝ) : EReal) :=
  Cert.Dft.angle_apply 128 128 (by decide) (by decide) _ _ _ _ _ 128 _ (by decide) (by decide) word_128 (by decide) i j
theorem angN_apply (i j : Fin 4096) : angN (F := Ideal) (ix2 i j) = ((ang 4096 (i.val * j.val % 4096) : ℝ) : EReal) :=
  Cert.Dft.angle_apply 4096 4096 (by decide) (by decide) _ _ _ _ _ 4096 _ (by decide) (by decide) word_4096 (by decide) i j

theorem scale_apply (w : BitVec 32) (q : ℕ) (hq : 0 < q) (hw : (FloatOps.ofBits .f32 w : Ideal .f32) = ((q : ℝ) : EReal)) (i : S_.Idx) :
    scale (F := Ideal) w i = ((1 / Real.sqrt q : ℝ) : EReal) := by
  show Ideal.div (FloatOps.ofBits .f32 0x3F800000#32 : Ideal .f32) (Ideal.sqrt (FloatOps.ofBits .f32 w : Ideal .f32)) = _
  have hq' : (0 : ℝ) < q := by exact_mod_cast hq
  rw [word_one, hw, Ideal.sqrt_coe, if_neg (not_lt.mpr hq'.le), Ideal.div_coe (Real.sqrt_ne_zero'.mpr hq'), ← EReal.coe_mul, one_mul]

theorem sqrt_4096 : Real.sqrt ((4096 : ℕ) : ℝ) = 64 := by
  rw [show ((4096 : ℕ) : ℝ) = 64 ^ 2 by norm_num, Real.sqrt_sq (by norm_num)]

variable (m : (ℓ : Loc nD τ sig) → Buf (Elt Ideal) ℓ) (c : Dev nD)

/-- The reference's result, where the values are real. -/
theorem res_value (Y : Fin 8 → ℕ → ℕ → ℝ)
    (hY : ∀ (b : Fin 8) (n : Fin 4096) (d : Fin 512), m ((c.tc : Thread nD τ).loc main_arg0) (ix3 b n d) = ((Y b n d : ℝ) : EReal))
    (b : Fin 8) (g : Fin 4) (k : Fin 4096) (d : Fin 128) :
    (Value.res_out0 m c : FVec Ideal S8x4x4096x128 .f32) (ix4 b g k d) = ((dftR (fun p q => Y b p (128 * g + q)) k d : ℝ) : EReal) := by
  have e (t : ℝ → ℝ) (cc : FVec Ideal S128x128 .f32) (cn : FVec Ideal S4096x4096 .f32)
      (h1 : ∀ i j : Fin 128, cc (ix2 i j) = ((t (ang 128 (i * j)) * (1 / Real.sqrt 128) : ℝ) : EReal))
      (h2 : ∀ i j : Fin 4096, cn (ix2 i j) = ((t (ang 4096 (i * j)) * (1 / 64) : ℝ) : EReal)) :
      products (m ((c.tc : Thread nD τ).loc main_arg0)) cc cn (ix4 b g k d)
        = ((∑ x : Fin 4096, (∑ c : Fin 128, Y b x (128 * g + c) * (t (ang 128 (c * d)) * (1 / Real.sqrt 128))) * (t (ang 4096 (k * x)) * (1 / 64)) : ℝ) : EReal) := by
    rw [products_apply, coe_sum]
    refine Finset.sum_congr rfl fun x _ => ?_
    refine (congrArg₂ (· * ·) ?_ (h2 k x)).trans (EReal.coe_mul _ _).symm
    rw [coe_sum]
    refine Finset.sum_congr rfl fun c _ => ?_
    refine (congrArg₂ (fun p q : EReal => p * q) (hY b x _) (h1 c d)).trans (EReal.coe_mul _ _).symm
  have s1 : ∀ i : S_.Idx, scale (F := Ideal) 0x43000000#32 i = ((1 / Real.sqrt 128 : ℝ) : EReal) := fun i => by
    rw [scale_apply _ 128 (by decide) word_128]; norm_num
  have s2 : ∀ i : S_.Idx, scale (F := Ideal) 0x45800000#32 i = ((1 / 64 : ℝ) : EReal) := fun i => by
    rw [scale_apply _ 4096 (by decide) word_4096, sqrt_4096]
  rw [res_eq, dftR, EReal.coe_sub]
  refine congrArg₂ (· - ·) (e Real.cos _ _ (fun i j => ?_) fun i j => ?_) (e Real.sin _ _ (fun i j => ?_) fun i j => ?_)
  · pointwise
    rw [angC_apply, s1, Ideal.cos_coe, cos_ang_mod _ _ (by decide), EReal.coe_mul]
  · pointwise
    rw [angN_apply, s2, Ideal.cos_coe, cos_ang_mod _ _ (by decide), EReal.coe_mul]
  · pointwise
    rw [angC_apply, s1, Ideal.sin_coe, sin_ang_mod _ _ (by decide), EReal.coe_mul]
  · pointwise
    rw [angN_apply, s2, Ideal.sin_coe, sin_ang_mod _ _ (by decide), EReal.coe_mul]

end Cert.ReferenceIdeal.Fourier

end
-- ==== Proof.Fourier.Claims.lean ====
module

public import proofs.«01_k».proof.Proof.Fourier.Block
public import proofs.«01_k».proof.Proof.Fourier.Reference
public import proofs.«01_k».proof.Proof.FourierBits.Frame
public import proofs.«01_k».proof.Proof.Gen.Pre_finite
public import proofs.«01_k».proof.Defs
public import Idealize.ShloMosaic.Lib.Claim
public import Idealize.ShloMosaic.Lib.Quiescent

@[expose] public section

set_option maxRecDepth 16384

noncomputable section

/-! # The claims about the Fourier call -/

namespace Cert.Fourier

open Idealize.ShloMosaic Idealize.ShloMosaic.TcCoe Idealize.SL.Sem
open Cert.KernelIdeal (nD τ sig main_arg0)

theorem frame_kernel : Cert.quiescent_Kernel := fun m ρ _ => Cert.Kernel.Fourier.frame (F := Bits) m ρ

theorem frame_ideal : Cert.quiescent_KernelIdeal := fun m ρ _ => Cert.KernelIdeal.Fourier.frame (F := Ideal) m ρ

theorem frame_ideal_finite : Cert.quiescent_KernelIdeal_pre_finite := fun m ρ _ => Cert.KernelIdeal.Fourier.frame (F := Ideal) m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_finite : Cert.quiescent_ReferenceIdeal_pre_finite := fun m ρ _ => frame_reference m ρ trivial

/-- The real value of an element, at numbers; zero beyond the array. -/
def realAt (u : FVec Ideal Cert.KernelIdeal.S8x4096x512 .bf16) (b : Fin 8) (n d : ℕ) : ℝ :=
  if h : n < 4096 ∧ d < 512 then EReal.toReal (u (ix3 b ⟨n, h.1⟩ ⟨d, h.2⟩)) else 0

/-- A value whose magnitude is below infinity is a real number. -/
theorem realAt_eq (u : FVec Ideal Cert.KernelIdeal.S8x4096x512 .bf16) (h : Cert.Pre_finite.fn (F := Ideal) u = fun _ => 1#1)
    (b : Fin 8) (n : Fin 4096) (d : Fin 512) : u (ix3 b n d) = ((realAt u b n d : ℝ) : EReal) := by
  have e : Ideal.cmp .olt (max (u (ix3 b n d)) (-u (ix3 b n d))) (FloatOps.ofBits .f32 0x7F800000#32 : Ideal .f32) = 1#1 := congrFun h (ix3 b n d)
  rw [show (FloatOps.ofBits .f32 0x7F800000#32 : Ideal .f32) = (⊤ : EReal) from by
    show Ideal.ofBits .f32 _ = _
    simp [Ideal.ofBits, Ideal.ieee]] at e
  have hlt : max (u (ix3 b n d)) (-u (ix3 b n d)) < (⊤ : EReal) := by
    by_contra hn
    simp [Ideal.cmp, hn] at e
  have ht : u (ix3 b n d) ≠ (⊤ : EReal) := fun h => by simp [h] at hlt
  have hb : u (ix3 b n d) ≠ (⊥ : EReal) := fun h => by simp [h] at hlt
  rw [realAt, dif_pos ⟨n.isLt, d.isLt⟩]
  exact (EReal.coe_toReal ht hb).symm

theorem algebraic : Cert.algebraic_KernelIdeal_ReferenceIdeal_pre_finite := fun m g m' g' hm hmm =>
  ⟨fun c => Cert.KernelIdeal.Fourier.result m c,
    (θ_run Cert.KernelIdeal.defs _ _).mono (fun r h c => ⟨h.1 c, h.2 c⟩)
      (θ_run_and (Cert.KernelIdeal.Fourier.run_value m g) (Cert.KernelIdeal.Fourier.unchanged m g)),
    (θ_run Cert.ReferenceIdeal.defs _ _).mono (fun r h c => ⟨(h c).1.trans (by
      funext y
      have e := realAt_eq _ (hm c)
      rw [eq_ix4 y]
      exact (Cert.ReferenceIdeal.Fourier.res_value m' c _ (fun b n d => (congrFun (hmm c) (ix3 b n d)).trans (e b n d)) _ _ _ _).trans
        (Cert.KernelIdeal.Fourier.result_value m c _ e _ _ _ _).symm), (h c).2⟩) (Cert.ReferenceIdeal.Value.run (F := Ideal) m' g')⟩

end Cert.Fourier

end
-- ==== Proof.InProj.Frames.lean ====
module

public import proofs.«01_k».proof.Proof.Gen.Kernel2.Frame
public import proofs.«01_k».proof.Proof.Gen.Kernel2Ideal.Frame
public import proofs.«01_k».proof.Proof.Gen.Reference2Ideal.Run
public import proofs.«01_k».proof.Defs
public import Idealize.ShloMosaic.Lib.Claim
public import Idealize.ShloMosaic.Lib.Quiescent

@[expose] public section

set_option maxRecDepth 16384

noncomputable section

/-! # The frame claims about the input projection -/

namespace Cert.InProj

open Idealize.ShloMosaic Idealize.ShloMosaic.TcCoe Idealize.SL.Sem

theorem frame_kernel : Cert.quiescent_Kernel2 := fun m ρ _ => Cert.Kernel2.Gen.frame (F := Bits) m ρ

theorem frame_ideal : Cert.quiescent_Kernel2Ideal := fun m ρ _ => Cert.Kernel2Ideal.Gen.frame (F := Ideal) m ρ

theorem frame_reference : Cert.quiescent_Reference2Ideal := fun m ρ _ =>
  (θ_run Cert.Reference2Ideal.defs _ _).mono (fun r h => ⟨fun c => (h c).2.2.2.2.2.2, sem_eq_zero_of_no_sems (by decide) r.2⟩)
    (Cert.Reference2Ideal.Value.run (F := Ideal) m ρ)

end Cert.InProj

end
-- ==== Proof.Layer.Project.lean ====
module

public import proofs.«01_k».proof.Proof.Layer.Spec

@[expose] public section

noncomputable section

/-! # The projection's formulas, row by row, over the extended reals -/

namespace Cert.Layer

open Idealize.ShloMosaic

/-- A row normalised and modulated. -/
def modulated (z scale shift : Fin 1024 → EReal) (d : Fin 1024) : EReal :=
  normed z d * (1 + scale d) + shift d

/-- The logistic function. -/
def sigmoid (x : EReal) : EReal := Ideal.div 1 (1 + Ideal.exp (-x))

/-- The gate `x σ(x)`. -/
def silu (x : EReal) : EReal := x * sigmoid x

/-- Three neighbouring tokens of a channel under its three taps, gated. -/
def tapped (p q r : EReal) (w : Fin 3 → EReal) : EReal := silu (p * w 0 + q * w 1 + r * w 2)

/-- A head's row over the root of its square sum. -/
def unit (y : Fin 128 → EReal) (e : Fin 128) : EReal := y e * Ideal.rsqrt (∑ i, y i * y i + num 0x358637BD#32)

/-- The queries, keys and values from the channels after the taps: a query's and a key's head of unit length, the queries scaled. -/
def convolved (y : Fin 3072 → EReal) (d : Fin 3072) : EReal :=
  if d.val < 1024 then unit (fun e => y ⟨128 * (d.val / 128) + e.val, by omega⟩) ⟨d.val % 128, Nat.mod_lt _ (by decide)⟩ * num 0x3DB504F3#32
  else if d.val < 2048 then unit (fun e => y ⟨128 * (d.val / 128) + e.val, by omega⟩) ⟨d.val % 128, Nat.mod_lt _ (by decide)⟩
  else y d

/-! ## The projection of the arguments -/

variable (x : Fin 8 → Fin 4096 → Fin 1024 → EReal) (mod : Fin 16 → Fin 3072 → EReal) (T : Fin 64 → Fin 512 → EReal)
  (w : Fin 1024 → Fin 7200 → EReal) (taps : Fin 3 → Fin 3072 → EReal)

/-- A token with its position, normalised and modulated. -/
def hidden (b : Fin 8) (n : Fin 4096) (d : Fin 1024) : EReal :=
  modulated (fun d => x b n d + position T n.val d) (fun d => mod ⟨b.val, by omega⟩ ⟨1024 + d.val, by omega⟩)
    (fun d => mod ⟨b.val, by omega⟩ ⟨d.val, by omega⟩) d

/-- A token's column of the projection. -/
def projected (b : Fin 8) (n : Fin 4096) (j : Fin 7200) : EReal := ∑ k, hidden x mod T b n k * w k j

/-- A token's channel under the taps: the channel of the token before, of the token and of the token after, zero past the ends. -/
def tappedAt (b : Fin 8) (n : Fin 4096) (j : Fin 3072) : EReal :=
  tapped (if n.val = 0 then 0 else projected x mod T w b ⟨n.val - 1, by omega⟩ ⟨1024 + j.val, by omega⟩)
    (projected x mod T w b n ⟨1024 + j.val, by omega⟩)
    (if h : n.val + 1 < 4096 then projected x mod T w b ⟨n.val + 1, h⟩ ⟨1024 + j.val, by omega⟩ else 0) (fun i => taps i j)

end Cert.Layer

end
-- ==== Proof.InProj.Payloads.lean ====
module

public import proofs.«01_k».proof.Proof.Gen.Kernel2Ideal.Skeleton
public import proofs.«01_k».proof.Proof.Layer.Project
public import Idealize.ShloMosaic.Lib.Pointwise

@[expose] public section

set_option maxRecDepth 16384

noncomputable section

/-! # What the projection's expressions are, element by element -/

namespace Cert.Kernel2Ideal.InProj

open Cert.Kernel2Ideal Cert.Kernel2Ideal.Gen Cert.Layer
open Idealize.ShloMosaic Idealize.ShloMosaic.TcCoe

/-- The row before a token's in the extended tile, where the rotation finds it. -/
def before (r : Fin 512) : Fin 528 := ⟨(8 + r.val + 528 - 1) % 528, by omega⟩
/-- A token's row in the extended tile. -/
def here (r : Fin 512) : Fin 528 := ⟨8 + r.val, by omega⟩
/-- The row after a token's in the extended tile, where the rotation finds it. -/
def after (r : Fin 512) : Fin 528 := ⟨(8 + r.val + 528 - 527) % 528, by omega⟩

theorem before_val (r : Fin 512) : (before r).val = 7 + r.val := by simp only [before]; omega
theorem after_val (r : Fin 512) : (after r).val = 9 + r.val := by simp only [after]; omega

/-! ## The projections of the tile -/

section
variable (h : FVec Ideal S512x1024 .bf16)

theorem fourier_apply (w : Vec Ideal S1024x1024 .bf16) (r : Fin 512) (c : Fin 512) :
    k0_pay58 (k0_pay57 h w) (ix3 0 r c) = ∑ k, h (ix2 r k) * w (ix2 k ⟨c.val, by omega⟩) := by
  unfold_payloads
  pointwise

theorem gate_apply (w : Vec Ideal S1024x1024 .bf16) (r : Fin 512) (c : Fin 512) :
    k0_pay59 (k0_pay56 h w) (ix3 0 r c) = silu (∑ k, h (ix2 r k) * w (ix2 k ⟨512 + c.val, by omega⟩)) := by
  unfold_payloads
  pointwise
  rfl

theorem delta_gate_apply (w : Vec Ideal S1024x1024 .bf16) (r : Fin 512) (c : Fin 1024) :
    k0_pay60 h w (ix3 0 r c) = silu (∑ k, h (ix2 r k) * w (ix2 k c)) := by
  unfold_payloads
  pointwise
  rfl

theorem first_route_apply (w : Vec Ideal S1024x2048 .bf16) (r : Fin 512) (c : Fin 1024) :
    k0_pay62 h w (ix3 0 r c) = sigmoid (∑ k, h (ix2 r k) * w (ix2 k ⟨c.val, by omega⟩)) := by
  unfold_payloads
  pointwise
  rfl

theorem last_route_apply (w : Vec Ideal S1024x2048 .bf16) (r : Fin 512) (c : Fin 1024) :
    k0_pay63 h w (ix3 0 r c) = sigmoid (∑ k, h (ix2 r k) * w (ix2 k ⟨1024 + c.val, by omega⟩)) := by
  unfold_payloads
  pointwise
  rfl

end

/-! ## The convolved channels, a block of 256 at a time -/

section
variable (h : FVec Ideal S528x1024 .bf16) (w : Vec Ideal S1024x256 .bf16) (cw : Vec Ideal S3x256 .f32)

/-- A block of 256 channels after the taps. -/
def taps (r : Fin 512) (c : Fin 256) : EReal :=
  tapped (∑ k, h (ix2 (before r) k) * w (ix2 k c)) (∑ k, h (ix2 (here r) k) * w (ix2 k c))
    (∑ k, h (ix2 (after r) k) * w (ix2 k c)) (fun i => cw (ix2 i c))

/-- The head's row that a column of a block lies in. -/
def headRow (y : Fin 256 → EReal) (c : Fin 256) (e : Fin 128) : EReal := y ⟨128 * (c.val / 128) + e.val, by omega⟩

/-- The column's place in its head. -/
def lane (c : Fin 256) : Fin 128 := ⟨c.val % 128, Nat.mod_lt _ (by decide)⟩

/-- Two heads computed apart and put side by side. -/
theorem two_heads (y : Fin 256 → EReal) (c : Fin 256) (g : EReal) :
    (if h : c.val < 128 then y c * (Ideal.rsqrt (∑ x : Fin 128, y ⟨x.val, by omega⟩ * y ⟨x.val, by omega⟩ + num 0x358637BD#32) * g)
      else y ⟨128 + (c.val - 128), by omega⟩ * (Ideal.rsqrt (∑ x : Fin 128, y ⟨128 + x.val, by omega⟩ * y ⟨128 + x.val, by omega⟩ + num 0x358637BD#32) * g))
      = unit (headRow y c) (lane c) * g := by
  have e : y c = headRow y c (lane c) := congrArg y (Fin.ext (Nat.div_add_mod c.val 128).symm)
  split
  · have hx : ∀ x : Fin 128, y ⟨x.val, by omega⟩ = headRow y c x := fun x => congrArg y (Fin.ext (by simp; omega))
    simp only [hx, unit, ← mul_assoc]
    rw [e]
  · have hx : ∀ x : Fin 128, y ⟨128 + x.val, by omega⟩ = headRow y c x := fun x => congrArg y (Fin.ext (by simp; omega))
    have hc : y ⟨128 + (c.val - 128), by omega⟩ = headRow y c (lane c) := (congrArg y (Fin.ext (by simp; omega))).trans e
    simp only [hx, hc, unit, ← mul_assoc]

theorem two_heads_one (y : Fin 256 → EReal) (c : Fin 256) :
    (if h : c.val < 128 then y c * Ideal.rsqrt (∑ x : Fin 128, y ⟨x.val, by omega⟩ * y ⟨x.val, by omega⟩ + num 0x358637BD#32)
      else y ⟨128 + (c.val - 128), by omega⟩ * Ideal.rsqrt (∑ x : Fin 128, y ⟨128 + x.val, by omega⟩ * y ⟨128 + x.val, by omega⟩ + num 0x358637BD#32))
      = unit (headRow y c) (lane c) := by
  simpa only [mul_one] using two_heads y c 1

theorem query_0 (r : Fin 512) (c : Fin 256) : k0_pay21 (k0_pay18 (F := Ideal) (fun i => h i) w cw) (k0_pay19 (F := Ideal) (fun i => h i) w cw) (k0_pay20 (F := Ideal) (fun i => h i) w cw) (ix3 0 r c)
    = unit (headRow (taps h w cw r) c) (lane c) * num 0x3DB504F3#32 := by
  unfold k0_pay21 k0_pay18 k0_pay19 k0_pay20 k0_pay18 k0_pay17 k0_pay16
  pointwise
  exact two_heads (taps h w cw r) c _

theorem query_1 (r : Fin 512) (c : Fin 256) : k0_pay26 (k0_pay23 h w cw) (k0_pay24 h w cw) (k0_pay25 h w cw) (ix3 0 r c)
    = unit (headRow (taps h w cw r) c) (lane c) * num 0x3DB504F3#32 := by
  unfold k0_pay26 k0_pay23 k0_pay24 k0_pay25 k0_pay23 k0_pay22
  pointwise
  exact two_heads (taps h w cw r) c _

theorem query_2 (r : Fin 512) (c : Fin 256) : k0_pay31 (k0_pay28 h w cw) (k0_pay29 h w cw) (k0_pay30 h w cw) (ix3 0 r c)
    = unit (headRow (taps h w cw r) c) (lane c) * num 0x3DB504F3#32 := by
  unfold k0_pay31 k0_pay28 k0_pay29 k0_pay30 k0_pay28 k0_pay27
  pointwise
  exact two_heads (taps h w cw r) c _

theorem query_3 (r : Fin 512) (c : Fin 256) : k0_pay33 (k0_pay32 h w cw) (ix3 0 r c)
    = unit (headRow (taps h w cw r) c) (lane c) * num 0x3DB504F3#32 := by
  unfold k0_pay33 k0_pay32
  pointwise
  exact two_heads (taps h w cw r) c _

theorem key_0 (r : Fin 512) (c : Fin 256) : k0_pay36 (k0_pay34 h w) cw (k0_pay35 h w cw) (ix3 0 r c)
    = unit (headRow (taps h w cw r) c) (lane c) := by
  unfold k0_pay36 k0_pay35 k0_pay34
  pointwise
  exact two_heads_one (taps h w cw r) c

theorem key_1 (r : Fin 512) (c : Fin 256) : k0_pay39 (k0_pay37 h w) cw (k0_pay38 h w) (ix3 0 r c)
    = unit (headRow (taps h w cw r) c) (lane c) := by
  unfold k0_pay39 k0_pay38 k0_pay37
  pointwise
  exact two_heads_one (taps h w cw r) c

theorem key_2 (r : Fin 512) (c : Fin 256) : k0_pay41 (k0_pay40 h w cw) (ix3 0 r c)
    = unit (headRow (taps h w cw r) c) (lane c) := by
  unfold k0_pay41 k0_pay40
  pointwise
  exact two_heads_one (taps h w cw r) c

theorem key_3 (r : Fin 512) (c : Fin 256) : k0_pay46 (k0_pay43 h w cw) (k0_pay44 h w cw) (k0_pay45 h w cw) (FloatOps.ofBits .f32 0x3F800000#32) (ix3 0 r c)
    = unit (headRow (taps h w cw r) c) (lane c) := by
  unfold k0_pay46 k0_pay44 k0_pay45 k0_pay43 k0_pay42
  pointwise
  exact two_heads_one (taps h w cw r) c

theorem value_0 (r : Fin 512) (c : Fin 256) : k0_pay47 h w cw (ix3 0 r c)
    = taps h w cw r c := by
  unfold k0_pay47
  pointwise
  rfl

theorem value_1 (r : Fin 512) (c : Fin 256) : k0_pay49 h (k0_pay48 w) cw (ix3 0 r c)
    = taps h w cw r c := by
  unfold k0_pay49 k0_pay48
  pointwise
  rfl

theorem value_2 (r : Fin 512) (c : Fin 256) : k0_pay54 (k0_pay51 h w cw) (k0_pay52 h w) (k0_pay53 cw) (ix3 0 r c)
    = taps h w cw r c := by
  unfold k0_pay54 k0_pay51 k0_pay52 k0_pay53 k0_pay50
  pointwise
  rfl

theorem value_3 (r : Fin 512) (c : Fin 256) : k0_pay55 h w cw (ix3 0 r c)
    = taps h w cw r c := by
  unfold k0_pay55
  pointwise
  rfl

end

end Cert.Kernel2Ideal.InProj

end
-- ==== Proof.InProj.Rows.lean ====
module

public import proofs.«01_k».proof.Proof.InProj.Payloads

@[expose] public section

set_option maxRecDepth 16384

noncomputable section

/-! # The tile's rows, and the eight on either side -/

namespace Cert.Kernel2Ideal.InProj

open Cert.Kernel2Ideal Cert.Kernel2Ideal.Gen Cert.Layer
open Idealize.ShloMosaic Idealize.ShloMosaic.TcCoe

/-- A tile's part of the position table, from eight rows of the row table and the column table. -/
def position' (a : Vec Ideal S8x512 .f32) (b : Vec Ideal S64x512 .f32) (r : Fin 512) (d : Fin 1024) : EReal :=
  if h : d.val < 512 then a (ix2 ⟨r.val / 64, by omega⟩ ⟨d.val, h⟩) else b (ix2 ⟨r.val % 64, by omega⟩ ⟨d.val - 512, by omega⟩)

/-- The position table on eight tokens of one row of the grid. -/
def beside (a : Vec Ideal S1x512 .f32) (b : Vec Ideal S8x512 .f32) (r : Fin 8) (d : Fin 1024) : EReal :=
  if h : d.val < 512 then a (ix2 0 ⟨d.val, h⟩) else b (ix2 r ⟨d.val - 512, by omega⟩)

/-- The modulation's scale. -/
def scaleOf (s : Vec Ideal S1x1x3072 .f32) (d : Fin 1024) : EReal := s (ix3 0 0 ⟨1024 + d.val, by omega⟩)
/-- The modulation's shift. -/
def shiftOf (s : Vec Ideal S1x1x3072 .f32) (d : Fin 1024) : EReal := s (ix3 0 0 ⟨d.val, by omega⟩)

theorem token_apply (x : Vec Ideal S1x512x1024 .f32) (a : Vec Ideal S8x512 .f32) (b : Vec Ideal S64x512 .f32) (r : Fin 512) (d : Fin 1024) :
    k0_pay4 x a b (ix2 r d) = x (ix3 0 r d) + position' a b r d := by
  unfold_payloads
  pointwise
  rfl

theorem rows_apply (z : FVec Ideal S512x1024 .f32) (s : Vec Ideal S1x1x3072 .f32) (r : Fin 512) (d : Fin 1024) :
    k0_pay11 z s (ix2 r d) = modulated (fun d => z (ix2 r d)) (scaleOf s) (shiftOf s) d := by
  unfold_payloads
  pointwise
  rfl

theorem rows'_apply (z : FVec Ideal S512x1024 .f32) (s : Vec Ideal S1x1x3072 .f32) (r : Fin 512) (d : Fin 1024) :
    k0_pay12 z s (ix2 r d) = modulated (fun d => z (ix2 r d)) (scaleOf s) (shiftOf s) d :=
  rows_apply z s r d

theorem next_apply (x : Vec Ideal S1x8x1024 .f32) (a : Vec Ideal S1x512 .f32) (b : Vec Ideal S8x512 .f32) (r : Fin 8) (d : Fin 1024) :
    k0_pay7 (k0_pay3 x) (k0_pay5 a) b (ix2 r d) = x (ix3 0 r d) + beside a b r d := by
  unfold_payloads
  pointwise
  rfl

theorem sum_halves (f : Fin 1024 → EReal) : ∑ j, f j = ∑ j : Fin 512, f ⟨j.val, by omega⟩ + ∑ j : Fin 512, f ⟨512 + j.val, by omega⟩ :=
  Fin.sum_univ_add (a := 512) (b := 512) f

theorem last_apply (x : Vec Ideal S1x8x1024 .f32) (a : Vec Ideal S1x512 .f32) (b : Vec Ideal S8x512 .f32) (r : Fin 8) (d : Fin 1024) :
    k0_pay13 (k0_pay2 x) (k0_pay6 a) b (ix2 r d) = centred (fun d => x (ix3 0 r d) + beside a b r d) d := by
  unfold_payloads
  pointwise
  rw [centred, mean, sum_halves]
  simp [beside]

theorem square_apply (x : FVec Ideal S8x1024 .f32) (a b : FVec Ideal S8x512 .f32) (r : Fin 8) :
    k0_pay14 x a b (ix1 r) = ∑ j, k0_pay13 x a b (ix2 r j) * k0_pay13 x a b (ix2 r j) := by
  unfold k0_pay14
  pointwise

theorem extended_apply (q : BitVec 32) (z : FVec Ideal S8x1024 .f32) (s : Vec Ideal S1x1x3072 .f32) (u : FVec Ideal S512x1024 .f32)
    (y : FVec Ideal S8x1024 .f32) (n : FVec Ideal S8 .f32) (e : Fin 528) (d : Fin 1024) :
    k0_pay16 (k0_pay15 q z (k0_pay9 s) (k0_pay10 s) u y n) (ix2 e d)
      = if h : e.val < 8 then Scalar.select (Scalar.cmpi .sgt q 0#32) (y (ix2 ⟨e.val, h⟩ d)
            * Ideal.rsqrt (Ideal.div (n (ix1 ⟨e.val, h⟩)) (num 0x44800000#32) + num 0x358637BD#32) * (1 + scaleOf s d) + shiftOf s d) (0 : EReal)
        else if h' : e.val - 8 < 512 then u (ix2 ⟨e.val - 8, h'⟩ d)
        else Scalar.select (Scalar.cmpi .slt q 7#32) (modulated (fun d => z (ix2 ⟨e.val - 8 - 512, by omega⟩ d)) (scaleOf s) (shiftOf s) d) (0 : EReal) := by
  unfold_payloads
  pointwise
  rfl

/-- A tile's rows with eight more on either side, modulated; nothing outside the sequence. -/
theorem extended_rows (q : BitVec 32) (x : Vec Ideal S1x512x1024 .f32) (a : Vec Ideal S8x512 .f32) (b : Vec Ideal S64x512 .f32)
    (x₁ x₂ : Vec Ideal S1x8x1024 .f32) (a₁ a₂ : Vec Ideal S1x512 .f32) (b₁ b₂ : Vec Ideal S8x512 .f32) (s : Vec Ideal S1x1x3072 .f32)
    (e : Fin 528) (d : Fin 1024) :
    k0_pay16 (k0_pay15 q (k0_pay7 (k0_pay3 x₂) (k0_pay5 a₂) b₂) (k0_pay9 s) (k0_pay10 s) (k0_pay11 (k0_pay4 x a b) s)
        (k0_pay13 (k0_pay2 x₁) (k0_pay6 a₁) b₁) (k0_pay14 (k0_pay2 x₁) (k0_pay6 a₁) b₁)) (ix2 e d)
      = if h : e.val < 8 then Scalar.select (Scalar.cmpi .sgt q 0#32)
          (modulated (fun d => x₁ (ix3 0 ⟨e.val, h⟩ d) + beside a₁ b₁ ⟨e.val, h⟩ d) (scaleOf s) (shiftOf s) d) (0 : EReal)
        else if h' : e.val - 8 < 512 then modulated (fun d => x (ix3 0 ⟨e.val - 8, h'⟩ d) + position' a b ⟨e.val - 8, h'⟩ d) (scaleOf s) (shiftOf s) d
        else Scalar.select (Scalar.cmpi .slt q 7#32) (modulated (fun d => x₂ (ix3 0 ⟨e.val - 8 - 512, by omega⟩ d)
          + beside a₂ b₂ ⟨e.val - 8 - 512, by omega⟩ d) (scaleOf s) (shiftOf s) d) (0 : EReal) := by
  rw [extended_apply]
  simp only [square_apply, last_apply, rows_apply, token_apply, next_apply]
  rfl

theorem extended_before (q : BitVec 32) (x : Vec Ideal S1x512x1024 .f32) (a : Vec Ideal S8x512 .f32) (b : Vec Ideal S64x512 .f32)
    (x₁ x₂ : Vec Ideal S1x8x1024 .f32) (a₁ a₂ : Vec Ideal S1x512 .f32) (b₁ b₂ : Vec Ideal S8x512 .f32) (s : Vec Ideal S1x1x3072 .f32)
    (e : Fin 528) (h : e.val = 7) (d : Fin 1024) :
    k0_pay16 (k0_pay15 q (k0_pay7 (k0_pay3 x₂) (k0_pay5 a₂) b₂) (k0_pay9 s) (k0_pay10 s) (k0_pay11 (k0_pay4 x a b) s)
        (k0_pay13 (k0_pay2 x₁) (k0_pay6 a₁) b₁) (k0_pay14 (k0_pay2 x₁) (k0_pay6 a₁) b₁)) (ix2 e d)
      = Scalar.select (Scalar.cmpi .sgt q 0#32) (modulated (fun d => x₁ (ix3 0 7 d) + beside a₁ b₁ 7 d) (scaleOf s) (shiftOf s) d) (0 : EReal) := by
  obtain rfl : e = 7 := Fin.ext h
  exact (extended_rows q x a b x₁ x₂ a₁ a₂ b₁ b₂ s 7 d).trans (dif_pos (by decide))

theorem extended_inner (q : BitVec 32) (x : Vec Ideal S1x512x1024 .f32) (a : Vec Ideal S8x512 .f32) (b : Vec Ideal S64x512 .f32)
    (x₁ x₂ : Vec Ideal S1x8x1024 .f32) (a₁ a₂ : Vec Ideal S1x512 .f32) (b₁ b₂ : Vec Ideal S8x512 .f32) (s : Vec Ideal S1x1x3072 .f32)
    (e : Fin 528) (r : Fin 512) (h : e.val = 8 + r.val) (d : Fin 1024) :
    k0_pay16 (k0_pay15 q (k0_pay7 (k0_pay3 x₂) (k0_pay5 a₂) b₂) (k0_pay9 s) (k0_pay10 s) (k0_pay11 (k0_pay4 x a b) s)
        (k0_pay13 (k0_pay2 x₁) (k0_pay6 a₁) b₁) (k0_pay14 (k0_pay2 x₁) (k0_pay6 a₁) b₁)) (ix2 e d)
      = modulated (fun d => x (ix3 0 r d) + position' a b r d) (scaleOf s) (shiftOf s) d := by
  have h' : e.val - 8 < 512 := by omega
  obtain rfl : r = ⟨e.val - 8, h'⟩ := Fin.ext (show r.val = e.val - 8 by omega)
  exact (extended_rows q x a b x₁ x₂ a₁ a₂ b₁ b₂ s e d).trans ((dif_neg (by omega)).trans (dif_pos h'))

theorem extended_after (q : BitVec 32) (x : Vec Ideal S1x512x1024 .f32) (a : Vec Ideal S8x512 .f32) (b : Vec Ideal S64x512 .f32)
    (x₁ x₂ : Vec Ideal S1x8x1024 .f32) (a₁ a₂ : Vec Ideal S1x512 .f32) (b₁ b₂ : Vec Ideal S8x512 .f32) (s : Vec Ideal S1x1x3072 .f32)
    (e : Fin 528) (h : e.val = 520) (d : Fin 1024) :
    k0_pay16 (k0_pay15 q (k0_pay7 (k0_pay3 x₂) (k0_pay5 a₂) b₂) (k0_pay9 s) (k0_pay10 s) (k0_pay11 (k0_pay4 x a b) s)
        (k0_pay13 (k0_pay2 x₁) (k0_pay6 a₁) b₁) (k0_pay14 (k0_pay2 x₁) (k0_pay6 a₁) b₁)) (ix2 e d)
      = Scalar.select (Scalar.cmpi .slt q 7#32) (modulated (fun d => x₂ (ix3 0 0 d) + beside a₂ b₂ 0 d) (scaleOf s) (shiftOf s) d) (0 : EReal) := by
  obtain rfl : e = 520 := Fin.ext h
  exact (extended_rows q x a b x₁ x₂ a₁ a₂ b₁ b₂ s 520 d).trans ((dif_neg (by decide)).trans (dif_neg (by decide)))

end Cert.Kernel2Ideal.InProj

end
-- ==== Proof.InProj.Tile.lean ====
module

public import proofs.«01_k».proof.Proof.Gen.Kernel2Ideal.Value
public import proofs.«01_k».proof.Proof.InProj.Rows
public import Idealize.ShloMosaic.Lib.Pipeline.ValueKit

@[expose] public section

set_option maxRecDepth 16384

noncomputable section

/-! # One point's blocks of the projection -/

namespace Cert.Kernel2Ideal.InProj

open Cert.Kernel2Ideal Cert.Kernel2Ideal.Gen Cert.Layer
open Idealize.ShloMosaic Idealize.ShloMosaic.TcCoe Idealize.ShloMosaic.Tactic

/-! ## The loads -/

/-- A load of part of a whole buffer, through a slice of it or not. -/
theorem load_whole {s : Shape} {e : EltTy} (M : Memref sig .tc .vmem s e) (h : M.IsWhole) (x : Vec Ideal s e) (r : LoadRect s) :
    M.view.readAt (Elt Ideal) r (h.unread x) = fun j => x (r.idx j) :=
  funext fun j => congrFun (h.read_unread x) (r.idx j)

/-- Where a block of 256 columns of the weights lies. -/
theorem column_at (o : ℕ) (ho : o + 256 ≤ 3072) (p q s) (k : Fin 1024) (i : Fin 256) :
    ((Rect.unit (s := S1024x5120) ![0, 1024] ![1024, 3072] p).withinL (Rect.unit (s := S1024x3072) ![0, o] ![1024, 256] q).toLoadRect s).idx (ix2 k i)
      = ix2 k ⟨1024 + (o + i.val), by omega⟩ := by
  rw [Rect.idx_withinL]
  funext a
  apply Fin.ext
  rw [Rect.emb_apply]
  fin_cases a
  · show 0 + 1 * (0 + 1 * k.val) = k.val
    omega
  · show 1024 + 1 * (o + 1 * i.val) = 1024 + (o + i.val)
    omega

/-- Where a block of 256 columns of the taps lies. -/
theorem tap_at (X : Vec Ideal S3x3072 .f32) (o : ℕ) (ho : o + 256 ≤ 3072) (p) (k : Fin 3) (i : Fin 256) :
    View.ld X (Rect.unit (s := S3x3072) ![0, o] ![3, 256] p) (ix2 k i) = X (ix2 k ⟨o + i.val, by omega⟩) :=
  View.ld_unit_apply_of X _ _ _ (ix2 k i) (ix2 k _) fun a => by
    fin_cases a
    · exact (Nat.zero_add _).symm
    · rfl

theorem piece_at {n : ℕ} (x : (⟨3, ![1, 512, n]⟩ : Shape).Idx) : x = ix3 0 (x 1) (x 2) :=
  funext fun a => by fin_cases a <;> [exact Subsingleton.elim (α := Fin 1) _ _; rfl; rfl]

/-! ## A block of 256 channels in its place -/

section
variable (h : FVec Ideal S528x1024 .bf16) (w : Vec Ideal S1024x256 .bf16) (cw : Vec Ideal S3x256 .f32)
  (W : Vec Ideal S1024x5120 .bf16) (C : Vec Ideal S3x3072 .f32)

/-- The channels after the taps. -/
def tapped' (r : Fin 512) (j : Fin 3072) : EReal :=
  tapped (∑ k, h (ix2 (before r) k) * W (ix2 k ⟨1024 + j.val, by omega⟩)) (∑ k, h (ix2 (here r) k) * W (ix2 k ⟨1024 + j.val, by omega⟩))
    (∑ k, h (ix2 (after r) k) * W (ix2 k ⟨1024 + j.val, by omega⟩)) (fun i => C (ix2 i j))

variable (o b : ℕ) (ho : o = 256 * b) (hb : b < 12) (hw : ∀ k (c : Fin 256), w (ix2 k c) = W (ix2 k ⟨1024 + (o + c.val), by omega⟩))
  (hc : ∀ i (c : Fin 256), cw (ix2 i c) = C (ix2 i ⟨o + c.val, by omega⟩)) (r : Fin 512) (c : Fin 256)

include hw hc in
theorem taps_eq : taps h w cw r c = tapped' h W C r ⟨o + c.val, by omega⟩ := by
  simp only [taps, tapped', hw, hc]

include hw hc in
theorem query_tile (d : Fin 3072) (hd : d.val = o + c.val) (hq : b < 4) : unit (headRow (taps h w cw r) c) (lane c) * num 0x3DB504F3#32 = convolved (tapped' h W C r) d := by
  rw [convolved, if_pos (by omega)]
  congr 2
  · funext e
    exact (taps_eq h w cw W C o b ho hb hw hc r _).trans (congrArg _ (Fin.ext (by simp only [hd]; omega)))
  · exact Fin.ext (by simp only [lane, hd]; omega)

include hw hc in
theorem key_tile (d : Fin 3072) (hd : d.val = o + c.val) (hq : 4 ≤ b) (hk : b < 8) : unit (headRow (taps h w cw r) c) (lane c) = convolved (tapped' h W C r) d := by
  rw [convolved, if_neg (by omega), if_pos (by omega)]
  congr 1
  · funext e
    exact (taps_eq h w cw W C o b ho hb hw hc r _).trans (congrArg _ (Fin.ext (by simp only [hd]; omega)))
  · exact Fin.ext (by simp only [lane, hd]; omega)

include hw hc in
theorem value_tile (d : Fin 3072) (hd : d.val = o + c.val) (hv : 8 ≤ b) : taps h w cw r c = convolved (tapped' h W C r) d := by
  rw [convolved, if_neg (by omega), if_neg (by omega), taps_eq h w cw W C o b ho hb hw hc]
  exact congrArg _ (Fin.ext hd.symm)

end

variable (m : (ℓ : Loc nD τ sig) → Buf (Elt Ideal) ℓ) (c : Dev nD)

theorem coord_0 (t : Fin cfg0.N) : (grid0.coords t 0).val = t.val / 8 := by
  have h : (grid0.coords t 0).val = t.val / 8 % 8 := Pipeline.Grid.coords_val t 0 (by decide) rfl
  have hN : t.val < 64 := lt_of_lt_of_eq t.isLt (show cfg0.N = 64 from N_0)
  rw [h]; omega

theorem coord_1 (t : Fin cfg0.N) : (grid0.coords t 1).val = t.val % 8 := by
  have h : (grid0.coords t 1).val = t.val / 1 % 8 := Pipeline.Grid.coords_val t 1 (by decide) rfl
  rw [h, Nat.div_one]

theorem rowsAt_in (t : Fin cfg0.N) (a : Fin 2) : (![BitVec.toNat (Scalar.indexCast (Scalar.muli (BitVec.ofNat 32 (grid0.coords t 1).val) 8#32)), 0] : Fin 2 → ℕ) a + S8x512.size a ≤ S64x512.size a := by
  rw [coord_1]
  have h8 : t.val % 8 < 8 := Nat.mod_lt _ (by decide)
  generalize t.val % 8 = q at h8 ⊢
  interval_cases q <;> fin_cases a <;> decide

/-- The eight rows of the row table that a point loads. -/
def rowsAt (t : Fin cfg0.N) : Vec Ideal S8x512 .f32 :=
  View.ld (iblk m c 4 t) (Rect.unit (s := S64x512) ![BitVec.toNat (Scalar.indexCast (Scalar.muli (BitVec.ofNat 32 (grid0.coords t 1).val) 8#32)), 0] S8x512.size (rowsAt_in t))

theorem rowsAt_apply (t : Fin cfg0.N) (i : Fin 8) (j : Fin 512) : rowsAt m c t (ix2 i j) = iblk m c 4 t (ix2 ⟨8 * (t.val % 8) + i.val, by omega⟩ j) :=
  View.ld_unit_apply_of (iblk m c 4 t) _ _ _ (ix2 i j) _ fun a => by
    fin_cases a
    · show 8 * (t.val % 8) + i.val = BitVec.toNat (Scalar.indexCast (Scalar.muli (BitVec.ofNat 32 (grid0.coords t 1).val) 8#32)) + i.val
      rw [coord_1]
      have h8 : t.val % 8 < 8 := Nat.mod_lt _ (by decide)
      generalize t.val % 8 = q at h8 ⊢
      interval_cases q <;> rfl
    · exact (Nat.zero_add _).symm

theorem rowBefore_in (t : Fin cfg0.N) (a : Fin 2) : (![BitVec.toNat (Scalar.indexCast (Scalar.maxsi (Scalar.subi (Scalar.muli (BitVec.ofNat 32 (grid0.coords t 1).val) 8#32) 1#32) 0#32)), 0] : Fin 2 → ℕ) a + S1x512.size a ≤ S64x512.size a := by
  rw [coord_1]
  have h8 : t.val % 8 < 8 := Nat.mod_lt _ (by decide)
  generalize t.val % 8 = q at h8 ⊢
  interval_cases q <;> fin_cases a <;> decide

/-- The row of the row table before them, where there is one. -/
def rowBefore (t : Fin cfg0.N) : Vec Ideal S1x512 .f32 :=
  View.ld (iblk m c 4 t) (Rect.unit (s := S64x512) ![BitVec.toNat (Scalar.indexCast (Scalar.maxsi (Scalar.subi (Scalar.muli (BitVec.ofNat 32 (grid0.coords t 1).val) 8#32) 1#32) 0#32)), 0] S1x512.size (rowBefore_in t))

theorem rowBefore_apply (t : Fin cfg0.N) (i : Fin 1) (j : Fin 512) : rowBefore m c t (ix2 i j) = iblk m c 4 t (ix2 ⟨(8 * (t.val % 8) - 1) + i.val, by omega⟩ j) :=
  View.ld_unit_apply_of (iblk m c 4 t) _ _ _ (ix2 i j) _ fun a => by
    fin_cases a
    · show (8 * (t.val % 8) - 1) + i.val = BitVec.toNat (Scalar.indexCast (Scalar.maxsi (Scalar.subi (Scalar.muli (BitVec.ofNat 32 (grid0.coords t 1).val) 8#32) 1#32) 0#32)) + i.val
      rw [coord_1]
      have h8 : t.val % 8 < 8 := Nat.mod_lt _ (by decide)
      generalize t.val % 8 = q at h8 ⊢
      interval_cases q <;> rfl
    · exact (Nat.zero_add _).symm

theorem rowAfter_in (t : Fin cfg0.N) (a : Fin 2) : (![BitVec.toNat (Scalar.indexCast (Scalar.minsi (Scalar.muli (Scalar.addi (BitVec.ofNat 32 (grid0.coords t 1).val) 1#32) 8#32) 63#32)), 0] : Fin 2 → ℕ) a + S1x512.size a ≤ S64x512.size a := by
  rw [coord_1]
  have h8 : t.val % 8 < 8 := Nat.mod_lt _ (by decide)
  generalize t.val % 8 = q at h8 ⊢
  interval_cases q <;> fin_cases a <;> decide

/-- The row of the row table after them, where there is one. -/
def rowAfter (t : Fin cfg0.N) : Vec Ideal S1x512 .f32 :=
  View.ld (iblk m c 4 t) (Rect.unit (s := S64x512) ![BitVec.toNat (Scalar.indexCast (Scalar.minsi (Scalar.muli (Scalar.addi (BitVec.ofNat 32 (grid0.coords t 1).val) 1#32) 8#32) 63#32)), 0] S1x512.size (rowAfter_in t))

theorem rowAfter_apply (t : Fin cfg0.N) (i : Fin 1) (j : Fin 512) : rowAfter m c t (ix2 i j) = iblk m c 4 t (ix2 ⟨min (8 * (t.val % 8) + 8) 63 + i.val, by omega⟩ j) :=
  View.ld_unit_apply_of (iblk m c 4 t) _ _ _ (ix2 i j) _ fun a => by
    fin_cases a
    · show min (8 * (t.val % 8) + 8) 63 + i.val = BitVec.toNat (Scalar.indexCast (Scalar.minsi (Scalar.muli (Scalar.addi (BitVec.ofNat 32 (grid0.coords t 1).val) 1#32) 8#32) 63#32)) + i.val
      rw [coord_1]
      have h8 : t.val % 8 < 8 := Nat.mod_lt _ (by decide)
      generalize t.val % 8 = q at h8 ⊢
      interval_cases q <;> rfl
    · exact (Nat.zero_add _).symm

/-- The first eight rows of the column table. -/
def firstColumns (t : Fin cfg0.N) : Vec Ideal S8x512 .f32 := View.ld (iblk m c 5 t) (Rect.unit ![0, 0] S8x512.size inb_S64x512_S8x512_0_0)
/-- The last eight rows of the column table. -/
def lastColumns (t : Fin cfg0.N) : Vec Ideal S8x512 .f32 := View.ld (iblk m c 5 t) (Rect.unit ![56, 0] S8x512.size inb_S64x512_S8x512_56_0)

/-- The tile's tokens, modulated. -/
def tile (t : Fin cfg0.N) : FVec Ideal S512x1024 .bf16 :=
  k0_pay12 (k0_pay4 (iblk m c 0 t) (rowsAt m c t) (iblk m c 5 t)) (iblk m c 3 t)

/-- The tile's rows with eight more on either side, before they are narrowed. -/
def wide' (t : Fin cfg0.N) : FVec Ideal S528x1024 .f32 :=
  k0_pay15 (BitVec.ofNat 32 (grid0.coords t 1).val) (k0_pay7 (k0_pay3 (iblk m c 2 t)) (k0_pay5 (rowAfter m c t)) (firstColumns m c t))
    (k0_pay9 (iblk m c 3 t)) (k0_pay10 (iblk m c 3 t)) (k0_pay11 (k0_pay4 (iblk m c 0 t) (rowsAt m c t) (iblk m c 5 t)) (iblk m c 3 t))
    (k0_pay13 (k0_pay2 (iblk m c 1 t)) (k0_pay6 (rowBefore m c t)) (lastColumns m c t))
    (k0_pay14 (k0_pay2 (iblk m c 1 t)) (k0_pay6 (rowBefore m c t)) (lastColumns m c t))

theorem wide'_loads (t : Fin cfg0.N) :
    k0_pay15 (BitVec.ofNat 32 (grid0.coords t 1).val) (k0_pay7 (k0_pay3 (iblk m c 2 t)) (k0_pay5 (View.ld (iblk m c 4 t) (Rect.unit (s := S64x512) ![BitVec.toNat (Scalar.indexCast (Scalar.minsi (Scalar.muli (Scalar.addi (BitVec.ofNat 32 (grid0.coords t 1).val) 1#32) 8#32) 63#32)), 0] S1x512.size (rowAfter_in t)))) (View.ld (iblk m c 5 t) (Rect.unit ![0, 0] S8x512.size inb_S64x512_S8x512_0_0)))
    (k0_pay9 (iblk m c 3 t)) (k0_pay10 (iblk m c 3 t)) (k0_pay11 (k0_pay4 (iblk m c 0 t) (View.ld (iblk m c 4 t) (Rect.unit (s := S64x512) ![BitVec.toNat (Scalar.indexCast (Scalar.muli (BitVec.ofNat 32 (grid0.coords t 1).val) 8#32)), 0] S8x512.size (rowsAt_in t))) (iblk m c 5 t)) (iblk m c 3 t))
    (k0_pay13 (k0_pay2 (iblk m c 1 t)) (k0_pay6 (View.ld (iblk m c 4 t) (Rect.unit (s := S64x512) ![BitVec.toNat (Scalar.indexCast (Scalar.maxsi (Scalar.subi (Scalar.muli (BitVec.ofNat 32 (grid0.coords t 1).val) 8#32) 1#32) 0#32)), 0] S1x512.size (rowBefore_in t)))) (View.ld (iblk m c 5 t) (Rect.unit ![56, 0] S8x512.size inb_S64x512_S8x512_56_0)))
    (k0_pay14 (k0_pay2 (iblk m c 1 t)) (k0_pay6 (View.ld (iblk m c 4 t) (Rect.unit (s := S64x512) ![BitVec.toNat (Scalar.indexCast (Scalar.maxsi (Scalar.subi (Scalar.muli (BitVec.ofNat 32 (grid0.coords t 1).val) 8#32) 1#32) 0#32)), 0] S1x512.size (rowBefore_in t)))) (View.ld (iblk m c 5 t) (Rect.unit ![56, 0] S8x512.size inb_S64x512_S8x512_56_0))) = wide' m c t := rfl

/-- The tile's rows with eight more on either side. -/
def wide (t : Fin cfg0.N) : FVec Ideal S528x1024 .bf16 := k0_pay16 (wide' m c t)

theorem fv_tile (t : Fin cfg0.N) (r : Fin 512) (d : Fin 512) : (outsAt0 m c t).1 (ix3 0 r d)
    = ∑ k, tile m c t (ix2 r k) * iblk m c 6 t (ix2 k ⟨d.val, by omega⟩) := by
  unfold outsAt0
  dsimp only
  unfold out0_A_16
  rw [View.read_writes_eq_canon _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_3 t).read_unread, (hs0_4 t).read_unread, (hs0_5 t).read_unread, (hs0_6 t).read_unread]
  have z2 : (![0, 0] : Fin 2 → ℕ) = fun _ => 0 := funext fun a => by fin_cases a <;> rfl
  have z3 : (![0, 0, 0] : Fin 3 → ℕ) = fun _ => 0 := funext fun a => by fin_cases a <;> rfl
  have w0 : ∀ h, View.ld (iblk m c 0 t) (Rect.unit (s := S1x512x1024) ![0, 0, 0] S1x512x1024.size h) = iblk m c 0 t := fun h => View.ld_unit_zero (S := S1x512x1024) z3 h _
  have w3 : ∀ h, View.ld (iblk m c 3 t) (Rect.unit (s := S1x1x3072) ![0, 0, 0] S1x1x3072.size h) = iblk m c 3 t := fun h => View.ld_unit_zero (S := S1x1x3072) z3 h _
  have w5 : ∀ h, View.ld (iblk m c 5 t) (Rect.unit (s := S64x512) ![0, 0] S64x512.size h) = iblk m c 5 t := fun h => View.ld_unit_zero (S := S64x512) z2 h _
  simp only [w0, w3, w5]
  canon_tiles x h
  obtain rfl : r = x 1 := Fin.ext h1
  obtain rfl : d = x 2 := Fin.ext h2
  rw [piece_at x]
  exact (fourier_apply (tile m c t) _ (x 1) (x 2)).trans (Finset.sum_congr rfl fun k _ => congrArg (tile m c t (ix2 (x 1) k) * ·) (View.ld_unit_apply_of (iblk m c 6 t) _ _ _ (ix2 k _) (ix2 k _) fun a => by fin_cases a <;> simp [ix2]))

theorem fg_tile (t : Fin cfg0.N) (r : Fin 512) (d : Fin 512) : (outsAt0 m c t).2.1 (ix3 0 r d)
    = silu (∑ k, tile m c t (ix2 r k) * iblk m c 6 t (ix2 k ⟨512 + d.val, by omega⟩)) := by
  unfold outsAt0
  dsimp only
  unfold out0_A_17
  rw [View.read_writes_eq_canon _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_3 t).read_unread, (hs0_4 t).read_unread, (hs0_5 t).read_unread, (hs0_6 t).read_unread]
  have z2 : (![0, 0] : Fin 2 → ℕ) = fun _ => 0 := funext fun a => by fin_cases a <;> rfl
  have z3 : (![0, 0, 0] : Fin 3 → ℕ) = fun _ => 0 := funext fun a => by fin_cases a <;> rfl
  have w0 : ∀ h, View.ld (iblk m c 0 t) (Rect.unit (s := S1x512x1024) ![0, 0, 0] S1x512x1024.size h) = iblk m c 0 t := fun h => View.ld_unit_zero (S := S1x512x1024) z3 h _
  have w3 : ∀ h, View.ld (iblk m c 3 t) (Rect.unit (s := S1x1x3072) ![0, 0, 0] S1x1x3072.size h) = iblk m c 3 t := fun h => View.ld_unit_zero (S := S1x1x3072) z3 h _
  have w5 : ∀ h, View.ld (iblk m c 5 t) (Rect.unit (s := S64x512) ![0, 0] S64x512.size h) = iblk m c 5 t := fun h => View.ld_unit_zero (S := S64x512) z2 h _
  simp only [w0, w3, w5]
  canon_tiles x h
  obtain rfl : r = x 1 := Fin.ext h1
  obtain rfl : d = x 2 := Fin.ext h2
  rw [piece_at x]
  exact (gate_apply (tile m c t) _ (x 1) (x 2)).trans (congrArg silu (Finset.sum_congr rfl fun k _ => congrArg (tile m c t (ix2 (x 1) k) * ·) (View.ld_unit_apply_of (iblk m c 6 t) _ _ _ (ix2 k _) (ix2 k _) fun a => by fin_cases a <;> simp [ix2])))

theorem sg_tile (t : Fin cfg0.N) (r : Fin 512) (d : Fin 1024) : (outsAt0 m c t).2.2.2.1 (ix3 0 r d)
    = silu (∑ k, tile m c t (ix2 r k) * iblk m c 6 t (ix2 k ⟨4096 + d.val, by omega⟩)) := by
  unfold outsAt0
  dsimp only
  unfold out0_A_19
  rw [View.read_writes_eq_canon _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_3 t).read_unread, (hs0_4 t).read_unread, (hs0_5 t).read_unread, (hs0_6 t).read_unread]
  have z2 : (![0, 0] : Fin 2 → ℕ) = fun _ => 0 := funext fun a => by fin_cases a <;> rfl
  have z3 : (![0, 0, 0] : Fin 3 → ℕ) = fun _ => 0 := funext fun a => by fin_cases a <;> rfl
  have w0 : ∀ h, View.ld (iblk m c 0 t) (Rect.unit (s := S1x512x1024) ![0, 0, 0] S1x512x1024.size h) = iblk m c 0 t := fun h => View.ld_unit_zero (S := S1x512x1024) z3 h _
  have w3 : ∀ h, View.ld (iblk m c 3 t) (Rect.unit (s := S1x1x3072) ![0, 0, 0] S1x1x3072.size h) = iblk m c 3 t := fun h => View.ld_unit_zero (S := S1x1x3072) z3 h _
  have w5 : ∀ h, View.ld (iblk m c 5 t) (Rect.unit (s := S64x512) ![0, 0] S64x512.size h) = iblk m c 5 t := fun h => View.ld_unit_zero (S := S64x512) z2 h _
  simp only [w0, w3, w5]
  canon_tiles x h
  obtain rfl : r = x 1 := Fin.ext h1
  obtain rfl : d = x 2 := Fin.ext h2
  rw [piece_at x]
  exact (delta_gate_apply (tile m c t) _ (x 1) (x 2)).trans (congrArg silu (Finset.sum_congr rfl fun k _ => congrArg (tile m c t (ix2 (x 1) k) * ·) (View.ld_unit_apply_of (iblk m c 6 t) _ _ _ (ix2 k _) (ix2 k _) fun a => by fin_cases a <;> simp [ix2])))

theorem rf_tile (t : Fin cfg0.N) (r : Fin 512) (d : Fin 1024) : (outsAt0 m c t).2.2.2.2.1 (ix3 0 r d)
    = sigmoid (∑ k, tile m c t (ix2 r k) * iblk m c 7 t (ix2 k ⟨d.val, by omega⟩)) := by
  unfold outsAt0
  dsimp only
  unfold out0_A_20
  rw [View.read_writes_eq_canon _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_3 t).read_unread, (hs0_4 t).read_unread, (hs0_5 t).read_unread, (hs0_7 t).read_unread]
  have z2 : (![0, 0] : Fin 2 → ℕ) = fun _ => 0 := funext fun a => by fin_cases a <;> rfl
  have z3 : (![0, 0, 0] : Fin 3 → ℕ) = fun _ => 0 := funext fun a => by fin_cases a <;> rfl
  have w0 : ∀ h, View.ld (iblk m c 0 t) (Rect.unit (s := S1x512x1024) ![0, 0, 0] S1x512x1024.size h) = iblk m c 0 t := fun h => View.ld_unit_zero (S := S1x512x1024) z3 h _
  have w3 : ∀ h, View.ld (iblk m c 3 t) (Rect.unit (s := S1x1x3072) ![0, 0, 0] S1x1x3072.size h) = iblk m c 3 t := fun h => View.ld_unit_zero (S := S1x1x3072) z3 h _
  have w5 : ∀ h, View.ld (iblk m c 5 t) (Rect.unit (s := S64x512) ![0, 0] S64x512.size h) = iblk m c 5 t := fun h => View.ld_unit_zero (S := S64x512) z2 h _
  have w7 : ∀ h, View.ld (iblk m c 7 t) (Rect.unit (s := S1024x2048) ![0, 0] S1024x2048.size h) = iblk m c 7 t := fun h => View.ld_unit_zero (S := S1024x2048) z2 h _
  simp only [w0, w3, w5, w7]
  canon_tiles x h
  obtain rfl : r = x 1 := Fin.ext h1
  obtain rfl : d = x 2 := Fin.ext h2
  rw [piece_at x]
  exact first_route_apply (tile m c t) (iblk m c 7 t) (x 1) (x 2)

theorem rd_tile (t : Fin cfg0.N) (r : Fin 512) (d : Fin 1024) : (outsAt0 m c t).2.2.2.2.2.1 (ix3 0 r d)
    = sigmoid (∑ k, tile m c t (ix2 r k) * iblk m c 7 t (ix2 k ⟨1024 + d.val, by omega⟩)) := by
  unfold outsAt0
  dsimp only
  unfold out0_A_21
  rw [View.read_writes_eq_canon _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_3 t).read_unread, (hs0_4 t).read_unread, (hs0_5 t).read_unread, (hs0_7 t).read_unread]
  have z2 : (![0, 0] : Fin 2 → ℕ) = fun _ => 0 := funext fun a => by fin_cases a <;> rfl
  have z3 : (![0, 0, 0] : Fin 3 → ℕ) = fun _ => 0 := funext fun a => by fin_cases a <;> rfl
  have w0 : ∀ h, View.ld (iblk m c 0 t) (Rect.unit (s := S1x512x1024) ![0, 0, 0] S1x512x1024.size h) = iblk m c 0 t := fun h => View.ld_unit_zero (S := S1x512x1024) z3 h _
  have w3 : ∀ h, View.ld (iblk m c 3 t) (Rect.unit (s := S1x1x3072) ![0, 0, 0] S1x1x3072.size h) = iblk m c 3 t := fun h => View.ld_unit_zero (S := S1x1x3072) z3 h _
  have w5 : ∀ h, View.ld (iblk m c 5 t) (Rect.unit (s := S64x512) ![0, 0] S64x512.size h) = iblk m c 5 t := fun h => View.ld_unit_zero (S := S64x512) z2 h _
  have w7 : ∀ h, View.ld (iblk m c 7 t) (Rect.unit (s := S1024x2048) ![0, 0] S1024x2048.size h) = iblk m c 7 t := fun h => View.ld_unit_zero (S := S1024x2048) z2 h _
  simp only [w0, w3, w5, w7]
  canon_tiles x h
  obtain rfl : r = x 1 := Fin.ext h1
  obtain rfl : d = x 2 := Fin.ext h2
  rw [piece_at x]
  exact last_route_apply (tile m c t) (iblk m c 7 t) (x 1) (x 2)

theorem qkv_tile (t : Fin cfg0.N) (r : Fin 512) (d : Fin 3072) : (outsAt0 m c t).2.2.1 (ix3 0 r d)
    = convolved (tapped' (wide m c t) (iblk m c 6 t) (iblk m c 11 t) r) d := by
  unfold outsAt0
  dsimp only
  unfold out0_A_18
  rw [View.read_writes_eq_canon _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_11 t).read_unread, load_whole]
  have z2 : (![0, 0] : Fin 2 → ℕ) = fun _ => 0 := funext fun a => by fin_cases a <;> rfl
  have z3 : (![0, 0, 0] : Fin 3 → ℕ) = fun _ => 0 := funext fun a => by fin_cases a <;> rfl
  have w0 : ∀ h, View.ld (iblk m c 0 t) (Rect.unit (s := S1x512x1024) ![0, 0, 0] S1x512x1024.size h) = iblk m c 0 t := fun h => View.ld_unit_zero (S := S1x512x1024) z3 h _
  have w1 : ∀ h, View.ld (iblk m c 1 t) (Rect.unit (s := S1x8x1024) ![0, 0, 0] S1x8x1024.size h) = iblk m c 1 t := fun h => View.ld_unit_zero (S := S1x8x1024) z3 h _
  have w2 : ∀ h, View.ld (iblk m c 2 t) (Rect.unit (s := S1x8x1024) ![0, 0, 0] S1x8x1024.size h) = iblk m c 2 t := fun h => View.ld_unit_zero (S := S1x8x1024) z3 h _
  have w3 : ∀ h, View.ld (iblk m c 3 t) (Rect.unit (s := S1x1x3072) ![0, 0, 0] S1x1x3072.size h) = iblk m c 3 t := fun h => View.ld_unit_zero (S := S1x1x3072) z3 h _
  have w5 : ∀ h, View.ld (iblk m c 5 t) (Rect.unit (s := S64x512) ![0, 0] S64x512.size h) = iblk m c 5 t := fun h => View.ld_unit_zero (S := S64x512) z2 h _
  simp only [w0, w1, w2, w3, w5, wide'_loads]
  canon_tiles x h
  · obtain rfl : r = x 1 := Fin.ext h1
    rw [piece_at x]
    refine (value_3 (wide m c t) _ _ (x 1) (x 2)).trans ?_
    refine value_tile (wide m c t) _ _ (iblk m c 6 t) (iblk m c 11 t) 2816 11 rfl (by decide) (fun k i => ?_) ?_ (x 1) (x 2) d h2 (by decide)
    · exact congrArg (iblk m c 6 t) (column_at 2816 (by decide) _ _ _ k i)
    · exact tap_at (iblk m c 11 t) 2816 (by decide) _
  · obtain rfl : r = x 1 := Fin.ext h1
    rw [piece_at x]
    refine (value_2 (wide m c t) _ _ (x 1) (x 2)).trans ?_
    refine value_tile (wide m c t) _ _ (iblk m c 6 t) (iblk m c 11 t) 2560 10 rfl (by decide) (fun k i => ?_) ?_ (x 1) (x 2) d h2 (by decide)
    · exact congrArg (iblk m c 6 t) (column_at 2560 (by decide) _ _ _ k i)
    · exact tap_at (iblk m c 11 t) 2560 (by decide) _
  · obtain rfl : r = x 1 := Fin.ext h1
    rw [piece_at x]
    refine (value_1 (wide m c t) _ _ (x 1) (x 2)).trans ?_
    refine value_tile (wide m c t) _ _ (iblk m c 6 t) (iblk m c 11 t) 2304 9 rfl (by decide) (fun k i => ?_) ?_ (x 1) (x 2) d h2 (by decide)
    · exact congrArg (iblk m c 6 t) (column_at 2304 (by decide) _ _ _ k i)
    · exact tap_at (iblk m c 11 t) 2304 (by decide) _
  · obtain rfl : r = x 1 := Fin.ext h1
    rw [piece_at x]
    refine (value_0 (wide m c t) _ _ (x 1) (x 2)).trans ?_
    refine value_tile (wide m c t) _ _ (iblk m c 6 t) (iblk m c 11 t) 2048 8 rfl (by decide) (fun k i => ?_) ?_ (x 1) (x 2) d h2 (by decide)
    · exact congrArg (iblk m c 6 t) (column_at 2048 (by decide) _ _ _ k i)
    · exact tap_at (iblk m c 11 t) 2048 (by decide) _
  · obtain rfl : r = x 1 := Fin.ext h1
    rw [piece_at x]
    refine (key_3 (wide m c t) _ _ (x 1) (x 2)).trans ?_
    refine key_tile (wide m c t) _ _ (iblk m c 6 t) (iblk m c 11 t) 1792 7 rfl (by decide) (fun k i => ?_) ?_ (x 1) (x 2) d h2 (by decide) (by decide)
    · exact congrArg (iblk m c 6 t) (column_at 1792 (by decide) _ _ _ k i)
    · exact tap_at (iblk m c 11 t) 1792 (by decide) _
  · obtain rfl : r = x 1 := Fin.ext h1
    rw [piece_at x]
    refine (key_2 (wide m c t) _ _ (x 1) (x 2)).trans ?_
    refine key_tile (wide m c t) _ _ (iblk m c 6 t) (iblk m c 11 t) 1536 6 rfl (by decide) (fun k i => ?_) ?_ (x 1) (x 2) d h2 (by decide) (by decide)
    · exact congrArg (iblk m c 6 t) (column_at 1536 (by decide) _ _ _ k i)
    · exact tap_at (iblk m c 11 t) 1536 (by decide) _
  · obtain rfl : r = x 1 := Fin.ext h1
    rw [piece_at x]
    refine (key_1 (wide m c t) _ _ (x 1) (x 2)).trans ?_
    refine key_tile (wide m c t) _ _ (iblk m c 6 t) (iblk m c 11 t) 1280 5 rfl (by decide) (fun k i => ?_) ?_ (x 1) (x 2) d h2 (by decide) (by decide)
    · exact congrArg (iblk m c 6 t) (column_at 1280 (by decide) _ _ _ k i)
    · exact tap_at (iblk m c 11 t) 1280 (by decide) _
  · obtain rfl : r = x 1 := Fin.ext h1
    rw [piece_at x]
    refine (key_0 (wide m c t) _ _ (x 1) (x 2)).trans ?_
    refine key_tile (wide m c t) _ _ (iblk m c 6 t) (iblk m c 11 t) 1024 4 rfl (by decide) (fun k i => ?_) ?_ (x 1) (x 2) d h2 (by decide) (by decide)
    · exact congrArg (iblk m c 6 t) (column_at 1024 (by decide) _ _ _ k i)
    · exact tap_at (iblk m c 11 t) 1024 (by decide) _
  · obtain rfl : r = x 1 := Fin.ext h1
    rw [piece_at x]
    refine (query_3 (wide m c t) _ _ (x 1) (x 2)).trans ?_
    refine query_tile (wide m c t) _ _ (iblk m c 6 t) (iblk m c 11 t) 768 3 rfl (by decide) (fun k i => ?_) ?_ (x 1) (x 2) d h2 (by decide)
    · exact congrArg (iblk m c 6 t) (column_at 768 (by decide) _ _ _ k i)
    · exact tap_at (iblk m c 11 t) 768 (by decide) _
  · obtain rfl : r = x 1 := Fin.ext h1
    rw [piece_at x]
    refine (query_2 (wide m c t) _ _ (x 1) (x 2)).trans ?_
    refine query_tile (wide m c t) _ _ (iblk m c 6 t) (iblk m c 11 t) 512 2 rfl (by decide) (fun k i => ?_) ?_ (x 1) (x 2) d h2 (by decide)
    · exact congrArg (iblk m c 6 t) (column_at 512 (by decide) _ _ _ k i)
    · exact tap_at (iblk m c 11 t) 512 (by decide) _
  · obtain rfl : r = x 1 := Fin.ext h1
    rw [piece_at x]
    refine (query_1 (wide m c t) _ _ (x 1) (x 2)).trans ?_
    refine query_tile (wide m c t) _ _ (iblk m c 6 t) (iblk m c 11 t) 256 1 rfl (by decide) (fun k i => ?_) ?_ (x 1) (x 2) d h2 (by decide)
    · exact congrArg (iblk m c 6 t) (column_at 256 (by decide) _ _ _ k i)
    · exact tap_at (iblk m c 11 t) 256 (by decide) _
  · obtain rfl : r = x 1 := Fin.ext h1
    rw [piece_at x]
    refine (query_0 (wide m c t) _ _ (x 1) (x 2)).trans ?_
    refine query_tile (wide m c t) _ _ (iblk m c 6 t) (iblk m c 11 t) 0 0 rfl (by decide) (fun k i => ?_) ?_ (x 1) (x 2) d (h2.trans (Nat.zero_add _).symm) (by decide)
    · exact congrArg (iblk m c 6 t) (column_at 0 (by decide) _ _ _ k i)
    · exact tap_at (iblk m c 11 t) 0 (by decide) _

end Cert.Kernel2Ideal.InProj

end
-- ==== Proof.InProj.Blocks.lean ====
module

public import proofs.«01_k».proof.Proof.Gen.Kernel2Ideal.Value
public import proofs.«01_k».proof.Proof.InProj.Tile
public import proofs.«01_k».proof.Proof.Layer.Position
public import Idealize.ShloMosaic.Lib.StableHlo.RunRead

@[expose] public section

set_option maxRecDepth 16384

noncomputable section

/-! # What a point of the projection holds of the arguments -/

namespace Cert.Kernel2Ideal.InProj

open Cert.Kernel2Ideal Cert.Kernel2Ideal.Gen Cert.Layer
open Idealize.ShloMosaic Idealize.ShloMosaic.TcCoe Idealize.ShloMosaic.Tactic

variable (m : (ℓ : Loc nD τ sig) → Buf (Elt Ideal) ℓ) (c : Dev nD)

/-- The position table as the call's host part builds it. -/
abbrev table : FVec Ideal S64x512 .f32 :=
  posTab bcast_S_S256 bcast_S64_S64x1_0 bcast_S256_S1x256_1 bcast_S64x1_S64x256_0_1 bcast_S1x256_S64x256_0_1 concatenates_S64x256_S64x256_S64x512_d1

theorem V_main_v50 : V m c main_v50 = table := by
  simp only [V, hostOps0, List.flatten_cons, List.flatten_nil, List.append_nil, List.cons_append, List.nil_append, StableHlo.reshape,
    StableHlo.TRef.binary, StableHlo.TRef.nullary, StableHlo.TRef.ternary, StableHlo.TRef.unary, StableHlo.TRef.toBuf, StableHlo.TRef.ofBuf, cast_eq]
  after_reads_simp
  refine cat_two ?_ ?_
  all_goals
    after_reads_simp
    rfl

theorem V_main_v53 : V m c main_v53 = table := by
  simp only [V, hostOps0, List.flatten_cons, List.flatten_nil, List.append_nil, List.cons_append, List.nil_append, StableHlo.reshape,
    StableHlo.TRef.binary, StableHlo.TRef.nullary, StableHlo.TRef.ternary, StableHlo.TRef.unary, StableHlo.TRef.toBuf, StableHlo.TRef.ofBuf, cast_eq]
  after_reads_simp
  refine cat_two ?_ ?_
  all_goals
    after_reads_simp
    rfl

theorem V_main_v1 : V m c main_v1 = truncf (F := Ideal) .bf16 (extractStridedSlice S1024x5120 ![0, 0] (m ((c : Thread nD τ).loc main_arg2) : FVec Ideal S1024x7200 .f32) slices_S1024x7200_S1024x5120_0_0) bitsLt_bf16_f32 := by
  simp only [V, hostOps0, List.flatten_cons, List.flatten_nil, List.append_nil, List.cons_append, List.nil_append, StableHlo.reshape,
    StableHlo.TRef.binary, StableHlo.TRef.nullary, StableHlo.TRef.ternary, StableHlo.TRef.unary, StableHlo.TRef.toBuf, StableHlo.TRef.ofBuf, cast_eq]
  after_reads_simp

theorem V_main_v3 : V m c main_v3 = truncf (F := Ideal) .bf16 (extractStridedSlice S1024x2048 ![0, 5152] (m ((c : Thread nD τ).loc main_arg2) : FVec Ideal S1024x7200 .f32) slices_S1024x7200_S1024x2048_0_5152) bitsLt_bf16_f32 := by
  simp only [V, hostOps0, List.flatten_cons, List.flatten_nil, List.append_nil, List.cons_append, List.nil_append, StableHlo.reshape,
    StableHlo.TRef.binary, StableHlo.TRef.nullary, StableHlo.TRef.ternary, StableHlo.TRef.unary, StableHlo.TRef.toBuf, StableHlo.TRef.ofBuf, cast_eq]
  after_reads_simp

theorem V_main_v76 : V m c main_v76 = shapeCast S16x1x3072 (m ((c : Thread nD τ).loc main_arg1) : FVec Ideal S16x3072 .f32) shapeCasts_S16x3072_S16x1x3072 := by
  simp only [V, hostOps0, List.flatten_cons, List.flatten_nil, List.append_nil, List.cons_append, List.nil_append, StableHlo.reshape,
    StableHlo.TRef.binary, StableHlo.TRef.nullary, StableHlo.TRef.ternary, StableHlo.TRef.unary, StableHlo.TRef.toBuf, StableHlo.TRef.ofBuf, cast_eq]
  after_reads_simp
  rfl

theorem index_0 (t : Fin cfg0.N) : win0_0.index t = ![t.val / 8, t.val % 8, 0] := by
  show cc0_transform_0 (grid0.coords t) = _
  unfold cc0_transform_0
  have hN : t.val < 64 := lt_of_lt_of_eq t.isLt (show cfg0.N = 64 from N_0)
  simp only [coord_0, coord_1, BitVec.toNat_ofNat]
  rw [Nat.mod_eq_of_lt (by omega), Nat.mod_eq_of_lt (a := t.val % 8) (by omega)]

theorem index_3 (t : Fin cfg0.N) : win0_3.index t = ![t.val / 8, 0, 0] := by
  show cc0_transform_3 (grid0.coords t) = _
  unfold cc0_transform_3
  have hN : t.val < 64 := lt_of_lt_of_eq t.isLt (show cfg0.N = 64 from N_0)
  simp only [coord_0, BitVec.toNat_ofNat]
  rw [Nat.mod_eq_of_lt (by omega)]

theorem index_4 (t : Fin cfg0.N) : win0_4.index t = ![0, 0] := by
  show cc0_transform_4 (grid0.coords t) = _
  unfold cc0_transform_4
  rfl

theorem index_5 (t : Fin cfg0.N) : win0_5.index t = ![0, 0] := by
  show cc0_transform_5 (grid0.coords t) = _
  unfold cc0_transform_5
  rfl

theorem index_6 (t : Fin cfg0.N) : win0_6.index t = ![0, 0] := by
  show cc0_transform_6 (grid0.coords t) = _
  unfold cc0_transform_6
  rfl

theorem index_7 (t : Fin cfg0.N) : win0_7.index t = ![0, 0] := by
  show cc0_transform_7 (grid0.coords t) = _
  unfold cc0_transform_7
  rfl

theorem index_11 (t : Fin cfg0.N) : win0_11.index t = ![0, 0] := by
  show cc0_transform_11 (grid0.coords t) = _
  unfold cc0_transform_11
  rfl

theorem index_16 (t : Fin cfg0.N) : win0_16.index t = ![t.val / 8, t.val % 8, 0] := by
  show cc0_transform_16 (grid0.coords t) = _
  unfold cc0_transform_16
  have hN : t.val < 64 := lt_of_lt_of_eq t.isLt (show cfg0.N = 64 from N_0)
  simp only [coord_0, coord_1, BitVec.toNat_ofNat]
  rw [Nat.mod_eq_of_lt (by omega), Nat.mod_eq_of_lt (a := t.val % 8) (by omega)]

theorem index_17 (t : Fin cfg0.N) : win0_17.index t = ![t.val / 8, t.val % 8, 0] := by
  show cc0_transform_17 (grid0.coords t) = _
  unfold cc0_transform_17
  have hN : t.val < 64 := lt_of_lt_of_eq t.isLt (show cfg0.N = 64 from N_0)
  simp only [coord_0, coord_1, BitVec.toNat_ofNat]
  rw [Nat.mod_eq_of_lt (by omega), Nat.mod_eq_of_lt (a := t.val % 8) (by omega)]

theorem index_18 (t : Fin cfg0.N) : win0_18.index t = ![t.val / 8, t.val % 8, 0] := by
  show cc0_transform_18 (grid0.coords t) = _
  unfold cc0_transform_18
  have hN : t.val < 64 := lt_of_lt_of_eq t.isLt (show cfg0.N = 64 from N_0)
  simp only [coord_0, coord_1, BitVec.toNat_ofNat]
  rw [Nat.mod_eq_of_lt (by omega), Nat.mod_eq_of_lt (a := t.val % 8) (by omega)]

theorem index_19 (t : Fin cfg0.N) : win0_19.index t = ![t.val / 8, t.val % 8, 0] := by
  show cc0_transform_19 (grid0.coords t) = _
  unfold cc0_transform_19
  have hN : t.val < 64 := lt_of_lt_of_eq t.isLt (show cfg0.N = 64 from N_0)
  simp only [coord_0, coord_1, BitVec.toNat_ofNat]
  rw [Nat.mod_eq_of_lt (by omega), Nat.mod_eq_of_lt (a := t.val % 8) (by omega)]

theorem index_20 (t : Fin cfg0.N) : win0_20.index t = ![t.val / 8, t.val % 8, 0] := by
  show cc0_transform_20 (grid0.coords t) = _
  unfold cc0_transform_20
  have hN : t.val < 64 := lt_of_lt_of_eq t.isLt (show cfg0.N = 64 from N_0)
  simp only [coord_0, coord_1, BitVec.toNat_ofNat]
  rw [Nat.mod_eq_of_lt (by omega), Nat.mod_eq_of_lt (a := t.val % 8) (by omega)]

theorem index_21 (t : Fin cfg0.N) : win0_21.index t = ![t.val / 8, t.val % 8, 0] := by
  show cc0_transform_21 (grid0.coords t) = _
  unfold cc0_transform_21
  have hN : t.val < 64 := lt_of_lt_of_eq t.isLt (show cfg0.N = 64 from N_0)
  simp only [coord_0, coord_1, BitVec.toNat_ofNat]
  rw [Nat.mod_eq_of_lt (by omega), Nat.mod_eq_of_lt (a := t.val % 8) (by omega)]

theorem index_1 (t : Fin cfg0.N) : win0_1.index t = ![t.val / 8, t.val % 8 * 64 - 1, 0] := by
  show cc0_transform_1 (grid0.coords t) = _
  unfold cc0_transform_1
  have hN : t.val < 64 := lt_of_lt_of_eq t.isLt (show cfg0.N = 64 from N_0)
  have h : t.val % 8 < 8 := by omega
  simp only [coord_0, coord_1]
  rw [BitVec.toNat_ofNat, Nat.mod_eq_of_lt (by omega)]
  generalize t.val % 8 = q at h
  interval_cases q <;> rfl

theorem index_2 (t : Fin cfg0.N) : win0_2.index t = ![t.val / 8, min (t.val % 8 * 64 + 64) 511, 0] := by
  show cc0_transform_2 (grid0.coords t) = _
  unfold cc0_transform_2
  have hN : t.val < 64 := lt_of_lt_of_eq t.isLt (show cfg0.N = 64 from N_0)
  have h : t.val % 8 < 8 := by omega
  simp only [coord_0, coord_1]
  rw [BitVec.toNat_ofNat, Nat.mod_eq_of_lt (by omega)]
  generalize t.val % 8 = q at h
  interval_cases q <;> rfl

theorem batch_lt (t : Fin cfg0.N) : t.val / 8 < 8 := by
  have hN : t.val < 64 := lt_of_lt_of_eq t.isLt (show cfg0.N = 64 from N_0)
  omega

/-- A point's batch, and the tokens its tile's rows are. -/
def batchOf (t : Fin cfg0.N) : Fin 8 := ⟨t.val / 8, batch_lt t⟩
def rowOf (t : Fin cfg0.N) (r : Fin 512) : Fin 4096 := ⟨t.val % 8 * 512 + r.val, by omega⟩

theorem block_0 (t : Fin cfg0.N) (r : Fin 512) (d : Fin 1024) : iblk m c 0 t (ix3 0 r d) = m ((c : Thread nD τ).loc main_arg0) (ix3 (batchOf t) (rowOf t r) d) := by
  refine Eq.trans ?_ (congrFun (V_main_arg0 m c) (ix3 (batchOf t) (rowOf t r) d))
  blk_simp [iblk]
  refine congrArg (V m c main_arg0) (funext fun x => Fin.ext ?_)
  fin_cases x <;> blk_simp [index_0] <;> rfl

theorem block_1 (t : Fin cfg0.N) (r : Fin 8) (d : Fin 1024) : iblk m c 1 t (ix3 0 r d) = m ((c : Thread nD τ).loc main_arg0) (ix3 (batchOf t) ⟨(t.val % 8 * 64 - 1) * 8 + r.val, by omega⟩ d) := by
  refine Eq.trans ?_ (congrFun (V_main_arg0 m c) (ix3 (batchOf t) ⟨(t.val % 8 * 64 - 1) * 8 + r.val, by omega⟩ d))
  blk_simp [iblk]
  refine congrArg (V m c main_arg0) (funext fun x => Fin.ext ?_)
  fin_cases x <;> blk_simp [index_1] <;> rfl

theorem block_2 (t : Fin cfg0.N) (r : Fin 8) (d : Fin 1024) : iblk m c 2 t (ix3 0 r d) = m ((c : Thread nD τ).loc main_arg0) (ix3 (batchOf t) ⟨min (t.val % 8 * 64 + 64) 511 * 8 + r.val, by omega⟩ d) := by
  refine Eq.trans ?_ (congrFun (V_main_arg0 m c) (ix3 (batchOf t) ⟨min (t.val % 8 * 64 + 64) 511 * 8 + r.val, by omega⟩ d))
  blk_simp [iblk]
  refine congrArg (V m c main_arg0) (funext fun x => Fin.ext ?_)
  fin_cases x <;> blk_simp [index_2] <;> rfl

theorem block_3 (t : Fin cfg0.N) (d : Fin 3072) : iblk m c 3 t (ix3 0 0 d) = m ((c : Thread nD τ).loc main_arg1) (ix2 ⟨t.val / 8, by have := batch_lt t; omega⟩ d) := by
  have e : shapeCast S16x1x3072 (m ((c : Thread nD τ).loc main_arg1) : FVec Ideal S16x3072 .f32) shapeCasts_S16x3072_S16x1x3072 (ix3 ⟨t.val / 8, by have := batch_lt t; omega⟩ 0 d)
      = m ((c : Thread nD τ).loc main_arg1) (ix2 ⟨t.val / 8, by have := batch_lt t; omega⟩ d) := by pointwise
  refine Eq.trans ?_ ((congrFun (V_main_v76 m c) _).trans e)
  blk_simp [iblk]
  refine congrArg (V m c main_v76) (funext fun x => Fin.ext ?_)
  fin_cases x <;> blk_simp [index_3] <;> rfl

theorem block_4 (t : Fin cfg0.N) (i : Fin 64) (j : Fin 512) : iblk m c 4 t (ix2 i j) = table (ix2 i j) := by
  refine Eq.trans ?_ (congrFun (V_main_v50 m c) (ix2 i j))
  blk_simp [iblk]
  refine congrArg (V m c main_v50) (funext fun x => Fin.ext ?_)
  fin_cases x <;> blk_simp [index_4] <;> rfl

theorem block_5 (t : Fin cfg0.N) (i : Fin 64) (j : Fin 512) : iblk m c 5 t (ix2 i j) = table (ix2 i j) := by
  refine Eq.trans ?_ (congrFun (V_main_v53 m c) (ix2 i j))
  blk_simp [iblk]
  refine congrArg (V m c main_v53) (funext fun x => Fin.ext ?_)
  fin_cases x <;> blk_simp [index_5] <;> rfl

theorem block_6 (t : Fin cfg0.N) (i : Fin 1024) (j : Fin 5120) : iblk m c 6 t (ix2 i j) = m ((c : Thread nD τ).loc main_arg2) (ix2 i ⟨j.val, by omega⟩) := by
  have e : truncf (F := Ideal) .bf16 (extractStridedSlice S1024x5120 ![0, 0] (m ((c : Thread nD τ).loc main_arg2) : FVec Ideal S1024x7200 .f32) slices_S1024x7200_S1024x5120_0_0) bitsLt_bf16_f32 (ix2 i j)
      = m ((c : Thread nD τ).loc main_arg2) (ix2 i ⟨j.val, by omega⟩) := by pointwise
  refine Eq.trans ?_ ((congrFun (V_main_v1 m c) _).trans e)
  blk_simp [iblk]
  refine congrArg (V m c main_v1) (funext fun x => Fin.ext ?_)
  fin_cases x <;> blk_simp [index_6] <;> rfl

theorem block_7 (t : Fin cfg0.N) (i : Fin 1024) (j : Fin 2048) : iblk m c 7 t (ix2 i j) = m ((c : Thread nD τ).loc main_arg2) (ix2 i ⟨5152 + j.val, by omega⟩) := by
  have e : truncf (F := Ideal) .bf16 (extractStridedSlice S1024x2048 ![0, 5152] (m ((c : Thread nD τ).loc main_arg2) : FVec Ideal S1024x7200 .f32) slices_S1024x7200_S1024x2048_0_5152) bitsLt_bf16_f32 (ix2 i j)
      = m ((c : Thread nD τ).loc main_arg2) (ix2 i ⟨5152 + j.val, by omega⟩) := by pointwise
  refine Eq.trans ?_ ((congrFun (V_main_v3 m c) _).trans e)
  blk_simp [iblk]
  refine congrArg (V m c main_v3) (funext fun x => Fin.ext ?_)
  fin_cases x <;> blk_simp [index_7] <;> rfl

theorem block_11 (t : Fin cfg0.N) (i : Fin 3) (j : Fin 3072) : iblk m c 11 t (ix2 i j) = m ((c : Thread nD τ).loc main_arg3) (ix2 i j) := by
  refine Eq.trans ?_ (congrFun (V_main_arg3 m c) (ix2 i j))
  blk_simp [iblk]
  refine congrArg (V m c main_arg3) (funext fun x => Fin.ext ?_)
  fin_cases x <;> blk_simp [index_11] <;> rfl

end Cert.Kernel2Ideal.InProj

end
-- ==== Proof.InProj.Inputs.lean ====
module

public import proofs.«01_k».proof.Proof.InProj.Blocks

@[expose] public section

set_option maxRecDepth 16384

noncomputable section

/-! # A point's blocks as the projection of the arguments -/

namespace Cert.Kernel2Ideal.InProj

open Cert.Kernel2Ideal Cert.Kernel2Ideal.Gen Cert.Layer
open Idealize.ShloMosaic Idealize.ShloMosaic.TcCoe Idealize.ShloMosaic.Tactic

variable (m : (ℓ : Loc nD τ sig) → Buf (Elt Ideal) ℓ) (c : Dev nD)

/-- `hidden`, `projected` and `tappedAt` of the kernel's arguments. -/
def hiddenOf (b : Fin 8) (n : Fin 4096) (d : Fin 1024) : EReal :=
  hidden (fun b n d => m ((c : Thread nD τ).loc main_arg0) (ix3 b n d)) (fun b j => m ((c : Thread nD τ).loc main_arg1) (ix2 b j))
    (fun i j => table (ix2 i j)) b n d
def projectedOf (b : Fin 8) (n : Fin 4096) (j : Fin 7200) : EReal :=
  projected (fun b n d => m ((c : Thread nD τ).loc main_arg0) (ix3 b n d)) (fun b j => m ((c : Thread nD τ).loc main_arg1) (ix2 b j))
    (fun i j => table (ix2 i j)) (fun k j => m ((c : Thread nD τ).loc main_arg2) (ix2 k j)) b n j
def tappedOf (b : Fin 8) (n : Fin 4096) (j : Fin 3072) : EReal :=
  tappedAt (fun b n d => m ((c : Thread nD τ).loc main_arg0) (ix3 b n d)) (fun b j => m ((c : Thread nD τ).loc main_arg1) (ix2 b j))
    (fun i j => table (ix2 i j)) (fun k j => m ((c : Thread nD τ).loc main_arg2) (ix2 k j))
    (fun i j => m ((c : Thread nD τ).loc main_arg3) (ix2 i j)) b n j

/-- A tile's part of the position table is the table's at the tile's tokens. -/
theorem position_at (t : Fin cfg0.N) (r : Fin 512) (d : Fin 1024) :
    position' (rowsAt m c t) (iblk m c 5 t) r d = position (fun i j => table (ix2 i j)) (rowOf t r).val d := by
  unfold position' position rowOf
  split
  · refine (rowsAt_apply m c t _ _).trans ((block_4 m c t _ _).trans (congrArg (fun i => table (ix2 i _)) (Fin.ext ?_)))
    show 8 * (t.val % 8) + r.val / 64 = (t.val % 8 * 512 + r.val) / 64 % 64
    omega
  · refine (block_5 m c t _ _).trans (congrArg (fun i => table (ix2 i _)) (Fin.ext ?_))
    show r.val % 64 = (t.val % 8 * 512 + r.val) % 64
    omega

theorem firstColumns_apply (t : Fin cfg0.N) (i : Fin 8) (j : Fin 512) : firstColumns m c t (ix2 i j) = iblk m c 5 t (ix2 ⟨i.val, by omega⟩ j) :=
  View.ld_unit_apply_of (iblk m c 5 t) _ _ _ (ix2 i j) _ fun a => by
    fin_cases a
    · show i.val = 0 + i.val
      omega
    · show j.val = 0 + j.val
      omega

theorem lastColumns_apply (t : Fin cfg0.N) (i : Fin 8) (j : Fin 512) : lastColumns m c t (ix2 i j) = iblk m c 5 t (ix2 ⟨56 + i.val, by omega⟩ j) :=
  View.ld_unit_apply_of (iblk m c 5 t) _ _ _ (ix2 i j) _ fun a => by
    fin_cases a
    · rfl
    · show j.val = 0 + j.val
      omega

/-- The position of the token before a tile, where there is one. -/
theorem position_before (t : Fin cfg0.N) (h : t.val % 8 ≠ 0) (d : Fin 1024) :
    beside (rowBefore m c t) (lastColumns m c t) 7 d = position (fun i j => table (ix2 i j)) (t.val % 8 * 512 - 1) d := by
  unfold beside position
  split
  · refine (rowBefore_apply m c t _ _).trans ((block_4 m c t _ _).trans (congrArg (fun i => table (ix2 i _)) (Fin.ext ?_)))
    show (8 * (t.val % 8) - 1) + 0 = (t.val % 8 * 512 - 1) / 64 % 64
    omega
  · refine (lastColumns_apply m c t _ _).trans ((block_5 m c t _ _).trans (congrArg (fun i => table (ix2 i _)) (Fin.ext ?_)))
    show 56 + 7 = (t.val % 8 * 512 - 1) % 64
    omega

/-- The position of the token after a tile, where there is one. -/
theorem position_after (t : Fin cfg0.N) (h : t.val % 8 < 7) (d : Fin 1024) :
    beside (rowAfter m c t) (firstColumns m c t) 0 d = position (fun i j => table (ix2 i j)) (t.val % 8 * 512 + 512) d := by
  unfold beside position
  split
  · refine (rowAfter_apply m c t _ _).trans ((block_4 m c t _ _).trans (congrArg (fun i => table (ix2 i _)) (Fin.ext ?_)))
    show min (8 * (t.val % 8) + 8) 63 + 0 = (t.val % 8 * 512 + 512) / 64 % 64
    omega
  · refine (firstColumns_apply m c t _ _).trans ((block_5 m c t _ _).trans (congrArg (fun i => table (ix2 i _)) (Fin.ext ?_)))
    show 0 = (t.val % 8 * 512 + 512) % 64
    omega

theorem modulated_hidden (b : Fin 8) (n : Fin 4096) (x p s h : Fin 1024 → EReal)
    (hx : ∀ d, x d = m ((c : Thread nD τ).loc main_arg0) (ix3 b n d)) (hp : ∀ d, p d = position (fun i j => table (ix2 i j)) n.val d)
    (hs : ∀ d, s d = m ((c : Thread nD τ).loc main_arg1) (ix2 ⟨b.val, by omega⟩ ⟨1024 + d.val, by omega⟩))
    (hh : ∀ d, h d = m ((c : Thread nD τ).loc main_arg1) (ix2 ⟨b.val, by omega⟩ ⟨d.val, by omega⟩)) (d : Fin 1024) :
    modulated (fun d => x d + p d) s h d = hiddenOf m c b n d := by
  rw [show x = _ from funext hx, show p = _ from funext hp, show s = _ from funext hs, show h = _ from funext hh]
  rfl

theorem tile_row (t : Fin cfg0.N) (r : Fin 512) (d : Fin 1024) : tile m c t (ix2 r d) = hiddenOf m c (batchOf t) (rowOf t r) d :=
  (rows'_apply _ _ _ _).trans <|
    (congrArg (fun z => modulated z _ _ d) (funext fun d => token_apply (iblk m c 0 t) (rowsAt m c t) (iblk m c 5 t) r d)).trans <|
      modulated_hidden m c (batchOf t) (rowOf t r) (fun d => iblk m c 0 t (ix3 0 r d)) _ _ _ (fun d => block_0 m c t r d)
        (fun d => position_at m c t r d) (fun _ => block_3 m c t _) (fun _ => block_3 m c t _) d

/-- The rows of the widened tile: the last of the eight before, the tile's, the first of the eight after. -/
theorem wide_before_row (t : Fin cfg0.N) (e : Fin 528) (h : e.val = 7) (d : Fin 1024) :
    wide m c t (ix2 e d) = if h : t.val % 8 = 0 then 0 else hiddenOf m c (batchOf t) ⟨t.val % 8 * 512 - 1, by omega⟩ d := by
  have hq : Scalar.cmpi .sgt (BitVec.ofNat 32 (grid0.coords t 1).val) 0#32 = if t.val % 8 = 0 then 0#1 else 1#1 := by
    have h : t.val % 8 < 8 := by omega
    rw [coord_1]
    generalize t.val % 8 = q at h
    interval_cases q <;> rfl
  refine (extended_before _ _ _ _ _ _ _ _ _ _ _ e h d).trans ((congrArg (fun b => Scalar.select b _ _) hq).trans ?_)
  split
  · rfl
  · rename_i hz
    refine Eq.trans ?_ (modulated_hidden m c (batchOf t) ⟨t.val % 8 * 512 - 1, by omega⟩ (fun d => iblk m c 1 t (ix3 0 7 d)) _ _ _ (fun d => (block_1 m c t 7 d).trans ?_)
      (fun d => position_before m c t hz d) (fun _ => block_3 m c t _) (fun _ => block_3 m c t _) d)
    · rfl
    · refine congrArg (fun n => m ((c : Thread nD τ).loc main_arg0) (ix3 (batchOf t) n d)) (Fin.ext ?_)
      show (t.val % 8 * 64 - 1) * 8 + 7 = t.val % 8 * 512 - 1
      omega

theorem wide_after_row (t : Fin cfg0.N) (e : Fin 528) (h : e.val = 520) (d : Fin 1024) :
    wide m c t (ix2 e d) = if h : t.val % 8 < 7 then hiddenOf m c (batchOf t) ⟨t.val % 8 * 512 + 512, by omega⟩ d else 0 := by
  have hq : Scalar.cmpi .slt (BitVec.ofNat 32 (grid0.coords t 1).val) 7#32 = if t.val % 8 < 7 then 1#1 else 0#1 := by
    have h : t.val % 8 < 8 := by omega
    rw [coord_1]
    generalize t.val % 8 = q at h
    interval_cases q <;> rfl
  refine (extended_after _ _ _ _ _ _ _ _ _ _ _ e h d).trans ((congrArg (fun b => Scalar.select b _ _) hq).trans ?_)
  split
  · rename_i hz
    refine Eq.trans ?_ (modulated_hidden m c (batchOf t) ⟨t.val % 8 * 512 + 512, by omega⟩ (fun d => iblk m c 2 t (ix3 0 0 d)) _ _ _ (fun d => (block_2 m c t 0 d).trans ?_)
      (fun d => position_after m c t hz d) (fun _ => block_3 m c t _) (fun _ => block_3 m c t _) d)
    · rfl
    · refine congrArg (fun n => m ((c : Thread nD τ).loc main_arg0) (ix3 (batchOf t) n d)) (Fin.ext ?_)
      show min (t.val % 8 * 64 + 64) 511 * 8 + 0 = t.val % 8 * 512 + 512
      omega
  · rfl

theorem wide_inner_row (t : Fin cfg0.N) (e : Fin 528) (r : Fin 512) (h : e.val = 8 + r.val) (d : Fin 1024) :
    wide m c t (ix2 e d) = hiddenOf m c (batchOf t) (rowOf t r) d :=
  (extended_inner _ _ _ _ _ _ _ _ _ _ _ e r h d).trans <|
    modulated_hidden m c (batchOf t) (rowOf t r) (fun d => iblk m c 0 t (ix3 0 r d)) _ _ _ (fun d => block_0 m c t r d)
      (fun d => position_at m c t r d) (fun _ => block_3 m c t _) (fun _ => block_3 m c t _) d

/-! ## The columns -/

/-- The columns the first weights hold. -/
theorem columns (t : Fin cfg0.N) (r : Fin 512) (j : Fin 5120) : (∑ k, tile m c t (ix2 r k) * iblk m c 6 t (ix2 k j))
    = projectedOf m c (batchOf t) (rowOf t r) ⟨j.val, by omega⟩ :=
  Finset.sum_congr rfl fun k _ => congr (congrArg (fun a b : EReal => a * b) (tile_row m c t r k)) (block_6 m c t k j)

/-- The columns the second weights hold. -/
theorem last_columns (t : Fin cfg0.N) (r : Fin 512) (j : Fin 2048) : (∑ k, tile m c t (ix2 r k) * iblk m c 7 t (ix2 k j))
    = projectedOf m c (batchOf t) (rowOf t r) ⟨5152 + j.val, by omega⟩ :=
  Finset.sum_congr rfl fun k _ => congr (congrArg (fun a b : EReal => a * b) (tile_row m c t r k)) (block_7 m c t k j)

/-- A row of zeros gives zero columns. -/
theorem zero_columns (h : Fin 1024 → EReal) (v : Fin 1024 → EReal) (z : ∀ k, h k = 0) : ∑ k, h k * v k = 0 :=
  Finset.sum_eq_zero fun k _ => by rw [z k, zero_mul]

theorem wide_columns (t : Fin cfg0.N) (e : Fin 528) (n : Fin 4096) (j : Fin 5120)
    (h : ∀ k, wide m c t (ix2 e k) = hiddenOf m c (batchOf t) n k) :
    (∑ k, wide m c t (ix2 e k) * iblk m c 6 t (ix2 k j)) = projectedOf m c (batchOf t) n ⟨j.val, by omega⟩ :=
  Finset.sum_congr rfl fun k _ => congr (congrArg (fun a b : EReal => a * b) (h k)) (block_6 m c t k j)

theorem before_columns (t : Fin cfg0.N) (r : Fin 512) (j : Fin 5120) :
    (∑ k, wide m c t (ix2 (before r) k) * iblk m c 6 t (ix2 k j))
      = if (rowOf t r).val = 0 then 0 else projectedOf m c (batchOf t) ⟨(rowOf t r).val - 1, by omega⟩ ⟨j.val, by omega⟩ := by
  have hn : (rowOf t r).val = t.val % 8 * 512 + r.val := rfl
  have hb := before_val r
  by_cases h0 : r.val = 0
  · by_cases hz : t.val % 8 = 0
    · rw [if_pos (by omega)]
      exact zero_columns _ _ fun k => (wide_before_row m c t _ (by omega) k).trans (dif_pos hz)
    · rw [if_neg (by omega)]
      refine wide_columns m c t _ _ j fun k => (wide_before_row m c t _ (by omega) k).trans ((dif_neg hz).trans ?_)
      exact congrArg (fun n => hiddenOf m c (batchOf t) n k) (Fin.ext (show t.val % 8 * 512 - 1 = (rowOf t r).val - 1 by omega))
  · rw [if_neg (by omega)]
    refine wide_columns m c t _ _ j fun k => (wide_inner_row m c t _ ⟨r.val - 1, by omega⟩ (show _ = 8 + (r.val - 1) by omega) k).trans ?_
    exact congrArg (fun n => hiddenOf m c (batchOf t) n k) (Fin.ext (show t.val % 8 * 512 + (r.val - 1) = (rowOf t r).val - 1 by omega))

theorem after_columns (t : Fin cfg0.N) (r : Fin 512) (j : Fin 5120) :
    (∑ k, wide m c t (ix2 (after r) k) * iblk m c 6 t (ix2 k j))
      = if h : (rowOf t r).val + 1 < 4096 then projectedOf m c (batchOf t) ⟨(rowOf t r).val + 1, h⟩ ⟨j.val, by omega⟩ else 0 := by
  have hn : (rowOf t r).val = t.val % 8 * 512 + r.val := rfl
  have ha := after_val r
  by_cases h0 : r.val = 511
  · by_cases hz : t.val % 8 < 7
    · rw [dif_pos (by omega)]
      refine wide_columns m c t _ _ j fun k => (wide_after_row m c t _ (by omega) k).trans ((dif_pos hz).trans ?_)
      exact congrArg (fun n => hiddenOf m c (batchOf t) n k) (Fin.ext (show t.val % 8 * 512 + 512 = (rowOf t r).val + 1 by omega))
    · rw [dif_neg (by omega)]
      exact zero_columns _ _ fun k => (wide_after_row m c t _ (by omega) k).trans (dif_neg hz)
  · rw [dif_pos (by omega)]
    refine wide_columns m c t _ _ j fun k => (wide_inner_row m c t _ ⟨r.val + 1, by omega⟩ (show _ = 8 + (r.val + 1) by omega) k).trans ?_
    exact congrArg (fun n => hiddenOf m c (batchOf t) n k) (Fin.ext (show t.val % 8 * 512 + (r.val + 1) = (rowOf t r).val + 1 by omega))

theorem tapped_at (t : Fin cfg0.N) (r : Fin 512) :
    tapped' (wide m c t) (iblk m c 6 t) (iblk m c 11 t) r = tappedOf m c (batchOf t) (rowOf t r) := by
  funext j
  unfold tapped'
  rw [before_columns, after_columns, wide_columns m c t (here r) (rowOf t r) _ fun k => wide_inner_row m c t _ r rfl k]
  simp only [block_11]
  rfl

end Cert.Kernel2Ideal.InProj

end
-- ==== Proof.InProj.Out.lean ====
module

public import proofs.«01_k».proof.Proof.InProj.Inputs
public import Idealize.ShloMosaic.Lib.Pipeline.Value

@[expose] public section

set_option maxRecDepth 16384

noncomputable section

/-! # The projection's six result arrays -/

namespace Cert.Kernel2Ideal.InProj

open Cert.Kernel2Ideal Cert.Kernel2Ideal.Gen Cert.Layer
open Idealize.ShloMosaic Idealize.ShloMosaic.TcCoe Idealize.ShloMosaic.Tactic
open Idealize.ShloMosaic.Pipeline (Dat)

variable (m : (ℓ : Loc nD τ sig) → Buf (Elt Ideal) ℓ) (c : Dev nD)

/-! ## The results at a batch, token and channel -/

/-- The transform's values. -/
def fvAt (b : Fin 8) (n : Fin 4096) (d : Fin 512) : EReal := projectedOf m c b n ⟨d.val, by omega⟩
def fv : FVec Ideal S8x4096x512 .bf16 := fun y => fvAt m c (y 0) (y 1) (y 2)

/-- The transform's gate. -/
def fgAt (b : Fin 8) (n : Fin 4096) (d : Fin 512) : EReal := silu (projectedOf m c b n ⟨512 + d.val, by omega⟩)
def fg : FVec Ideal S8x4096x512 .bf16 := fun y => fgAt m c (y 0) (y 1) (y 2)

/-- The queries, keys and values. -/
def qkvAt (b : Fin 8) (n : Fin 4096) (d : Fin 3072) : EReal := convolved (tappedOf m c b n) d
def qkv : FVec Ideal S8x4096x3072 .bf16 := fun y => qkvAt m c (y 0) (y 1) (y 2)

/-- The delta rule's gate. -/
def sgAt (b : Fin 8) (n : Fin 4096) (d : Fin 1024) : EReal := silu (projectedOf m c b n ⟨4096 + d.val, by omega⟩)
def sg : FVec Ideal S8x4096x1024 .bf16 := fun y => sgAt m c (y 0) (y 1) (y 2)

/-- The first merge gate. -/
def rfAt (b : Fin 8) (n : Fin 4096) (d : Fin 1024) : EReal := sigmoid (projectedOf m c b n ⟨5152 + d.val, by omega⟩)
def rf : FVec Ideal S8x4096x1024 .bf16 := fun y => rfAt m c (y 0) (y 1) (y 2)

/-- The second merge gate. -/
def rdAt (b : Fin 8) (n : Fin 4096) (d : Fin 1024) : EReal := sigmoid (projectedOf m c b n ⟨6176 + d.val, by omega⟩)
def rd : FVec Ideal S8x4096x1024 .bf16 := fun y => rdAt m c (y 0) (y 1) (y 2)

/-! ## A point's blocks -/

theorem fv_value (t : Fin cfg0.N) (r : Fin 512) (d : Fin 512) : (outsAt0 m c t).1 (ix3 0 r d) = fvAt m c (batchOf t) (rowOf t r) d := by
  exact (fv_tile m c t r d).trans (columns m c t r _)

theorem fg_value (t : Fin cfg0.N) (r : Fin 512) (d : Fin 512) : (outsAt0 m c t).2.1 (ix3 0 r d) = fgAt m c (batchOf t) (rowOf t r) d := by
  exact (fg_tile m c t r d).trans (congrArg silu (columns m c t r _))

theorem qkv_value (t : Fin cfg0.N) (r : Fin 512) (d : Fin 3072) : (outsAt0 m c t).2.2.1 (ix3 0 r d) = qkvAt m c (batchOf t) (rowOf t r) d := by
  rw [qkv_tile, tapped_at]
  rfl

theorem sg_value (t : Fin cfg0.N) (r : Fin 512) (d : Fin 1024) : (outsAt0 m c t).2.2.2.1 (ix3 0 r d) = sgAt m c (batchOf t) (rowOf t r) d := by
  exact (sg_tile m c t r d).trans (congrArg silu (columns m c t r _))

theorem rf_value (t : Fin cfg0.N) (r : Fin 512) (d : Fin 1024) : (outsAt0 m c t).2.2.2.2.1 (ix3 0 r d) = rfAt m c (batchOf t) (rowOf t r) d := by
  exact (rf_tile m c t r d).trans (congrArg sigmoid (last_columns m c t r _))

theorem rd_value (t : Fin cfg0.N) (r : Fin 512) (d : Fin 1024) : (outsAt0 m c t).2.2.2.2.2.1 (ix3 0 r d) = rdAt m c (batchOf t) (rowOf t r) d := by
  refine (rd_tile m c t r d).trans (congrArg sigmoid ((last_columns m c t r _).trans ?_))
  exact congrArg (projectedOf m c _ _) (Fin.ext (show 5152 + (1024 + d.val) = 6176 + d.val by omega))

/-! ## The arrays -/

theorem fv_eq : (dats m 0 c).arrAt 16 cfg0.N = fv m c := by
  refine Dat.arrAt_eq_of_covers _ 16 _ (by decide +kernel) fun t hf y => ?_
  have e := fv_value m c t (y 1) (y 2)
  blk_simp
  refine Eq.trans (b := (outsAt0 m c t).1 (ix3 0 (y 1) (y 2))) ?_ (e.trans ?_)
  · rw [after0_16]
    exact congrArg (outsAt0 m c t).1 (funext fun a => by fin_cases a <;> [exact Subsingleton.elim (α := Fin 1) _ _; rfl; rfl])
  · unfold fv
    refine congr (congr (congrArg (fvAt m c) (Fin.ext ?_)) (Fin.ext ?_)) (Fin.ext ?_) <;> blk_simp [index_16] <;> rfl

theorem fg_eq : (dats m 0 c).arrAt 17 cfg0.N = fg m c := by
  refine Dat.arrAt_eq_of_covers _ 17 _ (by decide +kernel) fun t hf y => ?_
  have e := fg_value m c t (y 1) (y 2)
  blk_simp
  refine Eq.trans (b := (outsAt0 m c t).2.1 (ix3 0 (y 1) (y 2))) ?_ (e.trans ?_)
  · rw [after0_17]
    exact congrArg (outsAt0 m c t).2.1 (funext fun a => by fin_cases a <;> [exact Subsingleton.elim (α := Fin 1) _ _; rfl; rfl])
  · unfold fg
    refine congr (congr (congrArg (fgAt m c) (Fin.ext ?_)) (Fin.ext ?_)) (Fin.ext ?_) <;> blk_simp [index_17] <;> rfl

theorem qkv_eq : (dats m 0 c).arrAt 18 cfg0.N = qkv m c := by
  refine Dat.arrAt_eq_of_covers _ 18 _ (by decide +kernel) fun t hf y => ?_
  have e := qkv_value m c t (y 1) (y 2)
  blk_simp
  refine Eq.trans (b := (outsAt0 m c t).2.2.1 (ix3 0 (y 1) (y 2))) ?_ (e.trans ?_)
  · rw [after0_18]
    exact congrArg (outsAt0 m c t).2.2.1 (funext fun a => by fin_cases a <;> [exact Subsingleton.elim (α := Fin 1) _ _; rfl; rfl])
  · unfold qkv
    refine congr (congr (congrArg (qkvAt m c) (Fin.ext ?_)) (Fin.ext ?_)) (Fin.ext ?_) <;> blk_simp [index_18] <;> rfl

theorem sg_eq : (dats m 0 c).arrAt 19 cfg0.N = sg m c := by
  refine Dat.arrAt_eq_of_covers _ 19 _ (by decide +kernel) fun t hf y => ?_
  have e := sg_value m c t (y 1) (y 2)
  blk_simp
  refine Eq.trans (b := (outsAt0 m c t).2.2.2.1 (ix3 0 (y 1) (y 2))) ?_ (e.trans ?_)
  · rw [after0_19]
    exact congrArg (outsAt0 m c t).2.2.2.1 (funext fun a => by fin_cases a <;> [exact Subsingleton.elim (α := Fin 1) _ _; rfl; rfl])
  · unfold sg
    refine congr (congr (congrArg (sgAt m c) (Fin.ext ?_)) (Fin.ext ?_)) (Fin.ext ?_) <;> blk_simp [index_19] <;> rfl

theorem rf_eq : (dats m 0 c).arrAt 20 cfg0.N = rf m c := by
  refine Dat.arrAt_eq_of_covers _ 20 _ (by decide +kernel) fun t hf y => ?_
  have e := rf_value m c t (y 1) (y 2)
  blk_simp
  refine Eq.trans (b := (outsAt0 m c t).2.2.2.2.1 (ix3 0 (y 1) (y 2))) ?_ (e.trans ?_)
  · rw [after0_20]
    exact congrArg (outsAt0 m c t).2.2.2.2.1 (funext fun a => by fin_cases a <;> [exact Subsingleton.elim (α := Fin 1) _ _; rfl; rfl])
  · unfold rf
    refine congr (congr (congrArg (rfAt m c) (Fin.ext ?_)) (Fin.ext ?_)) (Fin.ext ?_) <;> blk_simp [index_20] <;> rfl

theorem rd_eq : (dats m 0 c).arrAt 21 cfg0.N = rd m c := by
  refine Dat.arrAt_eq_of_covers _ 21 _ (by decide +kernel) fun t hf y => ?_
  have e := rd_value m c t (y 1) (y 2)
  blk_simp
  refine Eq.trans (b := (outsAt0 m c t).2.2.2.2.2.1 (ix3 0 (y 1) (y 2))) ?_ (e.trans ?_)
  · rw [after0_21]
    exact congrArg (outsAt0 m c t).2.2.2.2.2.1 (funext fun a => by fin_cases a <;> [exact Subsingleton.elim (α := Fin 1) _ _; rfl; rfl])
  · unfold rd
    refine congr (congr (congrArg (rdAt m c) (Fin.ext ?_)) (Fin.ext ?_)) (Fin.ext ?_) <;> blk_simp [index_21] <;> rfl

end Cert.Kernel2Ideal.InProj

end
-- ==== Proof.InProj.Reference.lean ====
module

public import proofs.«01_k».proof.Proof.Gen.Reference2Ideal.Run
public import proofs.«01_k».proof.Proof.Layer.Position
public import proofs.«01_k».proof.Proof.Layer.Project
public import Idealize.ShloMosaic.Lib.Pointwise

@[expose] public section

set_option maxRecDepth 16384

noncomputable section

/-! # The projection's reference, element by element -/

namespace Cert.Reference2Ideal.InProj

open Cert.Reference2Ideal Cert.Reference2Ideal.Gen Cert.Layer
open Idealize.ShloMosaic Idealize.ShloMosaic.TcCoe
open Idealize.ShloMosaic.StableHlo (launchContents)

/-- The position table as the reference builds it. -/
abbrev table : FVec Ideal S64x512 .f32 :=
  posTab bcast_S_S256 bcast_S64_S64x1_0 bcast_S256_S1x256_1 bcast_S64x1_S64x256_0_1 bcast_S1x256_S64x256_0_1 concatenates_S64x256_S64x256_S64x512_d1

/-- The tokens with the position table added. -/
def tokens (x : FVec Ideal S8x4096x1024 .f32) (T : FVec Ideal S64x512 .f32) : FVec Ideal S8x4096x1024 .f32 :=
  addf x (broadcastInDim S8x4096x1024 ![0, 1, 2] bcast_S1x4096x1024_S8x4096x1024_0_1_2 (broadcastInDim S1x4096x1024 ![1, 2] bcast_S4096x1024_S1x4096x1024_1_2
    (shapeCast S4096x1024 (concatenate S64x64x1024 2
      [⟨S64x64x512, broadcastInDim S64x64x512 ![0, 1, 2] bcast_S64x1x512_S64x64x512_0_1_2 (broadcastInDim S64x1x512 ![0, 2] bcast_S64x512_S64x1x512_0_2 T)⟩,
        ⟨S64x64x512, broadcastInDim S64x64x512 ![0, 1, 2] bcast_S1x64x512_S64x64x512_0_1_2 (broadcastInDim S1x64x512 ![1, 2] bcast_S64x512_S1x64x512_1_2 T)⟩]
      concatenates_S64x64x512_S64x64x512_S64x64x1024_d2) shapeCasts_S64x64x1024_S4096x1024)))

def means (z : FVec Ideal S8x4096x1024 .f32) : FVec Ideal S8x4096x1 .f32 :=
  Host.divf (broadcastInDim S8x4096x1 ![0, 1] bcast_S8x4096_S8x4096x1_0_1 (Host.reduceAdd z (constant S_ .f32 0x00000000#32) reducesTo_S8x4096x1024_S8x4096_d2 h_S_))
    (broadcastInDim S8x4096x1 ![] bcast_S_S8x4096x1 (constant S_ .f32 0x44800000#32))

def less (z : FVec Ideal S8x4096x1024 .f32) : FVec Ideal S8x4096x1024 .f32 :=
  subf z (broadcastInDim S8x4096x1024 ![0, 1, 2] bcast_S8x4096x1_S8x4096x1024_0_1_2 (means z))

/-- The rows normalised. -/
def rows (z : FVec Ideal S8x4096x1024 .f32) : FVec Ideal S8x4096x1024 .f32 :=
  mulf (less z) (broadcastInDim S8x4096x1024 ![0, 1, 2] bcast_S8x4096x1_S8x4096x1024_0_1_2 (Host.rsqrt (addf (means (mulf (less z) (less z)))
    (broadcastInDim S8x4096x1 ![] bcast_S_S8x4096x1 (constant S_ .f32 0x358637BD#32)))))

/-- The rows normalised and modulated. -/
def modulate (z : FVec Ideal S8x4096x1024 .f32) (mod : FVec Ideal S16x3072 .f32) : FVec Ideal S8x4096x1024 .f32 :=
  addf (mulf (rows z) (broadcastInDim S8x4096x1024 ![0, 1, 2] bcast_S8x1x1024_S8x4096x1024_0_1_2
      (addf (broadcastInDim S8x1x1024 ![] bcast_S_S8x1x1024 (constant S_ .f32 0x3F800000#32))
        (broadcastInDim S8x1x1024 ![0, 2] bcast_S8x1024_S8x1x1024_0_2
          (extractStridedSlice S8x1024 ![0, 1024] (extractStridedSlice S8x3072 ![0, 0] mod slices_S16x3072_S8x3072_0_0) slices_S8x3072_S8x1024_0_1024)))))
    (broadcastInDim S8x4096x1024 ![0, 1, 2] bcast_S8x1x1024_S8x4096x1024_0_1_2 (broadcastInDim S8x1x1024 ![0, 2] bcast_S8x1024_S8x1x1024_0_2
      (extractStridedSlice S8x1024 ![0, 0] (extractStridedSlice S8x3072 ![0, 0] mod slices_S16x3072_S8x3072_0_0) slices_S8x3072_S8x1024_0_0)))

/-- All columns of the projection. -/
def project (h : FVec Ideal S8x4096x1024 .f32) (w : FVec Ideal S1024x7200 .f32) : FVec Ideal S8x4096x7200 .f32 :=
  Host.dotGeneral dot_S8x4096x1024_S1024x7200_S8x4096x7200_2_0_01_1_n_n none h w

/-- The columns under the taps, with a zero token before the first and after the last. -/
def padded (p : FVec Ideal S8x4096x7200 .f32) : FVec Ideal S8x4098x3072 .f32 :=
  pad S8x4098x3072 ![0, 1, 0] ![0, 1, 0] ![0, 0, 0] (extractStridedSlice S8x4096x3072 ![0, 0, 1024] p slices_S8x4096x7200_S8x4096x3072_0_0_1024)
    (sitofp .f32 (constantI S_ 32 0#32)) pads_S8x4096x3072_S8x4098x3072_000_110_000 h_S_

/-- A row of the taps at every token. -/
def spread (w : FVec Ideal S1x3072 .f32) : FVec Ideal S8x4096x3072 .f32 :=
  broadcastInDim S8x4096x3072 ![0, 1, 2] bcast_S1x1x3072_S8x4096x3072_0_1_2 (broadcastInDim S1x1x3072 ![2] bcast_S3072_S1x1x3072_2 (shapeCast S3072 w shapeCasts_S1x3072_S3072))

def convolve (p : FVec Ideal S8x4098x3072 .f32) (w : FVec Ideal S3x3072 .f32) : FVec Ideal S8x4096x3072 .f32 :=
  addf (addf (mulf (extractStridedSlice S8x4096x3072 ![0, 0, 0] p slices_S8x4098x3072_S8x4096x3072_0_0_0) (spread (extractStridedSlice S1x3072 ![0, 0] w slices_S3x3072_S1x3072_0_0)))
      (mulf (extractStridedSlice S8x4096x3072 ![0, 1, 0] p slices_S8x4098x3072_S8x4096x3072_0_1_0) (spread (extractStridedSlice S1x3072 ![1, 0] w slices_S3x3072_S1x3072_1_0))))
    (mulf (extractStridedSlice S8x4096x3072 ![0, 2, 0] p slices_S8x4098x3072_S8x4096x3072_0_2_0) (spread (extractStridedSlice S1x3072 ![2, 0] w slices_S3x3072_S1x3072_2_0)))

/-- The logistic function of every element of an array, the one spread over it given. -/
def logistic {s : Shape} (o z : FVec Ideal s .f32) : FVec Ideal s .f32 := Host.divf o (addf o (Host.exp (Host.negf z)))

abbrev ones₅ : FVec Ideal S8x4096x512 .f32 := broadcastInDim S8x4096x512 ![] bcast_S_S8x4096x512 (constant S_ .f32 0x3F800000#32)
abbrev ones₁ : FVec Ideal S8x4096x1024 .f32 := broadcastInDim S8x4096x1024 ![] bcast_S_S8x4096x1024 (constant S_ .f32 0x3F800000#32)
abbrev ones₃ : FVec Ideal S8x4096x3072 .f32 := broadcastInDim S8x4096x3072 ![] bcast_S_S8x4096x3072 (constant S_ .f32 0x3F800000#32)

/-- The heads of an array, each divided by the root of its square sum. -/
def units (z : FVec Ideal S8x4096x8x128 .f32) : FVec Ideal S8x4096x8x128 .f32 :=
  mulf z (broadcastInDim S8x4096x8x128 ![0, 1, 2, 3] bcast_S8x4096x8x1_S8x4096x8x128_0_1_2_3 (Host.rsqrt (addf
    (broadcastInDim S8x4096x8x1 ![0, 1, 2] bcast_S8x4096x8_S8x4096x8x1_0_1_2 (Host.reduceAdd (mulf z z) (constant S_ .f32 0x00000000#32) reducesTo_S8x4096x8x128_S8x4096x8_d3 h_S_))
    (broadcastInDim S8x4096x8x1 ![] bcast_S_S8x4096x8x1 (constant S_ .f32 0x358637BD#32)))))

/-- The columns after the taps, gated. -/
def gated (z : FVec Ideal S8x4096x3072 .f32) : FVec Ideal S8x4096x3072 .f32 := mulf z (logistic ones₃ z)

/-- The six results, of the projection's columns and of the columns after the taps. -/
def fv (p : FVec Ideal S8x4096x7200 .f32) : FVec Ideal S8x4096x512 .bf16 :=
  truncf .bf16 (extractStridedSlice S8x4096x512 ![0, 0, 0] p slices_S8x4096x7200_S8x4096x512_0_0_0) bitsLt_bf16_f32
def fg (p : FVec Ideal S8x4096x512 .f32) : FVec Ideal S8x4096x512 .bf16 := truncf .bf16 (mulf p (logistic ones₅ p)) bitsLt_bf16_f32
def sg (p : FVec Ideal S8x4096x1024 .f32) : FVec Ideal S8x4096x1024 .bf16 := truncf .bf16 (mulf p (logistic ones₁ p)) bitsLt_bf16_f32
def rf (p : FVec Ideal S8x4096x7200 .f32) : FVec Ideal S8x4096x1024 .bf16 :=
  truncf .bf16 (logistic ones₁ (extractStridedSlice S8x4096x1024 ![0, 0, 5152] p slices_S8x4096x7200_S8x4096x1024_0_0_5152)) bitsLt_bf16_f32
def rd (p : FVec Ideal S8x4096x7200 .f32) : FVec Ideal S8x4096x1024 .bf16 :=
  truncf .bf16 (logistic ones₁ (extractStridedSlice S8x4096x1024 ![0, 0, 6176] p slices_S8x4096x7200_S8x4096x1024_0_0_6176)) bitsLt_bf16_f32
def queries (s : FVec Ideal S8x4096x3072 .f32) : FVec Ideal S8x4096x1024 .f32 :=
  shapeCast S8x4096x1024 (mulf (units (shapeCast S8x4096x8x128 (extractStridedSlice S8x4096x1024 ![0, 0, 0] s slices_S8x4096x3072_S8x4096x1024_0_0_0) shapeCasts_S8x4096x1024_S8x4096x8x128))
    (broadcastInDim S8x4096x8x128 ![] bcast_S_S8x4096x8x128 (constant S_ .f32 0x3DB504F3#32))) shapeCasts_S8x4096x8x128_S8x4096x1024
def keys (s : FVec Ideal S8x4096x3072 .f32) : FVec Ideal S8x4096x1024 .f32 :=
  shapeCast S8x4096x1024 (units (shapeCast S8x4096x8x128 (extractStridedSlice S8x4096x1024 ![0, 0, 1024] s slices_S8x4096x3072_S8x4096x1024_0_0_1024) shapeCasts_S8x4096x1024_S8x4096x8x128))
    shapeCasts_S8x4096x8x128_S8x4096x1024
def qkv (s : FVec Ideal S8x4096x3072 .f32) : FVec Ideal S8x4096x3072 .bf16 :=
  truncf .bf16 (concatenate S8x4096x3072 2 [⟨S8x4096x1024, queries s⟩, ⟨S8x4096x1024, keys s⟩,
    ⟨S8x4096x1024, extractStridedSlice S8x4096x1024 ![0, 0, 2048] s slices_S8x4096x3072_S8x4096x1024_0_0_2048⟩]
    concatenates_S8x4096x1024_S8x4096x1024_S8x4096x1024_S8x4096x3072_d2) bitsLt_bf16_f32

/-! ## The printed terms are these -/

section
variable (m : (ℓ : Loc nD τ sig) → Buf (Elt Ideal) ℓ) (c : Dev nD)

theorem tokens_eq : Value.res_main_v33 (launchContents m c) = tokens (m ((c.tc : Thread nD τ).loc main_arg0)) table := by
  unfold Value.res_main_v33
  rfl

theorem project_eq : Value.res_main_v63 (launchContents m c)
    = project (modulate (tokens (m ((c.tc : Thread nD τ).loc main_arg0)) table) (m ((c.tc : Thread nD τ).loc main_arg1))) (m ((c.tc : Thread nD τ).loc main_arg2)) := by
  rw [← tokens_eq]
  unfold Value.res_main_v63
  rfl

theorem gated_eq : Value.res_main_v97 (launchContents m c)
    = gated (convolve (padded (Value.res_main_v63 (launchContents m c))) (m ((c.tc : Thread nD τ).loc main_arg3))) := by
  unfold Value.res_main_v97 Value.res_main_v90
  rfl

end

/-! ## Their elements -/

theorem tokens_apply (x : FVec Ideal S8x4096x1024 .f32) (T : FVec Ideal S64x512 .f32) (b : Fin 8) (n : Fin 4096) (d : Fin 1024) :
    tokens x T (ix3 b n d) = x (ix3 b n d) + position (fun i j => T (ix2 i j)) n.val d := by
  unfold tokens
  pointwise
  have h : n.val / 64 % 64 = n.val / 64 := Nat.mod_eq_of_lt (by omega)
  simp only [position, h]

theorem means_apply (z : FVec Ideal S8x4096x1024 .f32) (b : Fin 8) (n : Fin 4096) : means z (ix3 b n 0) = mean 0x44800000#32 (fun d => z (ix3 b n d)) := by
  unfold means
  pointwise
  rfl

theorem less_apply (z : FVec Ideal S8x4096x1024 .f32) (b : Fin 8) (n : Fin 4096) (d : Fin 1024) : less z (ix3 b n d) = centred (fun d => z (ix3 b n d)) d := by
  unfold less
  pointwise
  rw [means_apply]
  rfl

theorem rows_apply (z : FVec Ideal S8x4096x1024 .f32) (b : Fin 8) (n : Fin 4096) (d : Fin 1024) : rows z (ix3 b n d) = normed (fun d => z (ix3 b n d)) d := by
  unfold rows
  pointwise
  rw [means_apply]
  pointwise
  simp only [less_apply]
  rfl

theorem modulate_apply (z : FVec Ideal S8x4096x1024 .f32) (mod : FVec Ideal S16x3072 .f32) (b : Fin 8) (n : Fin 4096) (d : Fin 1024) :
    modulate z mod (ix3 b n d) = modulated (fun d => z (ix3 b n d)) (fun d => mod (ix2 ⟨b.val, by omega⟩ ⟨1024 + d.val, by omega⟩))
      (fun d => mod (ix2 ⟨b.val, by omega⟩ ⟨d.val, by omega⟩)) d := by
  unfold modulate
  pointwise
  rw [rows_apply]
  rfl

theorem project_apply (x : FVec Ideal S8x4096x1024 .f32) (mod : FVec Ideal S16x3072 .f32) (T : FVec Ideal S64x512 .f32) (w : FVec Ideal S1024x7200 .f32)
    (b : Fin 8) (n : Fin 4096) (j : Fin 7200) : project (modulate (tokens x T) mod) w (ix3 b n j)
      = projected (fun b n d => x (ix3 b n d)) (fun b j => mod (ix2 b j)) (fun i j => T (ix2 i j)) (fun k j => w (ix2 k j)) b n j := by
  unfold project
  pointwise
  simp only [modulate_apply, tokens_apply]
  rfl

/-- A padded column at a row: zero at the first and last, the token before the row between. -/
theorem padded_apply (p : FVec Ideal S8x4096x7200 .f32) (b : Fin 8) (e : Fin 4098) (j : Fin 3072) :
    padded p (ix3 b e j) = if h : 1 ≤ e.val ∧ e.val - 1 < 4096 then p (ix3 b ⟨e.val - 1, h.2⟩ ⟨1024 + j.val, by omega⟩) else 0 := by
  unfold padded
  pointwise
  have z : FloatOps.sitofp (F := Ideal) FTy.f32 (0#32 : BitVec 32) = (0 : EReal) := by
    show (((0#32 : BitVec 32).toInt : ℝ) : EReal) = 0
    norm_num
  rw [z]

theorem spread_apply (w : FVec Ideal S1x3072 .f32) (b : Fin 8) (n : Fin 4096) (j : Fin 3072) : spread w (ix3 b n j) = w (ix2 0 j) := by
  unfold spread
  pointwise

theorem convolve_apply (p : FVec Ideal S8x4098x3072 .f32) (w : FVec Ideal S3x3072 .f32) (b : Fin 8) (n : Fin 4096) (j : Fin 3072) :
    convolve p w (ix3 b n j) = p (ix3 b ⟨n.val, by omega⟩ j) * w (ix2 0 j) + p (ix3 b ⟨1 + n.val, by omega⟩ j) * w (ix2 1 j)
      + p (ix3 b ⟨2 + n.val, by omega⟩ j) * w (ix2 2 j) := by
  unfold convolve
  pointwise
  simp only [spread_apply]
  pointwise

theorem units_apply (z : FVec Ideal S8x4096x8x128 .f32) (b : Fin 8) (n : Fin 4096) (h : Fin 8) (e : Fin 128) :
    units z (ix4 b n h e) = unit (fun e => z (ix4 b n h e)) e := by
  unfold units
  pointwise
  rfl

theorem queries_apply (s : FVec Ideal S8x4096x3072 .f32) (b : Fin 8) (n : Fin 4096) (d : Fin 1024) : queries s (ix3 b n d)
    = unit (fun e => s (ix3 b n ⟨128 * (d.val / 128) + e.val, by omega⟩)) ⟨d.val % 128, Nat.mod_lt _ (by decide)⟩ * num 0x3DB504F3#32 := by
  unfold queries
  pointwise
  rw [units_apply]
  pointwise
  simp only [Nat.mul_comm (d.val / 128) 128]

theorem keys_apply (s : FVec Ideal S8x4096x3072 .f32) (b : Fin 8) (n : Fin 4096) (d : Fin 1024) : keys s (ix3 b n d)
    = unit (fun e => s (ix3 b n ⟨1024 + (128 * (d.val / 128) + e.val), by omega⟩)) ⟨d.val % 128, Nat.mod_lt _ (by decide)⟩ := by
  unfold keys
  pointwise
  rw [units_apply]
  pointwise
  simp only [Nat.mul_comm (d.val / 128) 128]

theorem qkv_apply (s : FVec Ideal S8x4096x3072 .f32) (b : Fin 8) (n : Fin 4096) (d : Fin 3072) :
    qkv s (ix3 b n d) = convolved (fun j => s (ix3 b n j)) d := by
  unfold qkv
  pointwise
  unfold convolved
  split
  · rename_i h
    exact queries_apply s b n ⟨d.val, h⟩
  · split
    · rename_i h₁ h₂
      rw [if_pos (show d.val < 2048 by omega), keys_apply]
      have e : ∀ i : ℕ, 1024 + (128 * ((d.val - 1024) / 128) + i) = 128 * (d.val / 128) + i := by omega
      simp only [e, show (d.val - 1024) % 128 = d.val % 128 by omega]
    · rename_i h₁ h₂
      rw [if_neg (show ¬ d.val < 2048 by omega)]
      exact congrArg (fun j => s (ix3 b n j)) (Fin.ext (show 2048 + (d.val - 1024 - 1024) = d.val by omega))

theorem gated_apply (p : FVec Ideal S8x4096x7200 .f32) (w : FVec Ideal S3x3072 .f32) (b : Fin 8) (n : Fin 4096) (j : Fin 3072) :
    gated (convolve (padded p) w) (ix3 b n j)
      = tapped (if n.val = 0 then 0 else p (ix3 b ⟨n.val - 1, by omega⟩ ⟨1024 + j.val, by omega⟩)) (p (ix3 b n ⟨1024 + j.val, by omega⟩))
        (if h : n.val + 1 < 4096 then p (ix3 b ⟨n.val + 1, h⟩ ⟨1024 + j.val, by omega⟩) else 0) (fun i => w (ix2 i j)) := by
  have e₀ : padded p (ix3 b ⟨n.val, by omega⟩ j) = if n.val = 0 then 0 else p (ix3 b ⟨n.val - 1, by omega⟩ ⟨1024 + j.val, by omega⟩) := by
    rw [padded_apply]
    by_cases h : n.val = 0
    · rw [if_pos h, dif_neg (fun k => by have : 1 ≤ n.val := k.1; omega)]
    · rw [if_neg h, dif_pos ⟨show 1 ≤ n.val by omega, show n.val - 1 < 4096 by omega⟩]
  have e₁ : padded p (ix3 b ⟨1 + n.val, by omega⟩ j) = p (ix3 b n ⟨1024 + j.val, by omega⟩) := by
    rw [padded_apply, dif_pos ⟨show 1 ≤ 1 + n.val by omega, show 1 + n.val - 1 < 4096 by omega⟩]
    exact congrArg (fun n => p (ix3 b n _)) (Fin.ext (show 1 + n.val - 1 = n.val by omega))
  have e₂ : padded p (ix3 b ⟨2 + n.val, by omega⟩ j) = if h : n.val + 1 < 4096 then p (ix3 b ⟨n.val + 1, h⟩ ⟨1024 + j.val, by omega⟩) else 0 := by
    rw [padded_apply]
    by_cases h : n.val + 1 < 4096
    · rw [dif_pos h, dif_pos ⟨show 1 ≤ 2 + n.val by omega, show 2 + n.val - 1 < 4096 by omega⟩]
      exact congrArg (fun n => p (ix3 b n _)) (Fin.ext (show 2 + n.val - 1 = n.val + 1 by omega))
    · rw [dif_neg h, dif_neg (fun k => by have : 2 + n.val - 1 < 4096 := k.2; omega)]
  unfold gated logistic
  pointwise
  rw [convolve_apply, e₀, e₁, e₂]
  rfl

theorem fv_apply (p : FVec Ideal S8x4096x7200 .f32) (b : Fin 8) (n : Fin 4096) (d : Fin 512) : fv p (ix3 b n d) = p (ix3 b n ⟨d.val, by omega⟩) := by
  unfold fv
  pointwise

theorem fg_apply (p : FVec Ideal S8x4096x512 .f32) (b : Fin 8) (n : Fin 4096) (d : Fin 512) : fg p (ix3 b n d) = silu (p (ix3 b n d)) := by
  unfold fg logistic
  pointwise
  rfl

theorem sg_apply (p : FVec Ideal S8x4096x1024 .f32) (b : Fin 8) (n : Fin 4096) (d : Fin 1024) : sg p (ix3 b n d) = silu (p (ix3 b n d)) := by
  unfold sg logistic
  pointwise
  rfl

theorem rf_apply (p : FVec Ideal S8x4096x7200 .f32) (b : Fin 8) (n : Fin 4096) (d : Fin 1024) :
    rf p (ix3 b n d) = sigmoid (p (ix3 b n ⟨5152 + d.val, by omega⟩)) := by
  unfold rf logistic
  pointwise
  rfl

theorem rd_apply (p : FVec Ideal S8x4096x7200 .f32) (b : Fin 8) (n : Fin 4096) (d : Fin 1024) :
    rd p (ix3 b n d) = sigmoid (p (ix3 b n ⟨6176 + d.val, by omega⟩)) := by
  unfold rd logistic
  pointwise
  rfl

/-- The columns the printed term reads for the transform's gate, and for the delta rule's. -/
theorem fg_column (m : (ℓ : Loc nD τ sig) → Buf (Elt Ideal) ℓ) (c : Dev nD) (b : Fin 8) (n : Fin 4096) (d : Fin 512) :
    (Value.res_main_v65 (launchContents m c) : FVec Ideal S8x4096x512 .f32) (ix3 b n d)
      = (Value.res_main_v63 (launchContents m c) : FVec Ideal S8x4096x7200 .f32) (ix3 b n ⟨512 + d.val, by omega⟩) := by
  unfold Value.res_main_v65
  pointwise

theorem sg_column (m : (ℓ : Loc nD τ sig) → Buf (Elt Ideal) ℓ) (c : Dev nD) (b : Fin 8) (n : Fin 4096) (d : Fin 1024) :
    (Value.res_main_v67 (launchContents m c) : FVec Ideal S8x4096x1024 .f32) (ix3 b n d)
      = (Value.res_main_v63 (launchContents m c) : FVec Ideal S8x4096x7200 .f32) (ix3 b n ⟨4096 + d.val, by omega⟩) := by
  unfold Value.res_main_v67
  pointwise

end Cert.Reference2Ideal.InProj

end
-- ==== Proof.InProj.Claims.lean ====
module

public import proofs.«01_k».proof.Proof.InProj.Out
public import proofs.«01_k».proof.Proof.InProj.Reference
public import proofs.«01_k».proof.Defs
public import Idealize.ShloMosaic.Lib.Claim

@[expose] public section

set_option maxRecDepth 16384

noncomputable section

/-! # The input projection's results are the reference's -/

namespace Cert.InProj

open Idealize.ShloMosaic Idealize.ShloMosaic.TcCoe Idealize.SL.Sem Cert.Layer
open Idealize.ShloMosaic.StableHlo (launchContents)
open Cert.Reference2Ideal (S8x4096x7200 S8x4096x512 S8x4096x1024 S8x4096x3072)

section
variable (m : (ℓ : Loc Cert.Kernel2Ideal.nD Cert.Kernel2Ideal.τ Cert.Kernel2Ideal.sig) → Buf (Elt Ideal) ℓ)
  (m' : (ℓ : Loc Cert.Reference2Ideal.nD Cert.Reference2Ideal.τ Cert.Reference2Ideal.sig) → Buf (Elt Ideal) ℓ) (c : Dev Cert.Kernel2Ideal.nD)
  (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
  (h1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
  (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
  (h3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3))

include h0 h1 h2

/-- On equal arguments the reference's columns of the projection are the call's. -/
theorem columns_eq (b : Fin 8) (n : Fin 4096) (j : Fin 7200) : (Cert.Reference2Ideal.Value.res_main_v63 (launchContents m' c) : FVec Ideal S8x4096x7200 .f32) (ix3 b n j) = Cert.Kernel2Ideal.InProj.projectedOf m c b n j := by
  rw [Cert.Reference2Ideal.InProj.project_eq]
  refine (Cert.Reference2Ideal.InProj.project_apply _ _ _ _ b n j).trans ?_
  simp only [h0, h1, h2]
  rfl

theorem fv_eq : Cert.Reference2Ideal.InProj.fv (Cert.Reference2Ideal.Value.res_main_v63 (launchContents m' c)) = Cert.Kernel2Ideal.InProj.fv m c := by
  funext y
  rw [eq_ix3 y]
  exact (Cert.Reference2Ideal.InProj.fv_apply _ _ _ _).trans (columns_eq m m' c h0 h1 h2 _ _ _)

theorem fg_eq : Cert.Reference2Ideal.InProj.fg (Cert.Reference2Ideal.Value.res_main_v65 (launchContents m' c)) = Cert.Kernel2Ideal.InProj.fg m c := by
  funext y
  rw [eq_ix3 y]
  exact (Cert.Reference2Ideal.InProj.fg_apply _ _ _ _).trans
    (congrArg silu ((Cert.Reference2Ideal.InProj.fg_column m' c _ _ _).trans (columns_eq m m' c h0 h1 h2 _ _ _)))

theorem sg_eq : Cert.Reference2Ideal.InProj.sg (Cert.Reference2Ideal.Value.res_main_v67 (launchContents m' c)) = Cert.Kernel2Ideal.InProj.sg m c := by
  funext y
  rw [eq_ix3 y]
  exact (Cert.Reference2Ideal.InProj.sg_apply _ _ _ _).trans
    (congrArg silu ((Cert.Reference2Ideal.InProj.sg_column m' c _ _ _).trans (columns_eq m m' c h0 h1 h2 _ _ _)))

theorem rf_eq : Cert.Reference2Ideal.InProj.rf (Cert.Reference2Ideal.Value.res_main_v63 (launchContents m' c)) = Cert.Kernel2Ideal.InProj.rf m c := by
  funext y
  rw [eq_ix3 y]
  exact (Cert.Reference2Ideal.InProj.rf_apply _ _ _ _).trans (congrArg sigmoid (columns_eq m m' c h0 h1 h2 _ _ _))

theorem rd_eq : Cert.Reference2Ideal.InProj.rd (Cert.Reference2Ideal.Value.res_main_v63 (launchContents m' c)) = Cert.Kernel2Ideal.InProj.rd m c := by
  funext y
  rw [eq_ix3 y]
  exact (Cert.Reference2Ideal.InProj.rd_apply _ _ _ _).trans (congrArg sigmoid (columns_eq m m' c h0 h1 h2 _ _ _))

include h3

theorem tapped_eq (b : Fin 8) (n : Fin 4096) (j : Fin 3072) :
    (Cert.Reference2Ideal.Value.res_main_v97 (launchContents m' c) : FVec Ideal S8x4096x3072 .f32) (ix3 b n j) = Cert.Kernel2Ideal.InProj.tappedOf m c b n j := by
  rw [Cert.Reference2Ideal.InProj.gated_eq]
  refine (Cert.Reference2Ideal.InProj.gated_apply _ _ b n j).trans ?_
  simp only [columns_eq m m' c h0 h1 h2, h3]
  rfl

theorem qkv_eq : Cert.Reference2Ideal.InProj.qkv (Cert.Reference2Ideal.Value.res_main_v97 (launchContents m' c)) = Cert.Kernel2Ideal.InProj.qkv m c := by
  funext y
  rw [eq_ix3 y]
  refine (Cert.Reference2Ideal.InProj.qkv_apply _ _ _ _).trans ?_
  exact congrArg (fun z => convolved z _) (funext fun j => tapped_eq m m' c h0 h1 h2 h3 _ _ j)

end

theorem algebraic : Cert.algebraic_Kernel2Ideal_Reference2Ideal := fun m g m' g' _ hm =>
  ⟨fun c => Cert.Kernel2Ideal.InProj.fv m c, fun c => Cert.Kernel2Ideal.InProj.fg m c, fun c => Cert.Kernel2Ideal.InProj.qkv m c,
    fun c => Cert.Kernel2Ideal.InProj.sg m c, fun c => Cert.Kernel2Ideal.InProj.rf m c, fun c => Cert.Kernel2Ideal.InProj.rd m c,
    (θ_run Cert.Kernel2Ideal.defs _ _).mono (fun r h c => by
      obtain ⟨a0, a1, a2, a3, a4, a5, _, _, k⟩ := h c
      exact ⟨a0.trans (Cert.Kernel2Ideal.InProj.fv_eq m c), a1.trans (Cert.Kernel2Ideal.InProj.fg_eq m c), a2.trans (Cert.Kernel2Ideal.InProj.qkv_eq m c),
        a3.trans (Cert.Kernel2Ideal.InProj.sg_eq m c), a4.trans (Cert.Kernel2Ideal.InProj.rf_eq m c), a5.trans (Cert.Kernel2Ideal.InProj.rd_eq m c), k⟩)
      (Cert.Kernel2Ideal.Value.run_blocks m g),
    (θ_run Cert.Reference2Ideal.defs _ _).mono (fun r h c => by
      obtain ⟨h0, h1, h2, h3, _, _⟩ := hm c
      obtain ⟨a0, a1, a2, a3, a4, a5, k⟩ := h c
      exact ⟨a0.trans (fv_eq m m' c h0 h1 h2), a1.trans (fg_eq m m' c h0 h1 h2), a2.trans (qkv_eq m m' c h0 h1 h2 h3),
        a3.trans (sg_eq m m' c h0 h1 h2), a4.trans (rf_eq m m' c h0 h1 h2), a5.trans (rd_eq m m' c h0 h1 h2), k⟩)
      (Cert.Reference2Ideal.Value.run (F := Ideal) m' g')⟩

end Cert.InProj

end
-- ==== Proof.Merge.Payloads.lean ====
module

public import proofs.«01_k».proof.Proof.Gen.Kernel3Ideal.Skeleton
public import proofs.«01_k».proof.Proof.Layer.Spec
public import Idealize.ShloMosaic.Lib.Pointwise

@[expose] public section

set_option maxRecDepth 16384

noncomputable section

/-! # What the merge's expressions are, element by element -/

namespace Cert.Kernel3Ideal.Merge

open Cert.Kernel3Ideal Cert.Kernel3Ideal.Gen Cert.Layer
open Idealize.ShloMosaic Idealize.ShloMosaic.TcCoe

theorem scaled_apply (u : FVec Ideal S256x1024 .f32) (s : FVec Ideal S256x1 .f32) (k : Ideal .f32) (g b : Vec Ideal S1x1024 .f32)
    (r : Fin 256) (d : Fin 1024) : k0_pay22 u s k g b (ix3 0 r d)
      = u (ix2 r d) * Ideal.rsqrt (Ideal.div (s (ix2 r 0)) k + num 0x358637BD#32) * g (ix2 0 d) + b (ix2 0 d) := by
  unfold_payloads
  pointwise

theorem scaled'_apply (u : FVec Ideal S256x1024 .f32) (s : FVec Ideal S256x1 .f32) (g b : Vec Ideal S1x1024 .f32)
    (r : Fin 256) (d : Fin 1024) : k0_pay1 u s g b (ix3 0 r d)
      = u (ix2 r d) * s (ix2 r 0) * g (ix2 0 d) + b (ix2 0 d) := by
  unfold_payloads
  pointwise

theorem gate_apply (v : Vec Ideal S1x1x3072 .f32) (d : Fin 1024) : k0_pay17 v (ix2 0 d) = v (ix3 0 0 ⟨2048 + d.val, by omega⟩) := by
  unfold_payloads
  pointwise

theorem token_apply (x : Vec Ideal S1x512x1024 .f32) (a : Vec Ideal S8x512 .f32) (b : Vec Ideal S64x512 .f32) (r : Fin 512) (d : Fin 1024) :
    k0_pay18 x a b (ix2 r d) = x (ix3 0 r d) + if h : d.val < 512 then a (ix2 ⟨r.val / 64, by omega⟩ ⟨d.val, h⟩) else b (ix2 ⟨r.val % 64, by omega⟩ ⟨d.val - 512, by omega⟩) := by
  unfold_payloads
  pointwise

theorem centred_apply (v154 v158 : FVec Ideal S512x1024 .f32) (v160 : Vec Ideal S1x1x3072 .f32) (v163 : Vec Ideal S1x512x1024 .f32) (v167 : Vec Ideal S8x512 .f32)
    (v169 : Vec Ideal S64x512 .f32) (v183 : Vec Ideal S1024x1024 .bf16) (r : Fin 256) (d : Fin 1024) :
    k0_pay20 v154 v158 v160 v163 v167 v169 v183 (ix2 r d) = centred (fun d => num 0x3F9837F0#32 * k0_pay18 v163 v167 v169 (ix2 ⟨r.val, by omega⟩ d)
      + v160 (ix3 0 0 ⟨2048 + d.val, by omega⟩) * ∑ j, (v154 (ix2 ⟨r.val, by omega⟩ j) + v158 (ix2 ⟨r.val, by omega⟩ j)) * v183 (ix2 j d)) d := by
  unfold k0_pay20 k0_pay19 k0_pay17
  pointwise
  rfl

theorem squares_apply (v154 v158 : FVec Ideal S512x1024 .f32) (v160 : Vec Ideal S1x1x3072 .f32) (v163 : Vec Ideal S1x512x1024 .f32) (v167 : Vec Ideal S8x512 .f32)
    (v169 : Vec Ideal S64x512 .f32) (v183 : Vec Ideal S1024x1024 .bf16) (r : Fin 256) :
    k0_pay21 v154 v158 v160 v163 v167 v169 v183 (ix2 r 0) = ∑ j, k0_pay20 v154 v158 v160 v163 v167 v169 v183 (ix2 r j) * k0_pay20 v154 v158 v160 v163 v167 v169 v183 (ix2 r j) := by
  unfold k0_pay21
  pointwise

theorem centred'_apply (v162 : FVec Ideal S1x1024 .f32) (v180 : FVec Ideal S512x1024 .f32) (v181 : FVec Ideal S512x1024 .bf16) (v220 : Vec Ideal S1024x1024 .bf16)
    (r : Fin 256) (d : Fin 1024) : k0_pay23 v162 v180 v181 v220 (ix2 r d) = centred (fun d => num 0x3F9837F0#32 * v180 (ix2 ⟨256 + r.val, by omega⟩ d)
      + v162 (ix2 0 d) * ∑ j, v181 (ix2 ⟨256 + r.val, by omega⟩ j) * v220 (ix2 j d)) d := by
  unfold k0_pay23
  pointwise
  rfl

theorem root'_apply (v162 : FVec Ideal S1x1024 .f32) (v180 : FVec Ideal S512x1024 .f32) (v181 : FVec Ideal S512x1024 .bf16) (v220 : Vec Ideal S1024x1024 .bf16)
    (r : Fin 256) : k0_pay24 v162 v180 v181 v220 (ix2 r 0) = Ideal.rsqrt (Ideal.div (∑ j, k0_pay23 v162 v180 v181 v220 (ix2 r j) * k0_pay23 v162 v180 v181 v220 (ix2 r j)) (num 0x44800000#32) + num 0x358637BD#32) := by
  unfold k0_pay24
  pointwise

theorem mixed_apply (v0 v6 v12 v18 : Vec Ideal S1x1x512x128 .f32) (v3 v9 v15 v21 : Vec Ideal S1x128x128 .bf16) (mix : Fin 4 → Fin 128 → EReal)
    (w : Fin 4 → Fin 128 → Fin 128 → EReal) (r : Fin 512)
    (h0 : ∀ c, v0 (ix4 0 0 r c) = mix 0 c) (h1 : ∀ c, v6 (ix4 0 0 r c) = mix 1 c) (h2 : ∀ c, v12 (ix4 0 0 r c) = mix 2 c) (h3 : ∀ c, v18 (ix4 0 0 r c) = mix 3 c)
    (g0 : ∀ c e, v3 (ix3 0 c e) = w 0 c e) (g1 : ∀ c e, v9 (ix3 0 c e) = w 1 c e) (g2 : ∀ c e, v15 (ix3 0 c e) = w 2 c e) (g3 : ∀ c e, v21 (ix3 0 c e) = w 3 c e)
    (j : Fin 512) : k0_pay2 v0 v3 v6 v9 v12 v15 v18 v21 (ix2 r j) = mixedRow mix w j := by
  unfold_payloads
  pointwise
  simp only [h0, h1, h2, h3, g0, g1, g2, g3]
  split
  · exact (mixedRow_of mix w j 0 _ (by show j.val = 128 * 0 + j.val; omega)).symm
  split
  · exact (mixedRow_of mix w j 1 _ (by show j.val = 128 * 1 + (j.val - 128); omega)).symm
  split
  · exact (mixedRow_of mix w j 2 _ (by show j.val = 128 * 2 + (j.val - 128 - 128); omega)).symm
  · exact (mixedRow_of mix w j 3 _ (by show j.val = 128 * 3 + (j.val - 128 - 128 - 128); omega)).symm

theorem fourier_apply (v24 : FVec Ideal S512x512 .f32) (v25 : Vec Ideal S1x512x512 .bf16) (v30 : Vec Ideal S512x1024 .bf16) (r : Fin 512) (d : Fin 1024) :
    k0_pay3 v24 v25 v30 (ix2 r d) = ∑ i, (v24 (ix2 r i) * v25 (ix3 0 r i)) * v30 (ix2 i d) := by
  unfold_payloads
  pointwise

theorem fourier'_apply (v32 : FVec Ideal S512x1024 .f32) (v151 : Vec Ideal S1x512x1024 .bf16) (r : Fin 512) (d : Fin 1024) :
    k0_pay15 v32 v151 (ix2 r d) = v151 (ix3 0 r d) * v32 (ix2 r d) := by
  unfold_payloads
  pointwise

theorem sum_apply (v154 v158 : FVec Ideal S512x1024 .f32) (r : Fin 512) (d : Fin 1024) :
    k0_pay19 v154 v158 (ix2 r d) = v154 (ix2 r d) + v158 (ix2 r d) := by
  unfold_payloads
  pointwise

theorem delta_apply (v33 : Vec Ideal S1x512x1024 .bf16) (v36 : Vec Ideal S1x128 .f32) (v143 : Vec Ideal S1x512x1024 .bf16) (v148 : Vec Ideal S1024x1024 .bf16)
    (v155 : Vec Ideal S1x512x1024 .bf16) (r : Fin 512) (d : Fin 1024) :
    k0_pay16 (k0_pay4 v33) (k0_pay5 v36) (k0_pay6 v33 v36) (k0_pay7 v33 v36) (k0_pay10 (k0_pay5 v36) (k0_pay8 v33) (k0_pay9 v33))
        (k0_pay11 (k0_pay4 v33) (k0_pay5 v36)) (k0_pay12 (k0_pay4 v33) (k0_pay5 v36)) (k0_pay13 (k0_pay4 v33) (k0_pay5 v36)) (k0_pay14 (k0_pay4 v33))
        v143 v148 v155 (ix2 r d)
      = v155 (ix3 0 r d) * ∑ j, (headNormed (fun j => v33 (ix3 0 r j)) (fun e => v36 (ix2 0 e)) j * v143 (ix3 0 r j)) * v148 (ix2 j d) := by
  unfold_payloads
  pointwise
  refine congrArg (v155 (ix3 0 r d) * ·) (Finset.sum_congr rfl fun j _ => ?_)
  refine congrArg (· * v143 (ix3 0 r j) * v148 (ix2 j d)) ?_
  split
  · rename_i h
    have e := headNormed_of (fun j => v33 (ix3 0 r j)) (fun e => v36 (ix2 0 e)) j 0 ⟨j.val, h⟩ (by show j.val = 128 * 0 + j.val; omega)
    simp only [Fin.val_zero, Nat.mul_zero, Nat.zero_add] at e
    exact e.symm
  split
  · exact (headNormed_of (fun j => v33 (ix3 0 r j)) (fun e => v36 (ix2 0 e)) j 1 ⟨j.val - 128, by omega⟩ (by show j.val = 128 * 1 + (j.val - 128); omega)).symm
  split
  · exact (headNormed_of (fun j => v33 (ix3 0 r j)) (fun e => v36 (ix2 0 e)) j 2 ⟨j.val - 128 - 128, by omega⟩ (by show j.val = 128 * 2 + (j.val - 128 - 128); omega)).symm
  split
  · exact (headNormed_of (fun j => v33 (ix3 0 r j)) (fun e => v36 (ix2 0 e)) j 3 ⟨j.val - 128 - 128 - 128, by omega⟩ (by show j.val = 128 * 3 + (j.val - 128 - 128 - 128); omega)).symm
  split
  · exact (headNormed_of (fun j => v33 (ix3 0 r j)) (fun e => v36 (ix2 0 e)) j 4 ⟨j.val - 128 - 128 - 128 - 128, by omega⟩ (by show j.val = 128 * 4 + (j.val - 128 - 128 - 128 - 128); omega)).symm
  split
  · exact (headNormed_of (fun j => v33 (ix3 0 r j)) (fun e => v36 (ix2 0 e)) j 5 ⟨j.val - 128 - 128 - 128 - 128 - 128, by omega⟩ (by show j.val = 128 * 5 + (j.val - 128 - 128 - 128 - 128 - 128); omega)).symm
  split
  · exact (headNormed_of (fun j => v33 (ix3 0 r j)) (fun e => v36 (ix2 0 e)) j 6 ⟨j.val - 128 - 128 - 128 - 128 - 128 - 128, by omega⟩ (by show j.val = 128 * 6 + (j.val - 128 - 128 - 128 - 128 - 128 - 128); omega)).symm
  · exact (headNormed_of (fun j => v33 (ix3 0 r j)) (fun e => v36 (ix2 0 e)) j 7 ⟨j.val - 128 - 128 - 128 - 128 - 128 - 128 - 128, by omega⟩ (by show j.val = 128 * 7 + (j.val - 128 - 128 - 128 - 128 - 128 - 128 - 128); omega)).symm

end Cert.Kernel3Ideal.Merge

end
-- ==== Proof.Merge.Rows.lean ====
module

public import proofs.«01_k».proof.Proof.Merge.Payloads

@[expose] public section

set_option maxRecDepth 16384

noncomputable section

/-! # The two row blocks that a point of the merge stores -/

namespace Cert.Kernel3Ideal.Merge

open Cert.Kernel3Ideal Cert.Kernel3Ideal.Gen Cert.Layer
open Idealize.ShloMosaic Idealize.ShloMosaic.TcCoe

/-- A tile's part of the position table, from eight rows of the row table and the column table. -/
def position' (a : Vec Ideal S8x512 .f32) (b : Vec Ideal S64x512 .f32) (r : Fin 512) (d : Fin 1024) : EReal :=
  if h : d.val < 512 then a (ix2 ⟨r.val / 64, by omega⟩ ⟨d.val, h⟩) else b (ix2 ⟨r.val % 64, by omega⟩ ⟨d.val - 512, by omega⟩)

variable (v0 v6 v12 v18 : Vec Ideal S1x1x512x128 .f32) (v3 v9 v15 v21 : Vec Ideal S1x128x128 .bf16) (v25 : Vec Ideal S1x512x512 .bf16) (v30 : Vec Ideal S512x1024 .bf16)
  (v33 v143 v151 v155 : Vec Ideal S1x512x1024 .bf16) (v36 : Vec Ideal S1x128 .f32) (v148 v183 : Vec Ideal S1024x1024 .bf16)
  (v160 : Vec Ideal S1x1x3072 .f32) (v163 : Vec Ideal S1x512x1024 .f32) (v167 : Vec Ideal S8x512 .f32) (v169 : Vec Ideal S64x512 .f32) (v208 v212 : Vec Ideal S1x1024 .f32)
  (mix : Fin 4 → Fin 128 → EReal) (w : Fin 4 → Fin 128 → Fin 128 → EReal)

theorem first_rows (r : Fin 256) (d : Fin 1024)
    (h0 : ∀ c, v0 (ix4 0 0 ⟨r.val, by omega⟩ c) = mix 0 c) (h1 : ∀ c, v6 (ix4 0 0 ⟨r.val, by omega⟩ c) = mix 1 c) (h2 : ∀ c, v12 (ix4 0 0 ⟨r.val, by omega⟩ c) = mix 2 c) (h3 : ∀ c, v18 (ix4 0 0 ⟨r.val, by omega⟩ c) = mix 3 c)
    (g0 : ∀ c e, v3 (ix3 0 c e) = w 0 c e) (g1 : ∀ c e, v9 (ix3 0 c e) = w 1 c e) (g2 : ∀ c e, v15 (ix3 0 c e) = w 2 c e) (g3 : ∀ c e, v21 (ix3 0 c e) = w 3 c e) :
    k0_pay22 (k0_pay20 (k0_pay15 (k0_pay3 (k0_pay2 v0 v3 v6 v9 v12 v15 v18 v21) v25 v30) v151) (k0_pay16 (k0_pay4 v33) (k0_pay5 v36) (k0_pay6 v33 v36) (k0_pay7 v33 v36) (k0_pay10 (k0_pay5 v36) (k0_pay8 v33) (k0_pay9 v33)) (k0_pay11 (k0_pay4 v33) (k0_pay5 v36)) (k0_pay12 (k0_pay4 v33) (k0_pay5 v36)) (k0_pay13 (k0_pay4 v33) (k0_pay5 v36)) (k0_pay14 (k0_pay4 v33)) v143 v148 v155) v160 v163 v167 v169 v183)
        (k0_pay21 (k0_pay15 (k0_pay3 (k0_pay2 v0 v3 v6 v9 v12 v15 v18 v21) v25 v30) v151) (k0_pay16 (k0_pay4 v33) (k0_pay5 v36) (k0_pay6 v33 v36) (k0_pay7 v33 v36) (k0_pay10 (k0_pay5 v36) (k0_pay8 v33) (k0_pay9 v33)) (k0_pay11 (k0_pay4 v33) (k0_pay5 v36)) (k0_pay12 (k0_pay4 v33) (k0_pay5 v36)) (k0_pay13 (k0_pay4 v33) (k0_pay5 v36)) (k0_pay14 (k0_pay4 v33)) v143 v148 v155) v160 v163 v167 v169 v183) (FloatOps.ofBits .f32 0x44800000#32) v208 v212 (ix3 0 r d)
      = normed (merged (fun d => v163 (ix3 0 ⟨r.val, by omega⟩ d) + position' v167 v169 ⟨r.val, by omega⟩ d) (fun d => v160 (ix3 0 0 ⟨2048 + d.val, by omega⟩)) mix w (fun i => v25 (ix3 0 ⟨r.val, by omega⟩ i))
        (fun j => v33 (ix3 0 ⟨r.val, by omega⟩ j)) (fun j => v143 (ix3 0 ⟨r.val, by omega⟩ j)) (fun j => v151 (ix3 0 ⟨r.val, by omega⟩ j)) (fun j => v155 (ix3 0 ⟨r.val, by omega⟩ j)) (fun i j => v30 (ix2 i j))
        (fun e => v36 (ix2 0 e)) (fun i j => v148 (ix2 i j)) (fun j d => v183 (ix2 j d))) d * v208 (ix2 0 d) + v212 (ix2 0 d) := by
  rw [scaled_apply, squares_apply]
  simp only [centred_apply, token_apply, fourier'_apply, fourier_apply, delta_apply, mixed_apply _ _ _ _ _ _ _ _ mix w _ h0 h1 h2 h3 g0 g1 g2 g3]
  rfl

theorem last_rows (r : Fin 256) (d : Fin 1024)
    (h0 : ∀ c, v0 (ix4 0 0 ⟨256 + r.val, by omega⟩ c) = mix 0 c) (h1 : ∀ c, v6 (ix4 0 0 ⟨256 + r.val, by omega⟩ c) = mix 1 c) (h2 : ∀ c, v12 (ix4 0 0 ⟨256 + r.val, by omega⟩ c) = mix 2 c) (h3 : ∀ c, v18 (ix4 0 0 ⟨256 + r.val, by omega⟩ c) = mix 3 c)
    (g0 : ∀ c e, v3 (ix3 0 c e) = w 0 c e) (g1 : ∀ c e, v9 (ix3 0 c e) = w 1 c e) (g2 : ∀ c e, v15 (ix3 0 c e) = w 2 c e) (g3 : ∀ c e, v21 (ix3 0 c e) = w 3 c e) :
    k0_pay1 (k0_pay23 (k0_pay17 v160) (k0_pay18 v163 v167 v169) (k0_pay19 (k0_pay15 (k0_pay3 (k0_pay2 v0 v3 v6 v9 v12 v15 v18 v21) v25 v30) v151) (k0_pay16 (k0_pay4 v33) (k0_pay5 v36) (k0_pay6 v33 v36) (k0_pay7 v33 v36) (k0_pay10 (k0_pay5 v36) (k0_pay8 v33) (k0_pay9 v33)) (k0_pay11 (k0_pay4 v33) (k0_pay5 v36)) (k0_pay12 (k0_pay4 v33) (k0_pay5 v36)) (k0_pay13 (k0_pay4 v33) (k0_pay5 v36)) (k0_pay14 (k0_pay4 v33)) v143 v148 v155)) v183)
        (k0_pay24 (k0_pay17 v160) (k0_pay18 v163 v167 v169) (k0_pay19 (k0_pay15 (k0_pay3 (k0_pay2 v0 v3 v6 v9 v12 v15 v18 v21) v25 v30) v151) (k0_pay16 (k0_pay4 v33) (k0_pay5 v36) (k0_pay6 v33 v36) (k0_pay7 v33 v36) (k0_pay10 (k0_pay5 v36) (k0_pay8 v33) (k0_pay9 v33)) (k0_pay11 (k0_pay4 v33) (k0_pay5 v36)) (k0_pay12 (k0_pay4 v33) (k0_pay5 v36)) (k0_pay13 (k0_pay4 v33) (k0_pay5 v36)) (k0_pay14 (k0_pay4 v33)) v143 v148 v155)) v183) v208 v212 (ix3 0 r d)
      = normed (merged (fun d => v163 (ix3 0 ⟨256 + r.val, by omega⟩ d) + position' v167 v169 ⟨256 + r.val, by omega⟩ d) (fun d => v160 (ix3 0 0 ⟨2048 + d.val, by omega⟩)) mix w (fun i => v25 (ix3 0 ⟨256 + r.val, by omega⟩ i))
        (fun j => v33 (ix3 0 ⟨256 + r.val, by omega⟩ j)) (fun j => v143 (ix3 0 ⟨256 + r.val, by omega⟩ j)) (fun j => v151 (ix3 0 ⟨256 + r.val, by omega⟩ j)) (fun j => v155 (ix3 0 ⟨256 + r.val, by omega⟩ j)) (fun i j => v30 (ix2 i j))
        (fun e => v36 (ix2 0 e)) (fun i j => v148 (ix2 i j)) (fun j d => v183 (ix2 j d))) d * v208 (ix2 0 d) + v212 (ix2 0 d) := by
  rw [scaled'_apply, root'_apply]
  simp only [centred'_apply, gate_apply, sum_apply, token_apply, fourier'_apply, fourier_apply, delta_apply, mixed_apply _ _ _ _ _ _ _ _ mix w _ h0 h1 h2 h3 g0 g1 g2 g3]
  rfl

end Cert.Kernel3Ideal.Merge

end
-- ==== Proof.Merge.Tile.lean ====
module

public import proofs.«01_k».proof.Proof.Gen.Kernel3Ideal.Value
public import proofs.«01_k».proof.Proof.Merge.Rows
public import Idealize.ShloMosaic.Lib.Pipeline.ValueKit

@[expose] public section

set_option maxRecDepth 16384

noncomputable section

/-! # One point's block of the merge -/

namespace Cert.Kernel3Ideal.Merge

open Cert.Kernel3Ideal Cert.Kernel3Ideal.Gen Cert.Layer
open Idealize.ShloMosaic Idealize.ShloMosaic.TcCoe Idealize.ShloMosaic.Tactic

variable (m : (ℓ : Loc nD τ sig) → Buf (Elt Ideal) ℓ) (c : Dev nD)

theorem coord_0 (t : Fin cfg0.N) : (grid0.coords t 0).val = t.val / 8 := by
  have h : (grid0.coords t 0).val = t.val / 8 % 8 := Pipeline.Grid.coords_val t 0 (by decide) rfl
  have hN : t.val < 64 := lt_of_lt_of_eq t.isLt (show cfg0.N = 64 from N_0)
  rw [h]; omega

theorem coord_1 (t : Fin cfg0.N) : (grid0.coords t 1).val = t.val % 8 := by
  have h : (grid0.coords t 1).val = t.val / 1 % 8 := Pipeline.Grid.coords_val t 1 (by decide) rfl
  rw [h, Nat.div_one]

theorem rows_in (t : Fin cfg0.N) (a : Fin 2) :
    (![BitVec.toNat (Scalar.indexCast (Scalar.muli (BitVec.ofNat 32 (grid0.coords t 1).val) 8#32)), 0] : Fin 2 → ℕ) a + S8x512.size a ≤ S64x512.size a := by
  rw [coord_1]
  have h8 : t.val % 8 < 8 := Nat.mod_lt _ (by decide)
  generalize t.val % 8 = q at h8 ⊢
  interval_cases q <;> fin_cases a <;> decide

/-- The eight rows of the row table that a point loads. -/
def rowsAt (t : Fin cfg0.N) : Vec Ideal S8x512 .f32 :=
  View.ld (iblk m c 2 t) (Rect.unit (s := S64x512) ![BitVec.toNat (Scalar.indexCast (Scalar.muli (BitVec.ofNat 32 (grid0.coords t 1).val) 8#32)), 0] S8x512.size (rows_in t))

theorem rowsAt_apply (t : Fin cfg0.N) (i : Fin 8) (j : Fin 512) : rowsAt m c t (ix2 i j) = iblk m c 2 t (ix2 ⟨8 * (t.val % 8) + i.val, by omega⟩ j) :=
  View.ld_unit_apply_of (iblk m c 2 t) _ _ _ (ix2 i j) _ fun a => by
    fin_cases a
    · show 8 * (t.val % 8) + i.val = BitVec.toNat (Scalar.indexCast (Scalar.muli (BitVec.ofNat 32 (grid0.coords t 1).val) 8#32)) + i.val
      rw [coord_1]
      have h8 : t.val % 8 < 8 := Nat.mod_lt _ (by decide)
      generalize t.val % 8 = q at h8 ⊢
      interval_cases q <;> rfl
    · exact (Nat.zero_add _).symm

theorem tile_eq (t : Fin cfg0.N) (r : Fin 512) (d : Fin 1024) : outsAt0 m c t (ix3 0 r d)
    = normed (merged (fun d => (show EReal from iblk m c 0 t (ix3 0 r d)) + position' (rowsAt m c t) (iblk m c 3 t) r d) (fun d => iblk m c 1 t (ix3 0 0 ⟨2048 + d.val, by omega⟩))
        (fun g e => iblk m c 4 t (ix4 0 g r e)) (fun g e f => iblk m c 10 t (ix3 g e f)) (fun i => iblk m c 5 t (ix3 0 r i))
        (fun j => iblk m c 6 t (ix3 0 r j)) (fun j => iblk m c 7 t (ix3 0 r j)) (fun j => iblk m c 8 t (ix3 0 r j)) (fun j => iblk m c 9 t (ix3 0 r j)) (fun i j => iblk m c 11 t (ix2 i j))
        (fun e => iblk m c 14 t (ix2 0 e)) (fun i j => iblk m c 12 t (ix2 i j)) (fun j d => iblk m c 13 t (ix2 j d))) d * iblk m c 15 t (ix2 0 d) + iblk m c 16 t (ix2 0 d) := by
  unfold outsAt0 out0_A_17
  rw [View.read_writes_eq_canon _ _ _ (cover0_A_17 c _ _ _ _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread]
  have z2 : (![0, 0] : Fin 2 → ℕ) = fun _ => 0 := funext fun a => by fin_cases a <;> rfl
  have z3 : (![0, 0, 0] : Fin 3 → ℕ) = fun _ => 0 := funext fun a => by fin_cases a <;> rfl
  have w0 : ∀ h, View.ld (iblk m c 0 t) (Rect.unit (s := S1x512x1024) ![0, 0, 0] S1x512x1024.size h) = iblk m c 0 t := fun h => View.ld_unit_zero (S := S1x512x1024) z3 h _
  have w1 : ∀ h, View.ld (iblk m c 1 t) (Rect.unit (s := S1x1x3072) ![0, 0, 0] S1x1x3072.size h) = iblk m c 1 t := fun h => View.ld_unit_zero (S := S1x1x3072) z3 h _
  have w3 : ∀ h, View.ld (iblk m c 3 t) (Rect.unit (s := S64x512) ![0, 0] S64x512.size h) = iblk m c 3 t := fun h => View.ld_unit_zero (S := S64x512) z2 h _
  have w5 : ∀ h, View.ld (iblk m c 5 t) (Rect.unit (s := S1x512x512) ![0, 0, 0] S1x512x512.size h) = iblk m c 5 t := fun h => View.ld_unit_zero (S := S1x512x512) z3 h _
  have w6 : ∀ h, View.ld (iblk m c 6 t) (Rect.unit (s := S1x512x1024) ![0, 0, 0] S1x512x1024.size h) = iblk m c 6 t := fun h => View.ld_unit_zero (S := S1x512x1024) z3 h _
  have w7 : ∀ h, View.ld (iblk m c 7 t) (Rect.unit (s := S1x512x1024) ![0, 0, 0] S1x512x1024.size h) = iblk m c 7 t := fun h => View.ld_unit_zero (S := S1x512x1024) z3 h _
  have w8 : ∀ h, View.ld (iblk m c 8 t) (Rect.unit (s := S1x512x1024) ![0, 0, 0] S1x512x1024.size h) = iblk m c 8 t := fun h => View.ld_unit_zero (S := S1x512x1024) z3 h _
  have w9 : ∀ h, View.ld (iblk m c 9 t) (Rect.unit (s := S1x512x1024) ![0, 0, 0] S1x512x1024.size h) = iblk m c 9 t := fun h => View.ld_unit_zero (S := S1x512x1024) z3 h _
  have w11 : ∀ h, View.ld (iblk m c 11 t) (Rect.unit (s := S512x1024) ![0, 0] S512x1024.size h) = iblk m c 11 t := fun h => View.ld_unit_zero (S := S512x1024) z2 h _
  have w12 : ∀ h, View.ld (iblk m c 12 t) (Rect.unit (s := S1024x1024) ![0, 0] S1024x1024.size h) = iblk m c 12 t := fun h => View.ld_unit_zero (S := S1024x1024) z2 h _
  have w13 : ∀ h, View.ld (iblk m c 13 t) (Rect.unit (s := S1024x1024) ![0, 0] S1024x1024.size h) = iblk m c 13 t := fun h => View.ld_unit_zero (S := S1024x1024) z2 h _
  have w14 : ∀ h, View.ld (iblk m c 14 t) (Rect.unit (s := S1x128) ![0, 0] S1x128.size h) = iblk m c 14 t := fun h => View.ld_unit_zero (S := S1x128) z2 h _
  have w15 : ∀ h, View.ld (iblk m c 15 t) (Rect.unit (s := S1x1024) ![0, 0] S1x1024.size h) = iblk m c 15 t := fun h => View.ld_unit_zero (S := S1x1024) z2 h _
  have w16 : ∀ h, View.ld (iblk m c 16 t) (Rect.unit (s := S1x1024) ![0, 0] S1x1024.size h) = iblk m c 16 t := fun h => View.ld_unit_zero (S := S1x1024) z2 h _
  simp only [w0, w1, w3, w5, w6, w7, w8, w9, w11, w12, w13, w14, w15, w16]
  canon_tiles x h
  · obtain rfl : r = ⟨256 + (x 1).val, Nat.add_lt_add_left (show (x 1).val < 256 from (x 1).isLt) 256⟩ := Fin.ext h1
    obtain rfl : d = x 2 := Fin.ext h2
    rw [show x = ix3 0 (x 1) (x 2) from funext fun a => by fin_cases a <;> [exact Subsingleton.elim (α := Fin 1) _ _; rfl; rfl]]
    exact (last_rows _ _ _ _ _ _ _ _ _ _ _ _ _ _ _ _ _ _ _ _ _ _ _ (fun g e => iblk m c 4 t (ix4 0 g ⟨256 + (x 1).val, Nat.add_lt_add_left (show (x 1).val < 256 from (x 1).isLt) 256⟩ e)) (fun g e f => iblk m c 10 t (ix3 g e f)) (x 1) (x 2)
      (fun e => View.ld_unit_apply_of (iblk m c 4 t) _ _ _ (ix4 0 0 _ e) (ix4 0 0 _ e) fun a => by fin_cases a <;> simp [ix4])
      (fun e => View.ld_unit_apply_of (iblk m c 4 t) _ _ _ (ix4 0 0 _ e) (ix4 0 1 _ e) fun a => by fin_cases a <;> simp [ix4])
      (fun e => View.ld_unit_apply_of (iblk m c 4 t) _ _ _ (ix4 0 0 _ e) (ix4 0 2 _ e) fun a => by fin_cases a <;> simp [ix4])
      (fun e => View.ld_unit_apply_of (iblk m c 4 t) _ _ _ (ix4 0 0 _ e) (ix4 0 3 _ e) fun a => by fin_cases a <;> simp [ix4])
      (fun e f => View.ld_unit_apply_of (iblk m c 10 t) _ _ _ (ix3 0 e f) (ix3 0 e f) fun a => by fin_cases a <;> simp [ix3])
      (fun e f => View.ld_unit_apply_of (iblk m c 10 t) _ _ _ (ix3 0 e f) (ix3 1 e f) fun a => by fin_cases a <;> simp [ix3])
      (fun e f => View.ld_unit_apply_of (iblk m c 10 t) _ _ _ (ix3 0 e f) (ix3 2 e f) fun a => by fin_cases a <;> simp [ix3])
      (fun e f => View.ld_unit_apply_of (iblk m c 10 t) _ _ _ (ix3 0 e f) (ix3 3 e f) fun a => by fin_cases a <;> simp [ix3]))
  · obtain rfl : r = ⟨(x 1).val, lt_trans (show (x 1).val < 256 from (x 1).isLt) (by decide)⟩ := Fin.ext h1
    obtain rfl : d = x 2 := Fin.ext h2
    rw [show x = ix3 0 (x 1) (x 2) from funext fun a => by fin_cases a <;> [exact Subsingleton.elim (α := Fin 1) _ _; rfl; rfl]]
    exact (first_rows _ _ _ _ _ _ _ _ _ _ _ _ _ _ _ _ _ _ _ _ _ _ _ (fun g e => iblk m c 4 t (ix4 0 g ⟨(x 1).val, lt_trans (show (x 1).val < 256 from (x 1).isLt) (by decide)⟩ e)) (fun g e f => iblk m c 10 t (ix3 g e f)) (x 1) (x 2)
      (fun e => View.ld_unit_apply_of (iblk m c 4 t) _ _ _ (ix4 0 0 _ e) (ix4 0 0 _ e) fun a => by fin_cases a <;> simp [ix4])
      (fun e => View.ld_unit_apply_of (iblk m c 4 t) _ _ _ (ix4 0 0 _ e) (ix4 0 1 _ e) fun a => by fin_cases a <;> simp [ix4])
      (fun e => View.ld_unit_apply_of (iblk m c 4 t) _ _ _ (ix4 0 0 _ e) (ix4 0 2 _ e) fun a => by fin_cases a <;> simp [ix4])
      (fun e => View.ld_unit_apply_of (iblk m c 4 t) _ _ _ (ix4 0 0 _ e) (ix4 0 3 _ e) fun a => by fin_cases a <;> simp [ix4])
      (fun e f => View.ld_unit_apply_of (iblk m c 10 t) _ _ _ (ix3 0 e f) (ix3 0 e f) fun a => by fin_cases a <;> simp [ix3])
      (fun e f => View.ld_unit_apply_of (iblk m c 10 t) _ _ _ (ix3 0 e f) (ix3 1 e f) fun a => by fin_cases a <;> simp [ix3])
      (fun e f => View.ld_unit_apply_of (iblk m c 10 t) _ _ _ (ix3 0 e f) (ix3 2 e f) fun a => by fin_cases a <;> simp [ix3])
      (fun e f => View.ld_unit_apply_of (iblk m c 10 t) _ _ _ (ix3 0 e f) (ix3 3 e f) fun a => by fin_cases a <;> simp [ix3]))

end Cert.Kernel3Ideal.Merge

end
-- ==== Proof.Merge.Blocks.lean ====
module

public import proofs.«01_k».proof.Proof.Gen.Kernel3Ideal.Value
public import proofs.«01_k».proof.Proof.Merge.Tile
public import proofs.«01_k».proof.Proof.Layer.Position
public import Idealize.ShloMosaic.Lib.StableHlo.RunRead

@[expose] public section

set_option maxRecDepth 16384

noncomputable section

/-! # What a point of the merge holds of the arguments -/

namespace Cert.Kernel3Ideal.Merge

open Cert.Kernel3Ideal Cert.Kernel3Ideal.Gen Cert.Layer
open Idealize.ShloMosaic Idealize.ShloMosaic.TcCoe Idealize.ShloMosaic.Tactic

variable (m : (ℓ : Loc nD τ sig) → Buf (Elt Ideal) ℓ) (c : Dev nD)

/-- The position table as the call's host part builds it. -/
abbrev table : FVec Ideal S64x512 .f32 :=
  posTab bcast_S_S256 bcast_S64_S64x1_0 bcast_S256_S1x256_1 bcast_S64x1_S64x256_0_1 bcast_S1x256_S64x256_0_1 concatenates_S64x256_S64x256_S64x512_d1

theorem V_main_v21 : V m c main_v21 = table := by
  simp only [V, hostOps0, List.flatten_cons, List.flatten_nil, List.append_nil, List.cons_append, List.nil_append, StableHlo.reshape,
    StableHlo.TRef.binary, StableHlo.TRef.nullary, StableHlo.TRef.ternary, StableHlo.TRef.unary, StableHlo.TRef.toBuf, StableHlo.TRef.ofBuf, cast_eq]
  after_reads_simp
  refine cat_two ?_ ?_
  all_goals
    after_reads_simp
    rfl

theorem V_main_v24 : V m c main_v24 = table := by
  simp only [V, hostOps0, List.flatten_cons, List.flatten_nil, List.append_nil, List.cons_append, List.nil_append, StableHlo.reshape,
    StableHlo.TRef.binary, StableHlo.TRef.nullary, StableHlo.TRef.ternary, StableHlo.TRef.unary, StableHlo.TRef.toBuf, StableHlo.TRef.ofBuf, cast_eq]
  after_reads_simp
  refine cat_two ?_ ?_
  all_goals
    after_reads_simp
    rfl

theorem V_main_v26 : V m c main_v26 = truncf (F := Ideal) .bf16 (m ((c : Thread nD τ).loc main_arg8) : FVec Ideal S4x128x128 .f32) bitsLt_bf16_f32 := by
  simp only [V, hostOps0, List.flatten_cons, List.flatten_nil, List.append_nil, List.cons_append, List.nil_append, StableHlo.reshape,
    StableHlo.TRef.binary, StableHlo.TRef.nullary, StableHlo.TRef.ternary, StableHlo.TRef.unary, StableHlo.TRef.toBuf, StableHlo.TRef.ofBuf, cast_eq]
  after_reads_simp

theorem V_main_v27 : V m c main_v27 = truncf (F := Ideal) .bf16 (m ((c : Thread nD τ).loc main_arg9) : FVec Ideal S512x1024 .f32) bitsLt_bf16_f32 := by
  simp only [V, hostOps0, List.flatten_cons, List.flatten_nil, List.append_nil, List.cons_append, List.nil_append, StableHlo.reshape,
    StableHlo.TRef.binary, StableHlo.TRef.nullary, StableHlo.TRef.ternary, StableHlo.TRef.unary, StableHlo.TRef.toBuf, StableHlo.TRef.ofBuf, cast_eq]
  after_reads_simp

theorem V_main_v28 : V m c main_v28 = truncf (F := Ideal) .bf16 (m ((c : Thread nD τ).loc main_arg10) : FVec Ideal S1024x1024 .f32) bitsLt_bf16_f32 := by
  simp only [V, hostOps0, List.flatten_cons, List.flatten_nil, List.append_nil, List.cons_append, List.nil_append, StableHlo.reshape,
    StableHlo.TRef.binary, StableHlo.TRef.nullary, StableHlo.TRef.ternary, StableHlo.TRef.unary, StableHlo.TRef.toBuf, StableHlo.TRef.ofBuf, cast_eq]
  after_reads_simp

theorem V_main_v29 : V m c main_v29 = truncf (F := Ideal) .bf16 (m ((c : Thread nD τ).loc main_arg11) : FVec Ideal S1024x1024 .f32) bitsLt_bf16_f32 := by
  simp only [V, hostOps0, List.flatten_cons, List.flatten_nil, List.append_nil, List.cons_append, List.nil_append, StableHlo.reshape,
    StableHlo.TRef.binary, StableHlo.TRef.nullary, StableHlo.TRef.ternary, StableHlo.TRef.unary, StableHlo.TRef.toBuf, StableHlo.TRef.ofBuf, cast_eq]
  after_reads_simp

theorem V_main_v25 : V m c main_v25 = shapeCast S16x1x3072 (m ((c : Thread nD τ).loc main_arg1) : FVec Ideal S16x3072 .f32) shapeCasts_S16x3072_S16x1x3072 := by
  simp only [V, hostOps0, List.flatten_cons, List.flatten_nil, List.append_nil, List.cons_append, List.nil_append, StableHlo.reshape,
    StableHlo.TRef.binary, StableHlo.TRef.nullary, StableHlo.TRef.ternary, StableHlo.TRef.unary, StableHlo.TRef.toBuf, StableHlo.TRef.ofBuf, cast_eq]
  after_reads_simp
  rfl

theorem V_main_v30 : V m c main_v30 = shapeCast S1x128 (m ((c : Thread nD τ).loc main_arg12) : FVec Ideal S128 .f32) shapeCasts_S128_S1x128 := by
  simp only [V, hostOps0, List.flatten_cons, List.flatten_nil, List.append_nil, List.cons_append, List.nil_append, StableHlo.reshape,
    StableHlo.TRef.binary, StableHlo.TRef.nullary, StableHlo.TRef.ternary, StableHlo.TRef.unary, StableHlo.TRef.toBuf, StableHlo.TRef.ofBuf, cast_eq]
  after_reads_simp
  rfl

theorem V_main_v31 : V m c main_v31 = shapeCast S1x1024 (m ((c : Thread nD τ).loc main_arg13) : FVec Ideal S1024 .f32) shapeCasts_S1024_S1x1024 := by
  simp only [V, hostOps0, List.flatten_cons, List.flatten_nil, List.append_nil, List.cons_append, List.nil_append, StableHlo.reshape,
    StableHlo.TRef.binary, StableHlo.TRef.nullary, StableHlo.TRef.ternary, StableHlo.TRef.unary, StableHlo.TRef.toBuf, StableHlo.TRef.ofBuf, cast_eq]
  after_reads_simp
  rfl

theorem V_main_v32 : V m c main_v32 = shapeCast S1x1024 (m ((c : Thread nD τ).loc main_arg14) : FVec Ideal S1024 .f32) shapeCasts_S1024_S1x1024 := by
  simp only [V, hostOps0, List.flatten_cons, List.flatten_nil, List.append_nil, List.cons_append, List.nil_append, StableHlo.reshape,
    StableHlo.TRef.binary, StableHlo.TRef.nullary, StableHlo.TRef.ternary, StableHlo.TRef.unary, StableHlo.TRef.toBuf, StableHlo.TRef.ofBuf, cast_eq]
  after_reads_simp
  rfl

theorem index_0 (t : Fin cfg0.N) : win0_0.index t = ![t.val / 8, t.val % 8, 0] := by
  show cc0_transform_0 (grid0.coords t) = _
  unfold cc0_transform_0
  have hN : t.val < 64 := lt_of_lt_of_eq t.isLt (show cfg0.N = 64 from N_0)
  simp only [coord_0, coord_1, BitVec.toNat_ofNat]
  rw [Nat.mod_eq_of_lt (by omega), Nat.mod_eq_of_lt (a := t.val % 8) (by omega)]

theorem index_1 (t : Fin cfg0.N) : win0_1.index t = ![t.val / 8, 0, 0] := by
  show cc0_transform_1 (grid0.coords t) = _
  unfold cc0_transform_1
  have hN : t.val < 64 := lt_of_lt_of_eq t.isLt (show cfg0.N = 64 from N_0)
  simp only [coord_0, coord_1, BitVec.toNat_ofNat]
  rw [Nat.mod_eq_of_lt (by omega)]

theorem index_2 (t : Fin cfg0.N) : win0_2.index t = ![0, 0] := by
  show cc0_transform_2 (grid0.coords t) = _
  unfold cc0_transform_2
  rfl

theorem index_3 (t : Fin cfg0.N) : win0_3.index t = ![0, 0] := by
  show cc0_transform_3 (grid0.coords t) = _
  unfold cc0_transform_3
  rfl

theorem index_4 (t : Fin cfg0.N) : win0_4.index t = ![t.val / 8, 0, t.val % 8, 0] := by
  show cc0_transform_4 (grid0.coords t) = _
  unfold cc0_transform_4
  have hN : t.val < 64 := lt_of_lt_of_eq t.isLt (show cfg0.N = 64 from N_0)
  simp only [coord_0, coord_1, BitVec.toNat_ofNat]
  rw [Nat.mod_eq_of_lt (by omega), Nat.mod_eq_of_lt (a := t.val % 8) (by omega)]

theorem index_5 (t : Fin cfg0.N) : win0_5.index t = ![t.val / 8, t.val % 8, 0] := by
  show cc0_transform_5 (grid0.coords t) = _
  unfold cc0_transform_5
  have hN : t.val < 64 := lt_of_lt_of_eq t.isLt (show cfg0.N = 64 from N_0)
  simp only [coord_0, coord_1, BitVec.toNat_ofNat]
  rw [Nat.mod_eq_of_lt (by omega), Nat.mod_eq_of_lt (a := t.val % 8) (by omega)]

theorem index_6 (t : Fin cfg0.N) : win0_6.index t = ![t.val / 8, t.val % 8, 0] := by
  show cc0_transform_6 (grid0.coords t) = _
  unfold cc0_transform_6
  have hN : t.val < 64 := lt_of_lt_of_eq t.isLt (show cfg0.N = 64 from N_0)
  simp only [coord_0, coord_1, BitVec.toNat_ofNat]
  rw [Nat.mod_eq_of_lt (by omega), Nat.mod_eq_of_lt (a := t.val % 8) (by omega)]

theorem index_7 (t : Fin cfg0.N) : win0_7.index t = ![t.val / 8, t.val % 8, 0] := by
  show cc0_transform_7 (grid0.coords t) = _
  unfold cc0_transform_7
  have hN : t.val < 64 := lt_of_lt_of_eq t.isLt (show cfg0.N = 64 from N_0)
  simp only [coord_0, coord_1, BitVec.toNat_ofNat]
  rw [Nat.mod_eq_of_lt (by omega), Nat.mod_eq_of_lt (a := t.val % 8) (by omega)]

theorem index_8 (t : Fin cfg0.N) : win0_8.index t = ![t.val / 8, t.val % 8, 0] := by
  show cc0_transform_8 (grid0.coords t) = _
  unfold cc0_transform_8
  have hN : t.val < 64 := lt_of_lt_of_eq t.isLt (show cfg0.N = 64 from N_0)
  simp only [coord_0, coord_1, BitVec.toNat_ofNat]
  rw [Nat.mod_eq_of_lt (by omega), Nat.mod_eq_of_lt (a := t.val % 8) (by omega)]

theorem index_9 (t : Fin cfg0.N) : win0_9.index t = ![t.val / 8, t.val % 8, 0] := by
  show cc0_transform_9 (grid0.coords t) = _
  unfold cc0_transform_9
  have hN : t.val < 64 := lt_of_lt_of_eq t.isLt (show cfg0.N = 64 from N_0)
  simp only [coord_0, coord_1, BitVec.toNat_ofNat]
  rw [Nat.mod_eq_of_lt (by omega), Nat.mod_eq_of_lt (a := t.val % 8) (by omega)]

theorem index_10 (t : Fin cfg0.N) : win0_10.index t = ![0, 0, 0] := by
  show cc0_transform_10 (grid0.coords t) = _
  unfold cc0_transform_10
  rfl

theorem index_11 (t : Fin cfg0.N) : win0_11.index t = ![0, 0] := by
  show cc0_transform_11 (grid0.coords t) = _
  unfold cc0_transform_11
  rfl

theorem index_12 (t : Fin cfg0.N) : win0_12.index t = ![0, 0] := by
  show cc0_transform_12 (grid0.coords t) = _
  unfold cc0_transform_12
  rfl

theorem index_13 (t : Fin cfg0.N) : win0_13.index t = ![0, 0] := by
  show cc0_transform_13 (grid0.coords t) = _
  unfold cc0_transform_13
  rfl

theorem index_14 (t : Fin cfg0.N) : win0_14.index t = ![0, 0] := by
  show cc0_transform_14 (grid0.coords t) = _
  unfold cc0_transform_14
  rfl

theorem index_15 (t : Fin cfg0.N) : win0_15.index t = ![0, 0] := by
  show cc0_transform_15 (grid0.coords t) = _
  unfold cc0_transform_15
  rfl

theorem index_16 (t : Fin cfg0.N) : win0_16.index t = ![0, 0] := by
  show cc0_transform_16 (grid0.coords t) = _
  unfold cc0_transform_16
  rfl

theorem index_17 (t : Fin cfg0.N) : win0_17.index t = ![t.val / 8, t.val % 8, 0] := by
  show cc0_transform_17 (grid0.coords t) = _
  unfold cc0_transform_17
  have hN : t.val < 64 := lt_of_lt_of_eq t.isLt (show cfg0.N = 64 from N_0)
  simp only [coord_0, coord_1, BitVec.toNat_ofNat]
  rw [Nat.mod_eq_of_lt (by omega), Nat.mod_eq_of_lt (a := t.val % 8) (by omega)]

theorem batch_lt (t : Fin cfg0.N) : t.val / 8 < 8 := by
  have hN : t.val < 64 := lt_of_lt_of_eq t.isLt (show cfg0.N = 64 from N_0)
  omega

/-- A point's batch, and its row of the token axis. -/
def batchOf (t : Fin cfg0.N) : Fin 8 := ⟨t.val / 8, batch_lt t⟩
def rowOf (t : Fin cfg0.N) (r : Fin 512) : Fin 4096 := ⟨t.val % 8 * 512 + r.val, by omega⟩

theorem block_0 (t : Fin cfg0.N) (r : Fin 512) (d : Fin 1024) : iblk m c 0 t (ix3 0 r d) = m ((c : Thread nD τ).loc main_arg0) (ix3 (batchOf t) (rowOf t r) d) := by
  refine Eq.trans ?_ (congrFun (V_main_arg0 m c) (ix3 (batchOf t) (rowOf t r) d))
  blk_simp [iblk]
  refine congrArg (V m c main_arg0) (funext fun x => Fin.ext ?_)
  fin_cases x <;> blk_simp [index_0]
  · rfl
  · rfl
  · rfl

theorem block_5 (t : Fin cfg0.N) (r : Fin 512) (d : Fin 512) : iblk m c 5 t (ix3 0 r d) = m ((c : Thread nD τ).loc main_arg3) (ix3 (batchOf t) (rowOf t r) d) := by
  refine Eq.trans ?_ (congrFun (V_main_arg3 m c) (ix3 (batchOf t) (rowOf t r) d))
  blk_simp [iblk]
  refine congrArg (V m c main_arg3) (funext fun x => Fin.ext ?_)
  fin_cases x <;> blk_simp [index_5]
  · rfl
  · rfl
  · rfl

theorem block_6 (t : Fin cfg0.N) (r : Fin 512) (d : Fin 1024) : iblk m c 6 t (ix3 0 r d) = m ((c : Thread nD τ).loc main_arg4) (ix3 (batchOf t) (rowOf t r) d) := by
  refine Eq.trans ?_ (congrFun (V_main_arg4 m c) (ix3 (batchOf t) (rowOf t r) d))
  blk_simp [iblk]
  refine congrArg (V m c main_arg4) (funext fun x => Fin.ext ?_)
  fin_cases x <;> blk_simp [index_6]
  · rfl
  · rfl
  · rfl

theorem block_7 (t : Fin cfg0.N) (r : Fin 512) (d : Fin 1024) : iblk m c 7 t (ix3 0 r d) = m ((c : Thread nD τ).loc main_arg5) (ix3 (batchOf t) (rowOf t r) d) := by
  refine Eq.trans ?_ (congrFun (V_main_arg5 m c) (ix3 (batchOf t) (rowOf t r) d))
  blk_simp [iblk]
  refine congrArg (V m c main_arg5) (funext fun x => Fin.ext ?_)
  fin_cases x <;> blk_simp [index_7]
  · rfl
  · rfl
  · rfl

theorem block_8 (t : Fin cfg0.N) (r : Fin 512) (d : Fin 1024) : iblk m c 8 t (ix3 0 r d) = m ((c : Thread nD τ).loc main_arg6) (ix3 (batchOf t) (rowOf t r) d) := by
  refine Eq.trans ?_ (congrFun (V_main_arg6 m c) (ix3 (batchOf t) (rowOf t r) d))
  blk_simp [iblk]
  refine congrArg (V m c main_arg6) (funext fun x => Fin.ext ?_)
  fin_cases x <;> blk_simp [index_8]
  · rfl
  · rfl
  · rfl

theorem block_9 (t : Fin cfg0.N) (r : Fin 512) (d : Fin 1024) : iblk m c 9 t (ix3 0 r d) = m ((c : Thread nD τ).loc main_arg7) (ix3 (batchOf t) (rowOf t r) d) := by
  refine Eq.trans ?_ (congrFun (V_main_arg7 m c) (ix3 (batchOf t) (rowOf t r) d))
  blk_simp [iblk]
  refine congrArg (V m c main_arg7) (funext fun x => Fin.ext ?_)
  fin_cases x <;> blk_simp [index_9]
  · rfl
  · rfl
  · rfl

theorem block_4 (t : Fin cfg0.N) (g : Fin 4) (r : Fin 512) (d : Fin 128) : iblk m c 4 t (ix4 0 g r d) = m ((c : Thread nD τ).loc main_arg2) (ix4 (batchOf t) g (rowOf t r) d) := by
  refine Eq.trans ?_ (congrFun (V_main_arg2 m c) (ix4 (batchOf t) g (rowOf t r) d))
  blk_simp [iblk]
  refine congrArg (V m c main_arg2) (funext fun x => Fin.ext ?_)
  fin_cases x <;> blk_simp [index_4]
  · rfl
  · rfl
  · rfl
  · rfl

theorem block_1 (t : Fin cfg0.N) (d : Fin 3072) : iblk m c 1 t (ix3 0 0 d) = m ((c : Thread nD τ).loc main_arg1) (ix2 ⟨t.val / 8, by have := batch_lt t; omega⟩ d) := by
  have e : shapeCast S16x1x3072 (m ((c : Thread nD τ).loc main_arg1) : FVec Ideal S16x3072 .f32) shapeCasts_S16x3072_S16x1x3072 (ix3 ⟨t.val / 8, by have := batch_lt t; omega⟩ 0 d)
      = m ((c : Thread nD τ).loc main_arg1) (ix2 ⟨t.val / 8, by have := batch_lt t; omega⟩ d) := by pointwise
  refine Eq.trans ?_ ((congrFun (V_main_v25 m c) _).trans e)
  blk_simp [iblk]
  refine congrArg (V m c main_v25) (funext fun x => Fin.ext ?_)
  fin_cases x <;> blk_simp [index_1] <;> rfl

theorem block_2 (t : Fin cfg0.N) (i : Fin 64) (j : Fin 512) : iblk m c 2 t (ix2 i j) = table (ix2 i j) := by
  refine Eq.trans ?_ (congrFun (V_main_v21 m c) (ix2 i j))
  blk_simp [iblk]
  refine congrArg (V m c main_v21) (funext fun x => Fin.ext ?_)
  fin_cases x <;> blk_simp [index_2] <;> rfl

theorem block_3 (t : Fin cfg0.N) (i : Fin 64) (j : Fin 512) : iblk m c 3 t (ix2 i j) = table (ix2 i j) := by
  refine Eq.trans ?_ (congrFun (V_main_v24 m c) (ix2 i j))
  blk_simp [iblk]
  refine congrArg (V m c main_v24) (funext fun x => Fin.ext ?_)
  fin_cases x <;> blk_simp [index_3] <;> rfl

theorem block_10 (t : Fin cfg0.N) (g : Fin 4) (i j : Fin 128) : iblk m c 10 t (ix3 g i j) = m ((c : Thread nD τ).loc main_arg8) (ix3 g i j) := by
  refine Eq.trans ?_ (congrFun (V_main_v26 m c) (ix3 g i j))
  blk_simp [iblk]
  refine congrArg (V m c main_v26) (funext fun x => Fin.ext ?_)
  fin_cases x <;> blk_simp [index_10] <;> rfl

theorem block_11 (t : Fin cfg0.N) (i : Fin 512) (j : Fin 1024) : iblk m c 11 t (ix2 i j) = m ((c : Thread nD τ).loc main_arg9) (ix2 i j) := by
  refine Eq.trans ?_ (congrFun (V_main_v27 m c) (ix2 i j))
  blk_simp [iblk]
  refine congrArg (V m c main_v27) (funext fun x => Fin.ext ?_)
  fin_cases x <;> blk_simp [index_11] <;> rfl

theorem block_12 (t : Fin cfg0.N) (i : Fin 1024) (j : Fin 1024) : iblk m c 12 t (ix2 i j) = m ((c : Thread nD τ).loc main_arg10) (ix2 i j) := by
  refine Eq.trans ?_ (congrFun (V_main_v28 m c) (ix2 i j))
  blk_simp [iblk]
  refine congrArg (V m c main_v28) (funext fun x => Fin.ext ?_)
  fin_cases x <;> blk_simp [index_12] <;> rfl

theorem block_13 (t : Fin cfg0.N) (i : Fin 1024) (j : Fin 1024) : iblk m c 13 t (ix2 i j) = m ((c : Thread nD τ).loc main_arg11) (ix2 i j) := by
  refine Eq.trans ?_ (congrFun (V_main_v29 m c) (ix2 i j))
  blk_simp [iblk]
  refine congrArg (V m c main_v29) (funext fun x => Fin.ext ?_)
  fin_cases x <;> blk_simp [index_13] <;> rfl

theorem block_14 (t : Fin cfg0.N) (j : Fin 128) : iblk m c 14 t (ix2 0 j) = m ((c : Thread nD τ).loc main_arg12) (ix1 j) := by
  have e : shapeCast S1x128 (m ((c : Thread nD τ).loc main_arg12) : FVec Ideal S128 .f32) shapeCasts_S128_S1x128 (ix2 0 j) = m ((c : Thread nD τ).loc main_arg12) (ix1 j) := by pointwise
  refine Eq.trans ?_ ((congrFun (V_main_v30 m c) _).trans e)
  blk_simp [iblk]
  refine congrArg (V m c main_v30) (funext fun x => Fin.ext ?_)
  fin_cases x <;> blk_simp [index_14] <;> rfl

theorem block_15 (t : Fin cfg0.N) (j : Fin 1024) : iblk m c 15 t (ix2 0 j) = m ((c : Thread nD τ).loc main_arg13) (ix1 j) := by
  have e : shapeCast S1x1024 (m ((c : Thread nD τ).loc main_arg13) : FVec Ideal S1024 .f32) shapeCasts_S1024_S1x1024 (ix2 0 j) = m ((c : Thread nD τ).loc main_arg13) (ix1 j) := by pointwise
  refine Eq.trans ?_ ((congrFun (V_main_v31 m c) _).trans e)
  blk_simp [iblk]
  refine congrArg (V m c main_v31) (funext fun x => Fin.ext ?_)
  fin_cases x <;> blk_simp [index_15] <;> rfl

theorem block_16 (t : Fin cfg0.N) (j : Fin 1024) : iblk m c 16 t (ix2 0 j) = m ((c : Thread nD τ).loc main_arg14) (ix1 j) := by
  have e : shapeCast S1x1024 (m ((c : Thread nD τ).loc main_arg14) : FVec Ideal S1024 .f32) shapeCasts_S1024_S1x1024 (ix2 0 j) = m ((c : Thread nD τ).loc main_arg14) (ix1 j) := by pointwise
  refine Eq.trans ?_ ((congrFun (V_main_v32 m c) _).trans e)
  blk_simp [iblk]
  refine congrArg (V m c main_v32) (funext fun x => Fin.ext ?_)
  fin_cases x <;> blk_simp [index_16] <;> rfl

end Cert.Kernel3Ideal.Merge

end
-- ==== Proof.Merge.Out.lean ====
module

public import proofs.«01_k».proof.Proof.Merge.Blocks
public import Idealize.ShloMosaic.Lib.Pipeline.Value

@[expose] public section

set_option maxRecDepth 16384

noncomputable section

/-! # The merge's result array -/

namespace Cert.Kernel3Ideal.Merge

open Cert.Kernel3Ideal Cert.Kernel3Ideal.Gen Cert.Layer
open Idealize.ShloMosaic Idealize.ShloMosaic.TcCoe Idealize.ShloMosaic.Tactic
open Idealize.ShloMosaic.Pipeline (Dat)

variable (m : (ℓ : Loc nD τ sig) → Buf (Elt Ideal) ℓ) (ρ : Dev nD → PrngReg) (c : Dev nD)

/-- The result at a batch, token and channel. -/
def resultAt (b : Fin 8) (n : Fin 4096) (d : Fin 1024) : EReal :=
  normed (merged (fun d => (show EReal from m ((c : Thread nD τ).loc main_arg0) (ix3 b n d)) + position (fun i j => table (ix2 i j)) n.val d)
      (fun d => m ((c : Thread nD τ).loc main_arg1) (ix2 ⟨b.val, by omega⟩ ⟨2048 + d.val, by omega⟩))
      (fun g e => m ((c : Thread nD τ).loc main_arg2) (ix4 b g n e)) (fun g e f => m ((c : Thread nD τ).loc main_arg8) (ix3 g e f))
      (fun i => m ((c : Thread nD τ).loc main_arg3) (ix3 b n i)) (fun j => m ((c : Thread nD τ).loc main_arg4) (ix3 b n j))
      (fun j => m ((c : Thread nD τ).loc main_arg5) (ix3 b n j)) (fun j => m ((c : Thread nD τ).loc main_arg6) (ix3 b n j))
      (fun j => m ((c : Thread nD τ).loc main_arg7) (ix3 b n j)) (fun i j => m ((c : Thread nD τ).loc main_arg9) (ix2 i j))
      (fun e => m ((c : Thread nD τ).loc main_arg12) (ix1 e)) (fun i j => m ((c : Thread nD τ).loc main_arg10) (ix2 i j))
      (fun j d => m ((c : Thread nD τ).loc main_arg11) (ix2 j d))) d
    * (show EReal from m ((c : Thread nD τ).loc main_arg13) (ix1 d)) + (show EReal from m ((c : Thread nD τ).loc main_arg14) (ix1 d))

def result : FVec Ideal S8x4096x1024 .f32 := fun y => resultAt m c (y 0) (y 1) (y 2)

/-- A tile's part of the position table is the table's at the tile's tokens. -/
theorem position_at (t : Fin cfg0.N) (r : Fin 512) (d : Fin 1024) :
    position' (rowsAt m c t) (iblk m c 3 t) r d = position (fun i j => table (ix2 i j)) (rowOf t r).val d := by
  unfold position' position rowOf
  split
  · refine (rowsAt_apply m c t _ _).trans ((block_2 m c t _ _).trans (congrArg (fun i => table (ix2 i _)) (Fin.ext ?_)))
    show 8 * (t.val % 8) + r.val / 64 = (t.val % 8 * 512 + r.val) / 64 % 64
    omega
  · refine (block_3 m c t _ _).trans (congrArg (fun i => table (ix2 i _)) (Fin.ext ?_))
    show r.val % 64 = (t.val % 8 * 512 + r.val) % 64
    omega

theorem tile_value (t : Fin cfg0.N) (r : Fin 512) (d : Fin 1024) : outsAt0 m c t (ix3 0 r d) = resultAt m c (batchOf t) (rowOf t r) d := by
  rw [tile_eq]
  simp only [block_0, block_1, block_4, block_5, block_6, block_7, block_8, block_9, block_10, block_11, block_12, block_13, block_14, block_15, block_16, position_at]
  rfl

theorem out_eq : (dats m 0 c).arrAt 17 cfg0.N = result m c := by
  refine Dat.arrAt_eq_of_covers _ 17 _ (by decide +kernel) fun t hf y => ?_
  have e := tile_value m c t (y 1) (y 2)
  blk_simp
  refine Eq.trans (b := outsAt0 m c t (ix3 0 (y 1) (y 2))) ?_ (e.trans ?_)
  · rw [after0_17]
    exact congrArg (outsAt0 m c t) (funext fun a => by fin_cases a <;> [exact Subsingleton.elim (α := Fin 1) _ _; rfl; rfl])
  · unfold result
    refine congr (congr (congrArg (resultAt m c) (Fin.ext ?_)) (Fin.ext ?_)) (Fin.ext ?_) <;> blk_simp [index_17] <;> rfl

/-- After the run the result array holds `result`, and the arguments are as they were. -/
theorem run_value : θ_run defs (onTc (τ := τ) (main (F := Ideal))) ⟨m, fun _ => 0, ρ⟩
    (fun r => ∀ c : Dev nD, r.2.mem ((c : Thread nD τ).loc main_v33) = result m c) :=
  (θ_run defs _ _).mono (fun _ h c => (h c).1.trans (out_eq m c)) (Value.run_blocks m ρ)

end Cert.Kernel3Ideal.Merge

end
-- ==== Proof.Merge.Reference.lean ====
module

public import proofs.«01_k».proof.Proof.Gen.Reference3Ideal.Run
public import proofs.«01_k».proof.Proof.Layer.Position
public import Idealize.ShloMosaic.Lib.Pointwise

@[expose] public section

set_option maxRecDepth 16384

noncomputable section

/-! # The merge's reference, element by element -/

namespace Cert.Reference3Ideal.Merge

open Cert.Reference3Ideal Cert.Reference3Ideal.Gen Cert.Layer
open Idealize.ShloMosaic Idealize.ShloMosaic.TcCoe

/-- The position table as the reference builds it. -/
abbrev table : FVec Ideal S64x512 .f32 :=
  posTab bcast_S_S256 bcast_S64_S64x1_0 bcast_S256_S1x256_1 bcast_S64x1_S64x256_0_1 bcast_S1x256_S64x256_0_1 concatenates_S64x256_S64x256_S64x512_d1

/-- The tokens with the position table added. -/
def tokens (x : FVec Ideal S8x4096x1024 .f32) (T : FVec Ideal S64x512 .f32) : FVec Ideal S8x4096x1024 .f32 :=
  addf x (broadcastInDim S8x4096x1024 ![0, 1, 2] bcast_S1x4096x1024_S8x4096x1024_0_1_2 (broadcastInDim S1x4096x1024 ![1, 2] bcast_S4096x1024_S1x4096x1024_1_2
    (shapeCast S4096x1024 (concatenate S64x64x1024 2
      [⟨S64x64x512, broadcastInDim S64x64x512 ![0, 1, 2] bcast_S64x1x512_S64x64x512_0_1_2 (broadcastInDim S64x1x512 ![0, 2] bcast_S64x512_S64x1x512_0_2 T)⟩,
        ⟨S64x64x512, broadcastInDim S64x64x512 ![0, 1, 2] bcast_S1x64x512_S64x64x512_0_1_2 (broadcastInDim S1x64x512 ![1, 2] bcast_S64x512_S1x64x512_1_2 T)⟩]
      concatenates_S64x64x512_S64x64x512_S64x64x1024_d2) shapeCasts_S64x64x1024_S4096x1024)))

/-- The transform's branch, projected. -/
def fourier (mix : FVec Ideal S8x4x4096x128 .f32) (w : FVec Ideal S4x128x128 .f32) (fg : FVec Ideal S8x4096x512 .bf16) (wf : FVec Ideal S512x1024 .f32) : FVec Ideal S8x4096x1024 .f32 :=
  Host.dotGeneral dot_S8x4096x512_S512x1024_S8x4096x1024_2_0_01_1_n_n none
    (mulf (shapeCast S8x4096x512 (transpose S8x4096x4x128 [2, 3, 0, 1] (Host.dotGeneral dot_S4x128x128_S8x4x4096x128_S4x128x8x4096_1_3_2_02_0_1 none w mix)
      transposes_S4x128x8x4096_S8x4096x4x128_2_3_0_1) shapeCasts_S8x4096x4x128_S8x4096x512) (extf .f32 fg bitsLt_bf16_f32)) wf

/-- The delta rule's output, by heads, each normalised. -/
def heads (o : FVec Ideal S8x4096x8x128 .f32) (nw : FVec Ideal S128 .f32) : FVec Ideal S8x4096x8x128 .f32 :=
  mulf (mulf o (broadcastInDim S8x4096x8x128 ![0, 1, 2, 3] bcast_S8x4096x8x1_S8x4096x8x128_0_1_2_3 (Host.rsqrt (addf
      (Host.divf (broadcastInDim S8x4096x8x1 ![0, 1, 2] bcast_S8x4096x8_S8x4096x8x1_0_1_2 (Host.reduceAdd (mulf o o) (constant S_ .f32 0x00000000#32) reducesTo_S8x4096x8x128_S8x4096x8_d3 h_S_))
        (broadcastInDim S8x4096x8x1 ![] bcast_S_S8x4096x8x1 (constant S_ .f32 0x43000000#32)))
      (broadcastInDim S8x4096x8x1 ![] bcast_S_S8x4096x8x1 (constant S_ .f32 0x358637BD#32))))))
    (broadcastInDim S8x4096x8x128 ![0, 1, 2, 3] bcast_S1x1x1x128_S8x4096x8x128_0_1_2_3 (broadcastInDim S1x1x1x128 ![3] bcast_S128_S1x1x1x128_3 nw))

/-- The delta rule's branch, projected. -/
def delta (o sg : FVec Ideal S8x4096x1024 .bf16) (nw : FVec Ideal S128 .f32) (wd : FVec Ideal S1024x1024 .f32) : FVec Ideal S8x4096x1024 .f32 :=
  Host.dotGeneral dot_S8x4096x1024_S1024x1024_S8x4096x1024_2_0_01_1_n_n none
    (mulf (shapeCast S8x4096x1024 (heads (shapeCast S8x4096x8x128 (extf .f32 o bitsLt_bf16_f32) shapeCasts_S8x4096x1024_S8x4096x8x128) nw) shapeCasts_S8x4096x8x128_S8x4096x1024)
      (extf .f32 sg bitsLt_bf16_f32)) wd

/-- The scaled tokens and the gated projection of the merged branches. -/
def residual (x f y : FVec Ideal S8x4096x1024 .f32) (mod : FVec Ideal S16x3072 .f32) (rf rd : FVec Ideal S8x4096x1024 .bf16) (wo : FVec Ideal S1024x1024 .f32) : FVec Ideal S8x4096x1024 .f32 :=
  addf (mulf (broadcastInDim S8x4096x1024 ![] bcast_S_S8x4096x1024 (constant S_ .f32 0x3F9837F0#32)) x)
    (mulf (broadcastInDim S8x4096x1024 ![0, 1, 2] bcast_S8x1x1024_S8x4096x1024_0_1_2 (broadcastInDim S8x1x1024 ![0, 2] bcast_S8x1024_S8x1x1024_0_2
        (extractStridedSlice S8x1024 ![0, 2048] mod slices_S16x3072_S8x1024_0_2048)))
      (Host.dotGeneral dot_S8x4096x1024_S1024x1024_S8x4096x1024_2_0_01_1_n_n none
        (addf (mulf (extf .f32 rf bitsLt_bf16_f32) f) (mulf (extf .f32 rd bitsLt_bf16_f32) y)) wo))

def means (z : FVec Ideal S8x4096x1024 .f32) : FVec Ideal S8x4096x1 .f32 :=
  Host.divf (broadcastInDim S8x4096x1 ![0, 1] bcast_S8x4096_S8x4096x1_0_1 (Host.reduceAdd z (constant S_ .f32 0x00000000#32) reducesTo_S8x4096x1024_S8x4096_d2 h_S_))
    (broadcastInDim S8x4096x1 ![] bcast_S_S8x4096x1 (constant S_ .f32 0x44800000#32))

def less (z : FVec Ideal S8x4096x1024 .f32) : FVec Ideal S8x4096x1024 .f32 :=
  subf z (broadcastInDim S8x4096x1024 ![0, 1, 2] bcast_S8x4096x1_S8x4096x1024_0_1_2 (means z))

/-- The rows normalised. -/
def rows (z : FVec Ideal S8x4096x1024 .f32) : FVec Ideal S8x4096x1024 .f32 :=
  mulf (less z) (broadcastInDim S8x4096x1024 ![0, 1, 2] bcast_S8x4096x1_S8x4096x1024_0_1_2 (Host.rsqrt (addf (means (mulf (less z) (less z)))
    (broadcastInDim S8x4096x1 ![] bcast_S_S8x4096x1 (constant S_ .f32 0x358637BD#32)))))

/-- The rows normalised, scaled and shifted. -/
def scaled (z : FVec Ideal S8x4096x1024 .f32) (g b : FVec Ideal S1024 .f32) : FVec Ideal S8x4096x1024 .f32 :=
  addf (mulf (rows z) (broadcastInDim S8x4096x1024 ![0, 1, 2] bcast_S1x1x1024_S8x4096x1024_0_1_2 (broadcastInDim S1x1x1024 ![2] bcast_S1024_S1x1x1024_2 g)))
    (broadcastInDim S8x4096x1024 ![0, 1, 2] bcast_S1x1x1024_S8x4096x1024_0_1_2 (broadcastInDim S1x1x1024 ![2] bcast_S1024_S1x1x1024_2 b))

variable (m : (ℓ : Loc nD τ sig) → Buf (Elt Ideal) ℓ) (c : Dev nD)

theorem result_eq : Value.res_out0 m c = scaled (residual (tokens (m ((c.tc : Thread nD τ).loc main_arg0)) table)
    (fourier (m ((c.tc : Thread nD τ).loc main_arg2)) (m ((c.tc : Thread nD τ).loc main_arg8)) (m ((c.tc : Thread nD τ).loc main_arg3)) (m ((c.tc : Thread nD τ).loc main_arg9)))
    (delta (m ((c.tc : Thread nD τ).loc main_arg4)) (m ((c.tc : Thread nD τ).loc main_arg5)) (m ((c.tc : Thread nD τ).loc main_arg12)) (m ((c.tc : Thread nD τ).loc main_arg10)))
    (m ((c.tc : Thread nD τ).loc main_arg1)) (m ((c.tc : Thread nD τ).loc main_arg6)) (m ((c.tc : Thread nD τ).loc main_arg7)) (m ((c.tc : Thread nD τ).loc main_arg11)))
    (m ((c.tc : Thread nD τ).loc main_arg13)) (m ((c.tc : Thread nD τ).loc main_arg14)) := by
  show Value.res_main_v95 m c = _
  unfold Value.res_main_v95
  rfl

theorem tokens_apply (x : FVec Ideal S8x4096x1024 .f32) (T : FVec Ideal S64x512 .f32) (b : Fin 8) (n : Fin 4096) (d : Fin 1024) :
    tokens x T (ix3 b n d) = x (ix3 b n d) + position (fun i j => T (ix2 i j)) n.val d := by
  unfold tokens
  pointwise
  have h : n.val / 64 % 64 = n.val / 64 := Nat.mod_eq_of_lt (by omega)
  simp only [position, h]

theorem fourier_apply (mix : FVec Ideal S8x4x4096x128 .f32) (w : FVec Ideal S4x128x128 .f32) (fg : FVec Ideal S8x4096x512 .bf16) (wf : FVec Ideal S512x1024 .f32)
    (b : Fin 8) (n : Fin 4096) (d : Fin 1024) : fourier mix w fg wf (ix3 b n d)
      = ∑ i, (mixedRow (fun g e => mix (ix4 b g n e)) (fun g e f => w (ix3 g e f)) i * fg (ix3 b n i)) * wf (ix2 i d) := by
  unfold fourier
  pointwise
  refine Finset.sum_congr rfl fun i _ => congrArg (fun q => q * fg (ix3 b n i) * wf (ix2 i d)) ?_
  exact Finset.sum_congr rfl fun e _ => mul_comm (G := EReal) _ _

theorem heads_apply (o : FVec Ideal S8x4096x8x128 .f32) (nw : FVec Ideal S128 .f32) (b : Fin 8) (n : Fin 4096) (h : Fin 8) (e : Fin 128) :
    heads o nw (ix4 b n h e) = o (ix4 b n h e) * Ideal.rsqrt (mean 0x43000000#32 (fun e : Fin 128 => o (ix4 b n h e) * o (ix4 b n h e)) + num 0x358637BD#32) * nw (ix1 e) := by
  unfold heads
  pointwise
  rfl

theorem delta_apply (o sg : FVec Ideal S8x4096x1024 .bf16) (nw : FVec Ideal S128 .f32) (wd : FVec Ideal S1024x1024 .f32) (b : Fin 8) (n : Fin 4096) (d : Fin 1024) :
    delta o sg nw wd (ix3 b n d) = ∑ i, (headNormed (fun j => o (ix3 b n j)) (fun e => nw (ix1 e)) i * sg (ix3 b n i)) * wd (ix2 i d) := by
  unfold delta
  pointwise
  refine Finset.sum_congr rfl fun i _ => congrArg (fun q => q * sg (ix3 b n i) * wd (ix2 i d)) ?_
  rw [heads_apply]
  pointwise
  simp only [headNormed, Nat.mul_comm (i.val / 128) 128]
  rfl

theorem residual_apply (x f y : FVec Ideal S8x4096x1024 .f32) (mod : FVec Ideal S16x3072 .f32) (rf rd : FVec Ideal S8x4096x1024 .bf16) (wo : FVec Ideal S1024x1024 .f32)
    (b : Fin 8) (n : Fin 4096) (d : Fin 1024) : residual x f y mod rf rd wo (ix3 b n d)
      = num 0x3F9837F0#32 * x (ix3 b n d) + mod (ix2 ⟨b.val, by omega⟩ ⟨2048 + d.val, by omega⟩)
        * ∑ j, (rf (ix3 b n j) * f (ix3 b n j) + rd (ix3 b n j) * y (ix3 b n j)) * wo (ix2 j d) := by
  unfold residual
  pointwise

theorem means_apply (z : FVec Ideal S8x4096x1024 .f32) (b : Fin 8) (n : Fin 4096) : means z (ix3 b n 0) = mean 0x44800000#32 (fun d => z (ix3 b n d)) := by
  unfold means
  pointwise
  rfl

theorem less_apply (z : FVec Ideal S8x4096x1024 .f32) (b : Fin 8) (n : Fin 4096) (d : Fin 1024) : less z (ix3 b n d) = centred (fun d => z (ix3 b n d)) d := by
  unfold less
  pointwise
  rw [means_apply]
  rfl

theorem rows_apply (z : FVec Ideal S8x4096x1024 .f32) (b : Fin 8) (n : Fin 4096) (d : Fin 1024) : rows z (ix3 b n d) = normed (fun d => z (ix3 b n d)) d := by
  unfold rows
  pointwise
  rw [means_apply]
  pointwise
  simp only [less_apply]
  rfl

theorem scaled_apply (z : FVec Ideal S8x4096x1024 .f32) (g b : FVec Ideal S1024 .f32) (i : Fin 8) (n : Fin 4096) (d : Fin 1024) :
    scaled z g b (ix3 i n d) = normed (fun d => z (ix3 i n d)) d * g (ix1 d) + b (ix1 d) := by
  unfold scaled
  pointwise
  rw [rows_apply]

/-- The reference's result at a batch, token and channel. -/
theorem result_apply (b : Fin 8) (n : Fin 4096) (d : Fin 1024) : Value.res_out0 m c (ix3 b n d)
    = normed (merged (fun d => (show EReal from m ((c.tc : Thread nD τ).loc main_arg0) (ix3 b n d)) + position (fun i j => table (ix2 i j)) n.val d)
      (fun d => m ((c.tc : Thread nD τ).loc main_arg1) (ix2 ⟨b.val, by omega⟩ ⟨2048 + d.val, by omega⟩))
      (fun g e => m ((c.tc : Thread nD τ).loc main_arg2) (ix4 b g n e)) (fun g e f => m ((c.tc : Thread nD τ).loc main_arg8) (ix3 g e f))
      (fun i => m ((c.tc : Thread nD τ).loc main_arg3) (ix3 b n i)) (fun j => m ((c.tc : Thread nD τ).loc main_arg4) (ix3 b n j))
      (fun j => m ((c.tc : Thread nD τ).loc main_arg5) (ix3 b n j)) (fun j => m ((c.tc : Thread nD τ).loc main_arg6) (ix3 b n j))
      (fun j => m ((c.tc : Thread nD τ).loc main_arg7) (ix3 b n j)) (fun i j => m ((c.tc : Thread nD τ).loc main_arg9) (ix2 i j))
      (fun e => m ((c.tc : Thread nD τ).loc main_arg12) (ix1 e)) (fun i j => m ((c.tc : Thread nD τ).loc main_arg10) (ix2 i j))
      (fun j d => m ((c.tc : Thread nD τ).loc main_arg11) (ix2 j d))) d
    * (show EReal from m ((c.tc : Thread nD τ).loc main_arg13) (ix1 d)) + (show EReal from m ((c.tc : Thread nD τ).loc main_arg14) (ix1 d)) := by
  rw [result_eq, scaled_apply]
  simp only [residual_apply, tokens_apply, fourier_apply, delta_apply]
  rfl

end Cert.Reference3Ideal.Merge

end
-- ==== Proof.Merge.Claims.lean ====
module

public import proofs.«01_k».proof.Proof.Merge.Out
public import proofs.«01_k».proof.Proof.Merge.Reference
public import proofs.«01_k».proof.Proof.Gen.Kernel3.Frame
public import proofs.«01_k».proof.Defs
public import Idealize.ShloMosaic.Lib.Claim
public import Idealize.ShloMosaic.Lib.Quiescent

@[expose] public section

set_option maxRecDepth 16384

noncomputable section

/-! # The claims about the merge -/

namespace Cert.Merge

open Idealize.ShloMosaic Idealize.ShloMosaic.TcCoe Idealize.SL.Sem

theorem frame_kernel : Cert.quiescent_Kernel3 := fun m ρ _ => Cert.Kernel3.Gen.frame (F := Bits) m ρ

theorem frame_ideal : Cert.quiescent_Kernel3Ideal := fun m ρ _ => Cert.Kernel3Ideal.Gen.frame (F := Ideal) m ρ

theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- On equal arguments the reference's result is the call's. -/
theorem results_eq (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
    (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1))
    (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2))
    (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3))
    (h4 : m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4))
    (h5 : m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5))
    (h6 : m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6))
    (h7 : m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7))
    (h8 : m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8))
    (h9 : m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9))
    (h10 : m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10))
    (h11 : m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11))
    (h12 : m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12))
    (h13 : m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13))
    (h14 : m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)) :
    Cert.Reference3Ideal.Value.res_out0 m' c = Cert.Kernel3Ideal.Merge.result m c := by
  funext y
  rw [eq_ix3 y]
  refine (Cert.Reference3Ideal.Merge.result_apply m' c _ _ _).trans ?_
  simp only [h0, h1, h2, h3, h4, h5, h6, h7, h8, h9, h10, h11, h12, h13, h14]
  rfl

theorem algebraic : Cert.algebraic_Kernel3Ideal_Reference3Ideal := fun m g m' g' _ hm =>
  ⟨fun c => Cert.Kernel3Ideal.Merge.result m c,
    (θ_run Cert.Kernel3Ideal.defs _ _).mono (fun r h c => ⟨(h c).1.trans (Cert.Kernel3Ideal.Merge.out_eq m c), (h c).2⟩) (Cert.Kernel3Ideal.Value.run_blocks m g),
    (θ_run Cert.Reference3Ideal.defs _ _).mono (fun r h c => ⟨(h c).1.trans (by
      obtain ⟨h0, h1, h2, h3, h4, h5, h6, h7, h8, h9, h10, h11, h12, h13, h14⟩ := hm c
      exact results_eq m m' c h0 h1 h2 h3 h4 h5 h6 h7 h8 h9 h10 h11 h12 h13 h14), (h c).2⟩) (Cert.Reference3Ideal.Value.run (F := Ideal) m' g')⟩

end Cert.Merge

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Gen.Kernel2
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal.Value
public import proofs.«01_k».proof.Proof.Gen.Reference3Ideal.Run
public import proofs.«01_k».proof.Proof.Fourier.Claims
public import proofs.«01_k».proof.Proof.InProj.Frames
public import proofs.«01_k».proof.Proof.InProj.Claims
public import proofs.«01_k».proof.Proof.Merge.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_finite.Gen.facts,
  Cert.Fourier.frame_kernel, Cert.Fourier.frame_ideal, Cert.Fourier.frame_ideal_finite, Cert.Fourier.frame_reference,
  Cert.Fourier.frame_reference_finite, Cert.InProj.frame_kernel, Cert.InProj.frame_ideal, Cert.InProj.frame_reference,
  Cert.Merge.frame_kernel, Cert.Merge.frame_ideal, Cert.Merge.frame_reference,
  trivial, Cert.Fourier.algebraic, trivial, Cert.InProj.algebraic, trivial, Cert.Merge.algebraic⟩

end Cert.Proof

end
